-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64x16384 : Shape := ⟨2, ![64, 16384]⟩
abbrev S64x128 : Shape := ⟨2, ![64, 128]⟩
abbrev S64x32768 : Shape := ⟨2, ![64, 32768]⟩
abbrev S64x8192 : Shape := ⟨2, ![64, 8192]⟩
abbrev S64 : Shape := ⟨1, ![64]⟩
abbrev S64x1 : Shape := ⟨2, ![64, 1]⟩
abbrev S_ : Shape := ⟨0, ![]⟩
abbrev S64x4 : Shape := ⟨2, ![64, 4]⟩
abbrev S64x4x1 : Shape := ⟨3, ![64, 4, 1]⟩
abbrev S1 : Shape := ⟨1, ![1]⟩
abbrev S1x1x1 : Shape := ⟨3, ![1, 1, 1]⟩

abbrev nBuf : Space → Nat
  | .hbm => 73
  | .vmem => 19
  | .smem => 0
  | _ => 0

abbrev bufTy : (tb : Table) → Fin (tcTables nBuf tb) → BufTy
  | .hbm, ⟨0, _⟩ => ⟨S64x1000000, .f32⟩
  | .hbm, ⟨1, _⟩ => ⟨S64x1000000, .i16⟩
  | .hbm, ⟨2, _⟩ => ⟨S64x128, .i32⟩
  | .hbm, ⟨3, _⟩ => ⟨S64x128, .i32⟩
  | .hbm, ⟨4, _⟩ => ⟨S64x1, .i32⟩
  | .hbm, ⟨5, _⟩ => ⟨S64, .i32⟩
  | .hbm, ⟨6, _⟩ => ⟨S64x1, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i1⟩
  | .hbm, ⟨12, _⟩ => ⟨S_, .i1⟩
  | .hbm, ⟨13, _⟩ => ⟨S_, .i32⟩
  | .hbm, ⟨14, _⟩ => ⟨S64, .i32⟩
  | .hbm, ⟨15, _⟩ => ⟨S64x128, .i32⟩
  | .hbm, ⟨16, _⟩ => ⟨S64x1, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S64x1, .i32⟩
  | .hbm, ⟨32, _⟩ => ⟨S64x1, .i32⟩
  | .hbm, ⟨33, _⟩ => ⟨S64x1, .i32⟩
  | .hbm, ⟨34, _⟩ => ⟨S64x4, .i32⟩
  | .hbm, ⟨35, _⟩ => ⟨S_, .i32⟩
  | .hbm, ⟨36, _⟩ => ⟨S64x4, .i32⟩
  | .hbm, ⟨37, _⟩ => ⟨S64x4, .i32⟩
  | .hbm, ⟨38, _⟩ => ⟨S_, .i32⟩
  | .hbm, ⟨39, _⟩ => ⟨S64x4, .i32⟩
  | .hbm, ⟨40, _⟩ => ⟨S64x4, .i1⟩
  | .hbm, ⟨41, _⟩ => ⟨S_, .i32⟩
  | .hbm, ⟨42, _⟩ => ⟨S64x4, .i32⟩
  | .hbm, ⟨43, _⟩ => ⟨S64x4, .i32⟩
  | .hbm, ⟨44, _⟩ => ⟨S64x4, .i32⟩
  | .hbm, ⟨45, _⟩ => ⟨S64x4x1, .i32⟩
  | .hbm, ⟨46, _⟩ => ⟨S1, .i32⟩
  | .hbm, ⟨47, _⟩ => ⟨S_, .i32⟩
  | .hbm, ⟨48, _⟩ => ⟨S64x4x1, .i32⟩
  | .hbm, ⟨49, _⟩ => ⟨S64x4x1, .i1⟩
  | .hbm, ⟨50, _⟩ => ⟨S1x1x1, .i32⟩
  | .hbm, ⟨51, _⟩ => ⟨S64x4x1, .i32⟩
  | .hbm, ⟨52, _⟩ => ⟨S64x4x1, .i1⟩
  | .hbm, ⟨53, _⟩ => ⟨S64x4x1, .i1⟩
  | .hbm, ⟨54, _⟩ => ⟨S_, .i1⟩
  | .hbm, ⟨55, _⟩ => ⟨S64x4, .i1⟩
  | .hbm, ⟨56, _⟩ => ⟨S64x4, .f32⟩
  | .hbm, ⟨57, _⟩ => ⟨S_, .f32⟩
  | .hbm, ⟨58, _⟩ => ⟨S64x4, .f32⟩
  | .hbm, ⟨59, _⟩ => ⟨S64x4, .f32⟩
  | .hbm, ⟨60, _⟩ => ⟨S_, .f32⟩
  | .hbm, ⟨61, _⟩ => ⟨S64x128, .f32⟩
  | .hbm, ⟨62, _⟩ => ⟨S_, .i32⟩
  | .hbm, ⟨63, _⟩ => ⟨S1, .i32⟩
  | .hbm, ⟨64, _⟩ => ⟨S64x128, .f32⟩
  | .hbm, ⟨65, _⟩ => ⟨S_, .i32⟩
  | .hbm, ⟨66, _⟩ => ⟨S64x128, .i32⟩
  | .hbm, ⟨67, _⟩ => ⟨S_, .i32⟩
  | .hbm, ⟨68, _⟩ => ⟨S1, .i32⟩
  | .hbm, ⟨69, _⟩ => ⟨S64x128, .i32⟩
  | .hbm, ⟨70, _⟩ => ⟨S64x128, .i32⟩
  | .hbm, ⟨71, _⟩ => ⟨S64x1, .i32⟩
  | .hbm, ⟨72, _⟩ => ⟨S64, .i32⟩
  | .local _ .vmem, ⟨0, _⟩ => ⟨S64x16384, .i16⟩
  | .local _ .vmem, ⟨1, _⟩ => ⟨S64x16384, .i16⟩
  | .local _ .vmem, ⟨2, _⟩ => ⟨S64x32768, .f32⟩
  | .local _ .vmem, ⟨3, _⟩ => ⟨S64x32768, .f32⟩
  | .local _ .vmem, ⟨4, _⟩ => ⟨S64x32768, .i16⟩
  | .local _ .vmem, ⟨5, _⟩ => ⟨S64x32768, .i16⟩
  | .local _ .vmem, ⟨6, _⟩ => ⟨S64x128, .i32⟩
  | .local _ .vmem, ⟨7, _⟩ => ⟨S64x128, .i32⟩
  | .local _ .vmem, ⟨8, _⟩ => ⟨S64x8192, .f32⟩
  | .local _ .vmem, ⟨9, _⟩ => ⟨S64x8192, .i32⟩
  | .local _ .vmem, ⟨10, _⟩ => ⟨S64x8192, .f32⟩
  | .local _ .vmem, ⟨11, _⟩ => ⟨S64x16384, .f32⟩
  | .local _ .vmem, ⟨12, _⟩ => ⟨S64x16384, .f32⟩
  | .local _ .vmem, ⟨13, _⟩ => ⟨S64x128, .i32⟩
  | .local _ .vmem, ⟨14, _⟩ => ⟨S64x16384, .f32⟩
  | .local _ .vmem, ⟨15, _⟩ => ⟨S64x16384, .i32⟩
  | .local _ .vmem, ⟨16, _⟩ => ⟨S64x128, .f32⟩
  | .local _ .vmem, ⟨17, _⟩ => ⟨S64x128, .i32⟩
  | .local _ .vmem, ⟨18, _⟩ => ⟨S64x128, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_case0b0_v11 : Ref sig .tc := ⟨.hbm, 15, rfl⟩
abbrev main_case0b0_v12 : Ref sig .tc := ⟨.hbm, 16, rfl⟩
abbrev main_case0b0_v13 : Ref sig .tc := ⟨.hbm, 17, rfl⟩
abbrev main_case0b1_c_1 : Ref sig .tc := ⟨.hbm, 18, rfl⟩
abbrev main_case0b1_v11 : Ref sig .tc := ⟨.hbm, 19, rfl⟩
abbrev main_case0b1_v12 : Ref sig .tc := ⟨.hbm, 20, rfl⟩
abbrev main_case0b1_c_2 : Ref sig .tc := ⟨.hbm, 21, rfl⟩
abbrev main_case0b1_v13 : Ref sig .tc := ⟨.hbm, 22, rfl⟩
abbrev main_case0b1_v14 : Ref sig .tc := ⟨.hbm, 23, rfl⟩
abbrev main_case0b1_c_3 : Ref sig .tc := ⟨.hbm, 24, rfl⟩
abbrev main_case0b1_v15 : Ref sig .tc := ⟨.hbm, 25, rfl⟩
abbrev main_case0b1_v16 : Ref sig .tc := ⟨.hbm, 26, rfl⟩
abbrev main_case0b1_c_4 : Ref sig .tc := ⟨.hbm, 27, rfl⟩
abbrev main_case0b1_v17 : Ref sig .tc := ⟨.hbm, 28, rfl⟩
abbrev main_case0b1_v18 : Ref sig .tc := ⟨.hbm, 29, rfl⟩
abbrev main_case0b1_v19 : Ref sig .tc := ⟨.hbm, 30, rfl⟩
abbrev main_case0b1_v20 : Ref sig .tc := ⟨.hbm, 31, rfl⟩
abbrev main_case0b1_v21 : Ref sig .tc := ⟨.hbm, 32, rfl⟩
abbrev main_case0b1_v22 : Ref sig .tc := ⟨.hbm, 33, rfl⟩
abbrev main_case0b1_v23 : Ref sig .tc := ⟨.hbm, 34, rfl⟩
abbrev main_case0b1_c_5 : Ref sig .tc := ⟨.hbm, 35, rfl⟩
abbrev main_case0b1_v24 : Ref sig .tc := ⟨.hbm, 36, rfl⟩
abbrev main_case0b1_v25 : Ref sig .tc := ⟨.hbm, 37, rfl⟩
abbrev main_case0b1_call0_c : Ref sig .tc := ⟨.hbm, 38, rfl⟩
abbrev main_case0b1_call0_v0 : Ref sig .tc := ⟨.hbm, 39, rfl⟩
abbrev main_case0b1_call0_v1 : Ref sig .tc := ⟨.hbm, 40, rfl⟩
abbrev main_case0b1_call0_c_0 : Ref sig .tc := ⟨.hbm, 41, rfl⟩
abbrev main_case0b1_call0_v2 : Ref sig .tc := ⟨.hbm, 42, rfl⟩
abbrev main_case0b1_call0_v3 : Ref sig .tc := ⟨.hbm, 43, rfl⟩
abbrev main_case0b1_call0_v4 : Ref sig .tc := ⟨.hbm, 44, rfl⟩
abbrev main_case0b1_call0_v5 : Ref sig .tc := ⟨.hbm, 45, rfl⟩
abbrev main_case0b1_call0_c_1 : Ref sig .tc := ⟨.hbm, 46, rfl⟩
abbrev main_case0b1_call0_c_2 : Ref sig .tc := ⟨.hbm, 47, rfl⟩
abbrev main_case0b1_call0_v6 : Ref sig .tc := ⟨.hbm, 48, rfl⟩
abbrev main_case0b1_call0_v7 : Ref sig .tc := ⟨.hbm, 49, rfl⟩
abbrev main_case0b1_call0_v8 : Ref sig .tc := ⟨.hbm, 50, rfl⟩
abbrev main_case0b1_call0_v9 : Ref sig .tc := ⟨.hbm, 51, rfl⟩
abbrev main_case0b1_call0_v10 : Ref sig .tc := ⟨.hbm, 52, rfl⟩
abbrev main_case0b1_call0_v11 : Ref sig .tc := ⟨.hbm, 53, rfl⟩
abbrev main_case0b1_call0_c_3 : Ref sig .tc := ⟨.hbm, 54, rfl⟩
abbrev main_case0b1_call0_v12 : Ref sig .tc := ⟨.hbm, 55, rfl⟩
abbrev main_case0b1_call0_v13 : Ref sig .tc := ⟨.hbm, 56, rfl⟩
abbrev main_case0b1_call0_cst : Ref sig .tc := ⟨.hbm, 57, rfl⟩
abbrev main_case0b1_call0_v14 : Ref sig .tc := ⟨.hbm, 58, rfl⟩
abbrev main_case0b1_v26 : Ref sig .tc := ⟨.hbm, 59, rfl⟩
abbrev main_case0b1_cst : Ref sig .tc := ⟨.hbm, 60, rfl⟩
abbrev main_case0b1_v27 : Ref sig .tc := ⟨.hbm, 61, rfl⟩
abbrev main_case0b1_c_6 : Ref sig .tc := ⟨.hbm, 62, rfl⟩
abbrev main_case0b1_v28 : Ref sig .tc := ⟨.hbm, 63, rfl⟩
abbrev main_case0b1_v29 : Ref sig .tc := ⟨.hbm, 64, rfl⟩
abbrev main_case0b1_c_7 : Ref sig .tc := ⟨.hbm, 65, rfl⟩
abbrev main_case0b1_v30 : Ref sig .tc := ⟨.hbm, 66, rfl⟩
abbrev main_case0b1_c_8 : Ref sig .tc := ⟨.hbm, 67, rfl⟩
abbrev main_case0b1_v31 : Ref sig .tc := ⟨.hbm, 68, rfl⟩
abbrev main_case0b1_v32 : Ref sig .tc := ⟨.hbm, 69, rfl⟩
abbrev main_case0b1_v33 : Ref sig .tc := ⟨.hbm, 70, rfl⟩
abbrev main_case0b1_v34 : Ref sig .tc := ⟨.hbm, 71, rfl⟩
abbrev main_case0b1_v35 : Ref sig .tc := ⟨.hbm, 72, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_scratch0 : Ref sig .tc := ⟨.vmem, 14, rfl⟩
abbrev cc2_scratch1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc3_sem0_0 : DmaSem sig := 11
abbrev cc3_sem1_0 : DmaSem sig := 12
abbrev cc3_sem2_0 : DmaSem sig := 13

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x16384 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![31], ![false]⟩

def k1_cond2 (i : grid1.Coords) : BitVec 1 :=
  let arg0 : BitVec 32 := BitVec.ofNat 32 (i 0).val
  let c30_i32 : BitVec 32 := 30#32
  let v11 : BitVec 1 := Scalar.cmpi .eq arg0 c30_i32
  let v47 : BitVec 32 := Scalar.extui v11
  let c0_i32_20 : BitVec 32 := 0#32
  let v48 : BitVec 1 := Scalar.cmpi .ne v47 c0_i32_20
  v48

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32768 .i16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![62], ![false]⟩

def k2_cond2 (i : grid2.Coords) : BitVec 1 :=
  let arg0 : BitVec 32 := BitVec.ofNat 32 (i 0).val
  let c61_i32 : BitVec 32 := 61#32
  let v211 : BitVec 1 := Scalar.cmpi .eq arg0 c61_i32
  let v212 : BitVec 32 := Scalar.extui v211
  let c0_i32_51 : BitVec 32 := 0#32
  let v213 : BitVec 1 := Scalar.cmpi .ne v212 c0_i32_51
  v213

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := .none

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x128 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S64x128 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== ReferenceIdeal.lean ====
abbrev S64x1000000 : Shape := ⟨2, ![64, 1000000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 294
  | .vmem => 0
  | .smem => 0
  | _ => 0

abbrev hbmTy0_0 (i : Nat) : BufTy := match i % 128 with
  | 0 => ⟨S64x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S64x1000000, .i64⟩
  | 22 => ⟨S64x1000000, .i64⟩
  | 23 => ⟨S_, .i64⟩
  | 24 => ⟨S64x1000000, .i64⟩
  | 25 => ⟨S64x1000000, .i64⟩
  | 26 => ⟨S_, .i64⟩
  | 27 => ⟨S64x1000000, .i64⟩
  | 28 => ⟨S64x1000000, .i64⟩
  | 29 => ⟨S64x1000000, .i64⟩
  | 30 => ⟨S_, .i64⟩
  | 31 => ⟨S64x1000000, .i64⟩
  | 32 => ⟨S64x1000000, .i64⟩
  | 33 => ⟨S64x1000000, .i32⟩
  | 34 => ⟨S64x1000000, .i32⟩
  | 35 => ⟨S_, .i32⟩
  | 36 => ⟨S_, .i32⟩
  | 37 => ⟨S_, .i32⟩
  | 38 => ⟨S64x1000000, .i32⟩
  | 39 => ⟨S64x1000000, .i32⟩
  | 40 => ⟨S64x1000000, .i32⟩
  | 41 => ⟨S64x1000000, .i32⟩
  | 42 => ⟨S64x1000000, .i32⟩
  | 43 => ⟨S_, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S64x1000000, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S_, .i32⟩
  | 56 => ⟨S64x1000000, .i32⟩
  | 57 => ⟨S64x1000000, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S_, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S64x1000000, .i32⟩
  | 93 => ⟨S64x1000000, .i32⟩
  | 94 => ⟨S64x1000000, .i32⟩
  | 95 => ⟨S_, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S_, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S64x1000000, .i32⟩
  | 8 => ⟨S64x1000000, .i32⟩
  | 9 => ⟨S64x1000000, .i32⟩
  | 10 => ⟨S_, .i32⟩
  | 11 => ⟨S64x1000000, .i32⟩
  | 12 => ⟨S64x1000000, .i32⟩
  | 13 => ⟨S_, .i32⟩
  | 14 => ⟨S64x1000000, .i32⟩
  | 15 => ⟨S64x1000000, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S64x1000000, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S_, .i32⟩
  | 45 => ⟨S64x1000000, .i32⟩
  | 46 => ⟨S64x1000000, .i32⟩
  | 47 => ⟨S_, .i32⟩
  | 48 => ⟨S64x1000000, .i32⟩
  | 49 => ⟨S64x1000000, .i32⟩
  | 50 => ⟨S64x1000000, .i32⟩
  | 51 => ⟨S64x1000000, .i32⟩
  | 52 => ⟨S64x1000000, .i32⟩
  | 53 => ⟨S_, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S_, .i32⟩
  | 88 => ⟨S64x1000000, .i32⟩
  | 89 => ⟨S64x1000000, .i32⟩
  | 90 => ⟨S_, .i32⟩
  | 91 => ⟨S64x1000000, .i32⟩
  | 92 => ⟨S64x1000000, .i32⟩
  | 93 => ⟨S64x1000000, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S_, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S_, .i32⟩
  | 3 => ⟨S64x1000000, .i32⟩
  | 4 => ⟨S64x1000000, .i32⟩
  | 5 => ⟨S_, .i32⟩
  | 6 => ⟨S64x1000000, .i32⟩
  | 7 => ⟨S64x1000000, .i32⟩
  | 8 => ⟨S64x1000000, .f32⟩
  | 9 => ⟨S_, .f32⟩
  | 10 => ⟨S64x1000000, .f32⟩
  | 11 => ⟨S64x1000000, .f32⟩
  | 12 => ⟨S1x1, .f32⟩
  | 13 => ⟨S64x1000000, .f32⟩
  | 14 => ⟨S64x1000000, .f32⟩
  | 15 => ⟨S64x1000000, .f32⟩
  | 16 => ⟨S64x1000000, .f32⟩
  | 17 => ⟨S64x1000000, .f32⟩
  | 18 => ⟨S64x1000000, .f32⟩
  | 19 => ⟨S_, .f32⟩
  | 20 => ⟨S64x1000000, .f32⟩
  | 21 => ⟨S64x1000000, .f32⟩
  | 22 => ⟨S_, .f32⟩
  | 23 => ⟨S64x1000000, .f32⟩
  | 24 => ⟨S64x1000000, .f32⟩
  | 25 => ⟨S_, .f32⟩
  | 26 => ⟨S64x1000000, .f32⟩
  | 27 => ⟨S64x1000000, .f32⟩
  | 28 => ⟨S64x1000000, .f32⟩
  | 29 => ⟨S64x1000000, .f32⟩
  | 30 => ⟨S64x1000000, .f32⟩
  | 31 => ⟨S64x1000000, .f32⟩
  | 32 => ⟨S64x1000000, .f32⟩
  | 33 => ⟨S64x1000000, .i32⟩
  | 34 => ⟨S_, .f32⟩
  | 35 => ⟨S_, .i32⟩
  | 36 => ⟨S64, .f32⟩
  | 37 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_cst_4 : Ref sig .tc := ⟨.hbm, 278, rfl⟩
abbrev main_v10 : Ref sig .tc := ⟨.hbm, 279, rfl⟩
abbrev main_v11 : Ref sig .tc := ⟨.hbm, 280, rfl⟩
abbrev main_cst_5 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_call1_v0 : Ref sig .tc := ⟨.hbm, 289, rfl⟩
abbrev main_call1_cst : Ref sig .tc := ⟨.hbm, 290, rfl⟩
abbrev main_call1_c : Ref sig .tc := ⟨.hbm, 291, rfl⟩
abbrev main_call1_v1_0 : Ref sig .tc := ⟨.hbm, 292, rfl⟩
abbrev main_v19 : Ref sig .tc := ⟨.hbm, 293, rfl⟩

abbrev nD : Nat := 1
abbrev τ : Topo := Topo.v7x

variable {F : FTy → Type} [FloatOps F]
-- ==== Proof.BaseIdeal.lean ====
/-
  What the four calls' proofs share: the resource algebra with one copy of the pipeline library's per call and the arrays
  a call is entered with.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.KitQuiescent
public import Idealize.ShloMosaic.Lib.Pipeline.RegionsLoop
public import Idealize.ShloMosaic.Lib.Pipeline.RegionArrays
public import Idealize.ShloMosaic.Lib.Pipeline.ValueKit
public import Idealize.ShloMosaic.Lib.StableHlo.Run
public import Idealize.ShloMosaic.Lib.Tactic

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg)

variable {F : FTy → Type} [FloatOps F]

/-- One copy of the pipeline library's algebra per call, and the counters. -/
abbrev UU : Type := IProdConst (Fin 4) (UR sig nD τ) × Counters

local notation "𝕄" => MT nD τ sig Unit (Elt F) ℕ UU ℕ

/-- Every TensorCore buffer's contents, per core. -/
abbrev Bufs (F : FTy → Type) : Type := (c : Dev nD) → (b : Ref sig .tc) → Buf (Elt F) ((c : Thread nD τ).loc b)

/-- A scoped buffer at some contents. -/
abbrev ex (c : Dev nD) (b : Ref sig .tc) : sProp 𝕄 :=
  iprop(∃ f : Buf (Elt F) ((c : Thread nD τ).loc b), ((c : Thread nD τ).loc b) ↦{fullShare} f)

/-- The scoped buffers no window of a call stages, as its invariant when the call has no scratch array. -/
abbrev rest {gr W : ℕ} (spec : Fin W → Pipeline.WinSpec sig gr) (c : Dev nD) : sProp 𝕄 :=
  Pipeline.scopedRest (Ix := Unit) (Name := ℕ) (U := UU) (Lvl := ℕ) (Val := Elt F) spec c

/-- No core owes another anything: no level is assigned. -/
abbrev L : GSem nD τ sig → Finset Unit := fun _ => ∅
abbrev lv : GSem nD τ sig → Unit → ℕ := fun _ _ => 0
/-- No call prefetches a table. -/
abbrev adm : (p : Fin 4) → (pcfgs (F := F) p).Adm := fun p => (cfgs p).toPCfg_adm

end Cert.KernelIdeal.Whole

end
-- ==== Proof.PassIdeal.lean ====
/-
  The first pass: one grid point's body as it runs, and the running best score, its step and the running second
  score of every lane as one step from those before.
-/
module

public import proofs.«01_k».proof.Proof.BaseIdeal

@[expose] public section

set_option maxRecDepth 16384

noncomputable section

namespace Cert.KernelIdeal.Pass

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-- The word under which the body resets its three scratch arrays: the grid point is the first. -/
def cond1 (i : grid1.Coords) : BitVec 1 :=
  Scalar.cmpi .ne (Scalar.extui (Scalar.cmpi .eq (BitVec.ofNat 32 (i 0).val) 0#32) : BitVec 32) 0#32

/-- The lanes' numbers. -/
def lanes : IVec S64x8192 32 := iota .tc S64x8192 32 [1] iota_S64x8192_d1_w32

/-- The running best scores after a point whose lane maxima are `M`, -/
def nextB (M b : FVec F S64x8192 .f32) : S64x8192.Idx → Elt F .f32 :=
  shapeCast S64x8192 (maximumf M b) shapeCasts_S64x8192_S64x8192
/-- the steps they were found at, -/
def nextS (i : grid1.Coords) (M b : FVec F S64x8192 .f32) (s : S64x8192.Idx → Elt F .i32) : S64x8192.Idx → Elt F .i32 :=
  k1_pay1 (F := F) (cmpf .ogt M b) s (k1_pay14 i)
/-- and the running second scores. -/
def nextT (M b t : FVec F S64x8192 .f32) : S64x8192.Idx → Elt F .f32 := k1_pay2 M b (cmpf .ogt M b) t

/-- The scratch arrays as the body's step finds them: reset at the first point. -/
def inB (i : grid1.Coords) (b : FVec F S64x8192 .f32) : FVec F S64x8192 .f32 := if cond1 i = 1#1 then k1_pay8 else b
def inS (i : grid1.Coords) (s : S64x8192.Idx → Elt F .i32) : S64x8192.Idx → Elt F .i32 := if cond1 i = 1#1 then (k1_pay9 : S64x8192.Idx → BitVec 32) else s
def inT (i : grid1.Coords) (t : FVec F S64x8192 .f32) : FVec F S64x8192 .f32 := if cond1 i = 1#1 then k1_pay10 else t

set_option maxHeartbeats 4000000 in
/-- The body at one point: the two blocks' buffers are kept; the scratch arrays, reset first at the first point, take
    one step; the two results' buffers are written at the last point only. -/
theorem sound_body (c : Dev nD) (E : Set ℕ) (i : grid1.Coords) (s0 s1 : Fin 2) (s2 s3 : Fin 1)
    (X : S64x32768.Idx → Elt F .f32) (N : S64x32768.Idx → Elt F .i16) (O P : S64x128.Idx → Elt F .i32)
    (b : S64x8192.Idx → Elt F .f32) (s : S64x8192.Idx → Elt F .i32) (t : S64x8192.Idx → Elt F .f32)
    (K : PUnit → sProp 𝕄) :
    iprop((owns (c : Thread nD τ) (stage1_0 s0) fullShare X ∗ owns (c : Thread nD τ) (stage1_1 s1) fullShare N
            ∗ owns (c : Thread nD τ) (stage1_2 s2) fullShare O ∗ owns (c : Thread nD τ) (stage1_3 s3) fullShare P
            ∗ (((c : Thread nD τ).loc cc1_scratch0) ↦{fullShare} b) ∗ (((c : Thread nD τ).loc cc1_scratch1) ↦{fullShare} s)
            ∗ (((c : Thread nD τ).loc cc1_scratch2) ↦{fullShare} t))
          ∗ (iprop(owns (c : Thread nD τ) (stage1_0 s0) fullShare X ∗ owns (c : Thread nD τ) (stage1_1 s1) fullShare N
                  ∗ owns (c : Thread nD τ) (stage1_2 s2) fullShare
                      (if k1_cond2 i = 1#1 then
                        k1_pay6 (F := F) lanes (nextB (k1_pay11 i X N) (inB i b)) (nextS i (k1_pay11 i X N) (inB i b) (inS (F := F) i s))
                       else O)
                  ∗ owns (c : Thread nD τ) (stage1_3 s3) fullShare
                      (if k1_cond2 i = 1#1 then
                        k1_pay7 (F := F) lanes (nextB (k1_pay11 i X N) (inB i b)) (nextS i (k1_pay11 i X N) (inB i b) (inS (F := F) i s))
                          (nextT (k1_pay11 i X N) (inB i b) (inT i t))
                       else P)
                  ∗ (((c : Thread nD τ).loc cc1_scratch0) ↦{fullShare} nextB (k1_pay11 i X N) (inB i b))
                  ∗ (((c : Thread nD τ).loc cc1_scratch1) ↦{fullShare} nextS i (k1_pay11 i X N) (inB i b) (inS (F := F) i s))
                  ∗ (((c : Thread nD τ).loc cc1_scratch2) ↦{fullShare} nextT (k1_pay11 i X N) (inB i b) (inT i t)))
              -∗ K ⟨⟩))
      ⊢ wp frame (wpE (defs₀ (F := F)) Variants.none c none) E
          (cc1__pass1_body i (stage1_0 s0) (hstage1_0 s0) (stage1_1 s1) (hstage1_1 s1) (stage1_2 s2) (hstage1_2 s2) (stage1_3 s3) (hstage1_3 s3)
            (Memref.whole cc1_scratch0) (Memref.isWhole_whole _) (Memref.whole cc1_scratch1) (Memref.isWhole_whole _)
            (Memref.whole cc1_scratch2) (Memref.isWhole_whole _)) K := by
  have hz : (![0, 0] : Fin 2 → Nat) = fun _ => 0 := funext fun a => by fin_cases a <;> rfl
  have hr0 : ∀ f, (View.whole cc1_stg0_0).readAt (Elt F) (Rect.unit (s := S64x32768) ![0, 0] S64x32768.size inb_S64x32768_S64x32768_0_0).toLoadRect f = f :=
    Memref.readAt_unit_zero (Elt F) cc1_stg0_0 hz _
  have hr1 : ∀ f, (View.whole cc1_stg0_1).readAt (Elt F) (Rect.unit (s := S64x32768) ![0, 0] S64x32768.size inb_S64x32768_S64x32768_0_0).toLoadRect f = f :=
    Memref.readAt_unit_zero (Elt F) cc1_stg0_1 hz _
  have hr2 : ∀ f, (View.whole cc1_stg1_0).readAt (Elt F) (Rect.unit (s := S64x32768) ![0, 0] S64x32768.size inb_S64x32768_S64x32768_0_0).toLoadRect f = f :=
    Memref.readAt_unit_zero (Elt F) cc1_stg1_0 hz _
  have hr3 : ∀ f, (View.whole cc1_stg1_1).readAt (Elt F) (Rect.unit (s := S64x32768) ![0, 0] S64x32768.size inb_S64x32768_S64x32768_0_0).toLoadRect f = f :=
    Memref.readAt_unit_zero (Elt F) cc1_stg1_1 hz _
  have hr4 : ∀ f, (View.whole cc1_scratch0).readAt (Elt F) (Rect.unit (s := S64x8192) ![0, 0] S64x8192.size inb_S64x8192_S64x8192_0_0).toLoadRect f = f :=
    Memref.readAt_unit_zero (Elt F) cc1_scratch0 hz _
  have hr5 : ∀ f, (View.whole cc1_scratch1).readAt (Elt F) (Rect.unit (s := S64x8192) ![0, 0] S64x8192.size inb_S64x8192_S64x8192_0_0).toLoadRect f = f :=
    Memref.readAt_unit_zero (Elt F) cc1_scratch1 hz _
  have hr6 : ∀ f, (View.whole cc1_scratch2).readAt (Elt F) (Rect.unit (s := S64x8192) ![0, 0] S64x8192.size inb_S64x8192_S64x8192_0_0).toLoadRect f = f :=
    Memref.readAt_unit_zero (Elt F) cc1_scratch2 hz _
  have hw2' : ∀ f w, (((Memref.whole cc1_stg2_0).access (Rect.unit (s := S64x128) ![0, 0] S64x128.size inb_S64x128_S64x128_0_0)) :
      View sig .tc _ _ _).write (Elt F) f w Finset.univ = w := Memref.write_access_unit_zero_univ (Elt F) cc1_stg2_0 hz _
  have hw2 : ∀ f w L, (View.whole cc1_stg2_0).writes (Elt F) f (⟨Rect.unit (s := S64x128) ![0, 0] S64x128.size inb_S64x128_S64x128_0_0, w⟩ :: L) = w :=
    fun f w L => hw2' _ w
  have hw3' : ∀ f w, (((Memref.whole cc1_stg3_0).access (Rect.unit (s := S64x128) ![0, 0] S64x128.size inb_S64x128_S64x128_0_0)) :
      View sig .tc _ _ _).write (Elt F) f w Finset.univ = w := Memref.write_access_unit_zero_univ (Elt F) cc1_stg3_0 hz _
  have hw3 : ∀ f w L, (View.whole cc1_stg3_0).writes (Elt F) f (⟨Rect.unit (s := S64x128) ![0, 0] S64x128.size inb_S64x128_S64x128_0_0, w⟩ :: L) = w :=
    fun f w L => hw3' _ w
  have hw4' : ∀ f w, (((Memref.whole cc1_scratch0).access (Rect.unit (s := S64x8192) ![0, 0] S64x8192.size inb_S64x8192_S64x8192_0_0)) :
      View sig .tc _ _ _).write (Elt F) f w Finset.univ = w := Memref.write_access_unit_zero_univ (Elt F) cc1_scratch0 hz _
  have hw4 : ∀ f w L, (View.whole cc1_scratch0).writes (Elt F) f (⟨Rect.unit (s := S64x8192) ![0, 0] S64x8192.size inb_S64x8192_S64x8192_0_0, w⟩ :: L) = w :=
    fun f w L => hw4' _ w
  have hw5' : ∀ f w, (((Memref.whole cc1_scratch1).access (Rect.unit (s := S64x8192) ![0, 0] S64x8192.size inb_S64x8192_S64x8192_0_0)) :
      View sig .tc _ _ _).write (Elt F) f w Finset.univ = w := Memref.write_access_unit_zero_univ (Elt F) cc1_scratch1 hz _
  have hw5 : ∀ f w L, (View.whole cc1_scratch1).writes (Elt F) f (⟨Rect.unit (s := S64x8192) ![0, 0] S64x8192.size inb_S64x8192_S64x8192_0_0, w⟩ :: L) = w :=
    fun f w L => hw5' _ w
  have hw6' : ∀ f w, (((Memref.whole cc1_scratch2).access (Rect.unit (s := S64x8192) ![0, 0] S64x8192.size inb_S64x8192_S64x8192_0_0)) :
      View sig .tc _ _ _).write (Elt F) f w Finset.univ = w := Memref.write_access_unit_zero_univ (Elt F) cc1_scratch2 hz _
  have hw6 : ∀ f w L, (View.whole cc1_scratch2).writes (Elt F) f (⟨Rect.unit (s := S64x8192) ![0, 0] S64x8192.size inb_S64x8192_S64x8192_0_0, w⟩ :: L) = w :=
    fun f w L => hw6' _ w
  fin_cases s0 <;> fin_cases s1 <;> fin_cases s2 <;> fin_cases s3 <;> by_cases h1 : cond1 i = 1#1 <;> by_cases h2 : k1_cond2 i = 1#1 <;>
  · simp only [owns_whole, cc1__pass1_body_eq_skeleton]
    unfold cc1__pass1_body_skel
    simp only [k1_part1_eq_skeleton]
    unfold k1_part1_skel inB inS inT
    unfold cond1 at h1
    unfold cond1
    simp only [h1, h2, if_true, if_false, dite_true, dite_false, Prog.lift, Prog.bind_op, Prog.bind_ret, Prog.pure_eq_ret]
    iintro ⟨⟨H0, H1, H2, H3, H4, H5, H6⟩, Hk⟩
    sl_steps
    iapply Hk
    simp only [nextB, nextS, nextT, lanes, k1_pay12, k1_pay13, hr0, hr1, hr2, hr3, hr4, hr5, hr6, hw2, hw2', hw3, hw3', hw4, hw4', hw5, hw5', hw6, hw6']
    isplitl [H0]
    · iexact H0
    isplitl [H1]
    · iexact H1
    isplitl [H2]
    · iexact H2
    isplitl [H3]
    · iexact H3
    isplitl [H4]
    · iexact H4
    isplitl [H5]
    · iexact H5
    · iexact H6

end Cert.KernelIdeal.Pass

end
-- ==== Proof.PassRunIdeal.lean ====
/-
  The first pass over its grid: what the scratch arrays hold before every point, the call's proof data and body
  obligation. Everything is stated for any float values.
-/
module

public import proofs.«01_k».proof.Proof.PassIdeal
public import Idealize.ShloMosaic.Lib.WordCmp

@[expose] public section

set_option maxRecDepth 16384

noncomputable section

namespace Cert.KernelIdeal.Pass

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The grid's points -/

/-- The reset is at the first point, -/
theorem cond1_iff : ∀ t : Fin cfg1.N, cond1 (grid1.coords t) = 1#1 ↔ t.val = 0 := by
  show ∀ t : Fin 31, _; decide +kernel
/-- the results' stores at the last. -/
theorem cond2_iff : ∀ t : Fin cfg1.N, k1_cond2 (grid1.coords t) = 1#1 ↔ t.val = 30 := by
  show ∀ t : Fin 31, _; decide +kernel
/-- A point's coordinate is its number; -/
theorem coords_val : ∀ t : Fin cfg1.N, (grid1.coords t 0).val = t.val := by
  show ∀ t : Fin 31, _; decide +kernel
/-- every block has all rows, -/
theorem xsize_row0 : ∀ t : Fin cfg1.N, win1_0.xsize (grid1.coords t) 0 = 64 := by
  show ∀ t : Fin 31, _; decide +kernel
theorem xsize_row1 : ∀ t : Fin cfg1.N, win1_1.xsize (grid1.coords t) 0 = 64 := by
  show ∀ t : Fin 31, _; decide +kernel
/-- and 32768 columns but the last, which has the 16960 that are left. -/
theorem xsize_col0 : ∀ t : Fin cfg1.N, win1_0.xsize (grid1.coords t) 1 = if t.val = 30 then 16960 else 32768 := by
  show ∀ t : Fin 31, _; decide +kernel
theorem xsize_col1 : ∀ t : Fin cfg1.N, win1_1.xsize (grid1.coords t) 1 = if t.val = 30 then 16960 else 32768 := by
  show ∀ t : Fin 31, _; decide +kernel

/-- A column inside the array is fetched. -/
theorem moved0 (t : Fin cfg1.N) (j : S64x32768.Idx) (h : (j 1).val < if t.val = 30 then 16960 else 32768) :
    win1_0.moved (grid1.coords t) j = true :=
  (win1_0.moved_iff _ j).mpr fun a => match a with
    | ⟨0, _⟩ => lt_of_lt_of_eq (j 0).isLt (xsize_row0 t).symm
    | ⟨1, _⟩ => lt_of_lt_of_eq h (xsize_col0 t).symm
theorem moved1 (t : Fin cfg1.N) (j : S64x32768.Idx) (h : (j 1).val < if t.val = 30 then 16960 else 32768) :
    win1_1.moved (grid1.coords t) j = true :=
  (win1_1.moved_iff _ j).mpr fun a => match a with
    | ⟨0, _⟩ => lt_of_lt_of_eq (j 0).isLt (xsize_row1 t).symm
    | ⟨1, _⟩ => lt_of_lt_of_eq h (xsize_col1 t).symm

/-- One score of a block. -/
def entry (X : S64x32768.Idx → Elt F .f32) (N : S64x32768.Idx → Elt F .i16) (j : S64x32768.Idx) : F .f32 :=
  FloatOps.addf (X j) (FloatOps.mulf (FloatOps.sitofp .f32 (N j)) (Scalar.ofBits .f32 0x399C0000#32))

/-- A lane's four columns in a block. -/
def at4 (j : S64x8192.Idx) (k : Fin 4) : S64x32768.Idx := ix2 (j 0) ⟨8192 * k.val + (j 1).val, by have h : (j 1).val < 8192 := (j 1).isLt; have := k.isLt; show _ < 32768; omega⟩

/-- The mask of a lane's third and fourth columns. -/
theorem mask2 (t : Fin cfg1.N) (j : S64x8192.Idx) :
    cmpi .slt (iota .tc S64x8192 32 [1] iota_S64x8192_d1_w32) (broadcast S64x8192 (Scalar.select (Scalar.cmpi .eq (BitVec.ofNat 32 (grid1.coords t 0).val) 30#32) 576#32 8192#32)) j
      = if (j 1).val < (if t.val = 30 then 576 else 8192) then 1#1 else 0#1 := by
  have h1 : (j 1).val < 8192 := (j 1).isLt
  have h2 : t.val < 31 := lt_of_lt_of_eq t.isLt N_1
  show IntOp.cmpi .slt (iota .tc S64x8192 32 [1] iota_S64x8192_d1_w32 j) _ = _
  rw [iota_single_apply, coords_val]
  have e : broadcast S64x8192 (Scalar.select (Scalar.cmpi .eq (BitVec.ofNat 32 t.val) 30#32) 576#32 8192#32) j = BitVec.ofNat 32 (if t.val = 30 then 576 else 8192) := by
    show Scalar.select (Scalar.cmpi .eq (BitVec.ofNat 32 t.val) 30#32) 576#32 8192#32 = _
    generalize t.val = n at h2 ⊢
    revert n; decide
  rw [e]
  show IntOp.cmpi .slt (BitVec.ofNat 32 (j 1).val) _ = _
  rw [WordCmp.cmpi_slt_ofNat (by omega) (by split <;> omega)]
  by_cases hc : (j 1).val < (if t.val = 30 then 576 else 8192)
  · rw [if_pos hc, decide_eq_true hc]; rfl
  · rw [if_neg hc, decide_eq_false hc]; rfl
theorem mask3 (t : Fin cfg1.N) (j : S64x8192.Idx) :
    cmpi .slt (iota .tc S64x8192 32 [1] iota_S64x8192_d1_w32) (broadcast S64x8192 (Scalar.select (Scalar.cmpi .eq (BitVec.ofNat 32 (grid1.coords t 0).val) 30#32) 0#32 8192#32)) j
      = if (j 1).val < (if t.val = 30 then 0 else 8192) then 1#1 else 0#1 := by
  have h1 : (j 1).val < 8192 := (j 1).isLt
  have h2 : t.val < 31 := lt_of_lt_of_eq t.isLt N_1
  show IntOp.cmpi .slt (iota .tc S64x8192 32 [1] iota_S64x8192_d1_w32 j) _ = _
  rw [iota_single_apply, coords_val]
  have e : broadcast S64x8192 (Scalar.select (Scalar.cmpi .eq (BitVec.ofNat 32 t.val) 30#32) 0#32 8192#32) j = BitVec.ofNat 32 (if t.val = 30 then 0 else 8192) := by
    show Scalar.select (Scalar.cmpi .eq (BitVec.ofNat 32 t.val) 30#32) 0#32 8192#32 = _
    generalize t.val = n at h2 ⊢
    revert n; decide
  rw [e]
  show IntOp.cmpi .slt (BitVec.ofNat 32 (j 1).val) _ = _
  rw [WordCmp.cmpi_slt_ofNat (by omega) (by split <;> omega)]
  by_cases hc : (j 1).val < (if t.val = 30 then 0 else 8192)
  · rw [if_pos hc, decide_eq_true hc]; rfl
  · rw [if_neg hc, decide_eq_false hc]; rfl

/-- A lane's maximum over its four columns, those past the array's end left out. -/
theorem max4 (t : Fin cfg1.N) (X : S64x32768.Idx → Elt F .f32) (N : S64x32768.Idx → Elt F .i16) (j : S64x8192.Idx) :
    k1_pay11 (grid1.coords t) X N j
      = FloatOps.maximumf (FloatOps.maximumf (entry X N (at4 j 0)) (entry X N (at4 j 1)))
          (FloatOps.maximumf (if (j 1).val < (if t.val = 30 then 576 else 8192) then entry X N (at4 j 2) else Scalar.ofBits .f32 0xFF800000#32)
            (if (j 1).val < (if t.val = 30 then 0 else 8192) then entry X N (at4 j 3) else Scalar.ofBits .f32 0xFF800000#32)) := by
  have hs : shapeCast S64x32768 N shapeCasts_S64x32768_S64x32768 = N := Idealize.ShloMosaic.shapeCast_id _ _
  have hk : ∀ (k : Fin 4) (off : Fin 2 → ℕ) (h : S64x32768.Slices off S64x8192), off 0 = 0 → off 1 = 8192 * k.val → ∀ v : FVec F S64x32768 .f32,
      extractStridedSlice S64x8192 off v h j = v (at4 j k) := by
    intro k off h h0 h1 v
    refine congrArg v (funext fun a => Fin.ext ?_)
    match a with
    | ⟨0, _⟩ => show off 0 + (j 0).val = (j 0).val; omega
    | ⟨1, _⟩ => show off 1 + (j 1).val = 8192 * k.val + (j 1).val; omega
  unfold k1_pay11
  simp only [maximumf, select, hs, mask2, mask3]
  rw [hk 0 _ slices_S64x32768_o0_0_S64x8192 rfl rfl, hk 1 _ slices_S64x32768_o0_8192_S64x8192 rfl rfl,
    hk 2 _ slices_S64x32768_o0_16384_S64x8192 rfl rfl, hk 3 _ slices_S64x32768_o0_24576_S64x8192 rfl rfl]
  rw [mask2 t j, mask3 t j]
  have hi : ∀ (P : Prop) [Decidable P] (a b : F .f32), Scalar.select (if P then 1#1 else 0#1) a b = if P then a else b := by
    intro P _ a b
    by_cases h : P
    · rw [if_pos h, if_pos h]; rfl
    · rw [if_neg h, if_neg h]; rfl
  rw [hi, hi]
  rfl

/-- A lane's maximum does not depend on what the staging buffers hold past the array's end. -/
theorem max4_fill (t : Fin cfg1.N) (d d' : S64x32768.Idx → Elt F .f32) (e e' : S64x32768.Idx → Elt F .i16)
    (x : (win1_0.xblock (grid1.coords t)).Idx → Elt F .f32) (y : (win1_1.xblock (grid1.coords t)).Idx → Elt F .i16) :
    k1_pay11 (grid1.coords t) (win1_0.fill (grid1.coords t) d x) (win1_1.fill (grid1.coords t) e y)
      = k1_pay11 (grid1.coords t) (win1_0.fill (grid1.coords t) d' x) (win1_1.fill (grid1.coords t) e' y) := by
  have key : ∀ j : S64x32768.Idx, (j 1).val < (if t.val = 30 then 16960 else 32768) →
      entry (win1_0.fill (grid1.coords t) d x) (win1_1.fill (grid1.coords t) e y) j
        = entry (win1_0.fill (grid1.coords t) d' x) (win1_1.fill (grid1.coords t) e' y) j := by
    intro j h
    have h0 := moved0 t j h
    have h1 := moved1 t j h
    unfold entry Window.fill
    rw [dif_pos h0, dif_pos h0, dif_pos h1, dif_pos h1]
  funext j
  have hj : (j 1).val < 8192 := (j 1).isLt
  have hv : ∀ k : Fin 4, ((at4 j k) 1).val = 8192 * k.val + (j 1).val := fun _ => rfl
  rw [max4, max4, key (at4 j 0) (by rw [hv]; show 8192 * 0 + _ < _; split <;> omega), key (at4 j 1) (by rw [hv]; show 8192 * 1 + _ < _; split <;> omega)]
  congr 1
  congr 1
  · by_cases h : (j 1).val < (if t.val = 30 then 576 else 8192)
    · rw [if_pos h, if_pos h, key (at4 j 2) (by rw [hv]; show 8192 * 2 + _ < _; split at h <;> rename_i h30 <;> simp only [h30, reduceIte] <;> omega)]
    · rw [if_neg h, if_neg h]
  · by_cases h : (j 1).val < (if t.val = 30 then 0 else 8192)
    · rw [if_pos h, if_pos h, key (at4 j 3) (by rw [hv]; show 8192 * 3 + _ < _; split at h <;> rename_i h30 <;> simp only [h30, reduceIte] <;> omega)]
    · rw [if_neg h, if_neg h]

variable (V : Bufs F)

/-! ## The proof data -/

/-- Point `t`'s block of the logits and of the noise, -/
def blkX (c : Dev nD) (t : Fin cfg1.N) : (win1_0.xblock (grid1.coords t)).Idx → Elt F .f32 :=
  ((cfg1.win 0).blk t).view.read (Elt F) (V c (Pipeline.arrRef spec1 0))
def blkN (c : Dev nD) (t : Fin cfg1.N) : (win1_1.xblock (grid1.coords t)).Idx → Elt F .i16 :=
  ((cfg1.win 1).blk t).view.read (Elt F) (V c (Pipeline.arrRef spec1 1))

/-- filled out past the array's end with zeros. -/
def fullX (c : Dev nD) (t : Fin cfg1.N) : S64x32768.Idx → Elt F .f32 := win1_0.fill (grid1.coords t) (fun _ => Scalar.ofBits .f32 0#32) (blkX V c t)
def fullN (c : Dev nD) (t : Fin cfg1.N) : S64x32768.Idx → Elt F .i16 := win1_1.fill (grid1.coords t) (fun _ => (0#16 : BitVec 16)) (blkN V c t)

/-- The lanes' maxima at point `t`. -/
def top (c : Dev nD) (t : Fin cfg1.N) : FVec F S64x8192 .f32 := k1_pay11 (grid1.coords t) (fullX V c t) (fullN V c t)

/-- The lanes' running best scores, their steps and running second scores. -/
structure State (F : FTy → Type) where
  b : S64x8192.Idx → Elt F .f32
  s : S64x8192.Idx → Elt F .i32
  t : S64x8192.Idx → Elt F .f32

/-- The running values before point `n`. -/
def track (c : Dev nD) : ℕ → State F
  | 0 => ⟨k1_pay8, (k1_pay9 : S64x8192.Idx → BitVec 32), k1_pay10⟩
  | n + 1 =>
    if h : n < cfg1.N then
      ⟨nextB (top V c ⟨n, h⟩) (track c n).b, nextS (grid1.coords ⟨n, h⟩) (top V c ⟨n, h⟩) (track c n).b (track c n).s,
        nextT (top V c ⟨n, h⟩) (track c n).b (track c n).t⟩
    else track c n

theorem track_succ (c : Dev nD) (t : Fin cfg1.N) :
    track V c (t.val + 1) = ⟨nextB (top V c t) (track V c t.val).b, nextS (grid1.coords t) (top V c t) (track V c t.val).b (track V c t.val).s,
        nextT (top V c t) (track V c t.val).b (track V c t.val).t⟩ := by
  rw [track, dif_pos t.isLt]

theorem track_zero (c : Dev nD) : track V c 0 = ⟨k1_pay8, (k1_pay9 : S64x8192.Idx → BitVec 32), k1_pay10⟩ := rfl

attribute [irreducible] track

/-- The results' blocks, from the running values after the last point. -/
def resI (c : Dev nD) : S64x128.Idx → Elt F .i32 := k1_pay6 (F := F) lanes (track V c 31).b (track V c 31).s
def resF (c : Dev nD) : S64x128.Idx → Elt F .i32 := k1_pay7 (F := F) lanes (track V c 31).b (track V c 31).s (track V c 31).t

/-- The scoped buffers the call does not use. -/
def others (c : Dev nD) : sProp 𝕄 := iprop(ex (F := F) c cc0_stg0_0 ∗ ex (F := F) c cc0_stg0_1 ∗ ex (F := F) c cc2_stg0_0 ∗ ex (F := F) c cc2_stg0_1 ∗ ex (F := F) c cc2_stg1_0 ∗ ex (F := F) c cc2_scratch0 ∗ ex (F := F) c cc2_scratch1 ∗ ex (F := F) c cc3_stg0_0 ∗ ex (F := F) c cc3_stg1_0 ∗ ex (F := F) c cc3_stg2_0)

/-- What the scratch arrays hold before point `n`: from the second point on, the running values. -/
def Scr (c : Dev nD) (n : ℕ) : sProp 𝕄 :=
  iprop(∃ (b : Buf (Elt F) ((c : Thread nD τ).loc cc1_scratch0)) (s : Buf (Elt F) ((c : Thread nD τ).loc cc1_scratch1))
      (t : Buf (Elt F) ((c : Thread nD τ).loc cc1_scratch2)),
    ⌜n ≠ 0 → b = (track V c n).b ∧ s = (track V c n).s ∧ t = (track V c n).t⌝ ∗ (((c : Thread nD τ).loc cc1_scratch0) ↦{fullShare} b)
      ∗ (((c : Thread nD τ).loc cc1_scratch1) ↦{fullShare} s) ∗ (((c : Thread nD τ).loc cc1_scratch2) ↦{fullShare} t) ∗ others (F := F) c)

/-- Before the first point the scratch arrays hold anything, -/
theorem scr_in (c : Dev nD) : rest (F := F) spec1 c ⊢ Scr V c 0 := by
  unfold Scr others rest
  rw [scopedRest1_eq]
  iintro ⟨A1, A2, ⟨%b, Hb⟩, ⟨%s, Hs⟩, ⟨%t, Ht⟩, Hr⟩
  iexists b
  iexists s
  iexists t
  isplitr
  · ipureintro; exact fun h => absurd rfl h
  isplitl [Hb]
  · iexact Hb
  isplitl [Hs]
  · iexact Hs
  isplitl [Ht]
  · iexact Ht
  isplitl [A1]
  · iexact A1
  isplitl [A2]
  · iexact A2
  · iexact Hr

/-- and what they hold after the last is forgotten. -/
theorem scr_out (c : Dev nD) (n : ℕ) : Scr V c n ⊢ rest (F := F) spec1 c := by
  unfold Scr others rest
  rw [scopedRest1_eq]
  iintro ⟨%b, %s, %t, -, Hb, Hs, Ht, A1, A2, Hr⟩
  isplitl [A1]
  · iexact A1
  isplitl [A2]
  · iexact A2
  isplitl [Hb]
  · iexists b; iexact Hb
  isplitl [Hs]
  · iexists s; iexact Hs
  isplitl [Ht]
  · iexists t; iexact Ht
  · iexact Hr

/-- The call's proof data: the arrays as the call finds them; after the body the inputs' buffers hold their blocks and
    the results' buffers, at the last point, the results. -/
def dat (c : Dev nD) : Dat τ (Elt F) Unit ℕ UU ℕ cfg1 c where
  A w := V c (Pipeline.arrRef spec1 w)
  after w t := match w with
    | ⟨0, _⟩ => fullX V c t
    | ⟨1, _⟩ => fullN V c t
    | ⟨2, _⟩ => resI V c
    | ⟨3, _⟩ => resF V c
  Φ t := Scr V c t.val
  q _ := fullShare
  owed _ := 0

/-- The results' buffers after a point, if the point writes them. -/
theorem after_2 (c : Dev nD) (t : Fin cfg1.N) : (dat V c).after (2 : Fin 4) t = resI V c := by
  dsimp only [dat]
theorem after_3 (c : Dev nD) (t : Fin cfg1.N) : (dat V c).after (3 : Fin 4) t = resF V c := by
  dsimp only [dat]

/-- The body finds the blocks in the inputs' buffers, past the array's end anything. -/
theorem before_0 (c : Dev nD) (t : Fin cfg1.N) (d) :
    (dat V c).before (0 : Fin 4) t d = win1_0.fill (grid1.coords t) d (blkX V c t) := by
  unfold Dat.before; rw [if_pos (fetch1_0 t)]; rfl
theorem before_1 (c : Dev nD) (t : Fin cfg1.N) (d) :
    (dat V c).before (1 : Fin 4) t d = win1_1.fill (grid1.coords t) d (blkN V c t) := by
  unfold Dat.before; rw [if_pos (fetch1_1 t)]; rfl

/-- The library's body obligation. -/
theorem body_obligation (c : Dev nD) : BodyObligationLoose (dat V c) (defs₀ (F := F)) Variants.none () Set.univ := fun t => by
  rw [bigSep_W1, bigSep_W1]
  simp only
  rw [show (dat V c).owesAt () t.succ = (dat V c).owesAt () t.castSucc from rfl,
    show (dat V c).Φ t.castSucc = Scr V c t.val from rfl, show (dat V c).Φ t.succ = Scr V c (t.val + 1) from rfl]
  unfold Scr
  iintro ⟨⟨%b, %s, %u, %hbv, Hb, Hs, Hu, Hr⟩, Ho, ⟨%d0, H0⟩, ⟨%d1, H1⟩, ⟨%d2, H2⟩, ⟨%d3, H3⟩⟩
  rw [before_0 V c t d0, before_1 V c t d1]
  iapply (sound_body (F := F) c Set.univ (grid1.coords t) (cfg1.slots t 0) (cfg1.slots t 1) (cfg1.slots t 2) (cfg1.slots t 3)
    (win1_0.fill (grid1.coords t) d0 (blkX V c t)) (win1_1.fill (grid1.coords t) d1 (blkN V c t))
    ((dat V c).before 2 t d2) ((dat V c).before 3 t d3) b s u _)
  isplitl [H0 H1 H2 H3 Hb Hs Hu]
  · isplitl [H0]
    · iexact H0
    isplitl [H1]
    · iexact H1
    isplitl [H2]
    · iexact H2
    isplitl [H3]
    · iexact H3
    isplitl [Hb]
    · iexact Hb
    isplitl [Hs]
    · iexact Hs
    · iexact Hu
  iintro ⟨H0, H1, H2, H3, Hb, Hs, Hu⟩
  have hsc : k1_pay11 (grid1.coords t) (win1_0.fill (grid1.coords t) d0 (blkX V c t)) (win1_1.fill (grid1.coords t) d1 (blkN V c t)) = top V c t :=
    max4_fill t _ _ _ _ _ _
  have hst : inB (grid1.coords t) b = (track V c t.val).b ∧ inS (F := F) (grid1.coords t) s = (track V c t.val).s ∧ inT (grid1.coords t) u = (track V c t.val).t := by
    unfold inB inS inT
    by_cases h : t.val = 0
    · rw [if_pos ((cond1_iff t).mpr h), if_pos ((cond1_iff t).mpr h), if_pos ((cond1_iff t).mpr h), h, track_zero]
      exact ⟨rfl, rfl, rfl⟩
    · rw [if_neg (fun e => h ((cond1_iff t).mp e)), if_neg (fun e => h ((cond1_iff t).mp e)), if_neg (fun e => h ((cond1_iff t).mp e))]
      exact hbv h
  rw [hsc, hst.1, hst.2.1, hst.2.2]
  have hs := track_succ V c t
  isplitl [Hb Hs Hu Hr]
  · iexists (track V c (t.val + 1)).b
    iexists (track V c (t.val + 1)).s
    iexists (track V c (t.val + 1)).t
    isplitr
    · ipureintro; exact fun _ => ⟨rfl, rfl, rfl⟩
    rw [hs]
    isplitl [Hb]
    · iexact Hb
    isplitl [Hs]
    · iexact Hs
    isplitl [Hu]
    · iexact Hu
    · iexact Hr
  isplitl [Ho]; · iexact Ho
  isplitl [H0]
  · iexists d0
    change _ ⊢ owns (c : Thread nD τ) (stage1_0 (cfg1.slots t 0)) fullShare (win1_0.fill (grid1.coords t) d0 (win1_0.cut (grid1.coords t) (fullX V c t)))
    rw [show win1_0.cut (grid1.coords t) (fullX V c t) = blkX V c t from win1_0.cut_fill _ _ _]
  isplitl [H1]
  · iexists d1
    change _ ⊢ owns (c : Thread nD τ) (stage1_1 (cfg1.slots t 1)) fullShare (win1_1.fill (grid1.coords t) d1 (win1_1.cut (grid1.coords t) (fullN V c t)))
    rw [show win1_1.cut (grid1.coords t) (fullN V c t) = blkN V c t from win1_1.cut_fill _ _ _]
  · by_cases h : t.val = 30
    · rw [if_pos ((cond2_iff t).mpr h), if_pos ((cond2_iff t).mpr h), show idle1 2 (grid1.coords t) = false by simp only [idle1, (cond2_iff t).mpr h]; rfl]
      simp only
      have h31 : 31 = t.val + 1 := by omega
      have hr : resI V c = k1_pay6 (F := F) lanes (track V c (t.val + 1)).b (track V c (t.val + 1)).s :=
        congrArg (fun n => k1_pay6 (F := F) lanes (track V c n).b (track V c n).s) h31
      have hf : resF V c = k1_pay7 (F := F) lanes (track V c (t.val + 1)).b (track V c (t.val + 1)).s (track V c (t.val + 1)).t :=
        congrArg (fun n => k1_pay7 (F := F) lanes (track V c n).b (track V c n).s (track V c n).t) h31
      rw [hs] at hr hf
      rw [after_2, after_3, hr, hf]
      isplitl [H2]
      · iexact H2
      · iexact H3
    · have hc : ¬ k1_cond2 (grid1.coords t) = 1#1 := fun e => h ((cond2_iff t).mp e)
      have hN : t.val < 31 := lt_of_lt_of_eq t.isLt N_1
      rw [if_neg hc, if_neg hc, show idle1 2 (grid1.coords t) = true by simp only [idle1, hc, beq_iff_eq, Bool.not_eq_true', beq_eq_false_iff_ne, ne_eq, not_false_eq_true],
        show (win1 2).flush t = false from Bool.eq_false_iff.mpr fun e => by have := (flush1_2 t).mp e; omega,
        show (win1 3).flush t = false from Bool.eq_false_iff.mpr fun e => by have := (flush1_3 t).mp e; omega]
      simp only
      isplitl [H2]
      · iexists d2
        iexact H2
      · iexists d3
        iexact H3

/-- The output arrays after the call: the results' blocks. -/
theorem arrAt_I (c : Dev nD) : (dat V c).arrAt (2 : Fin 4) cfg1.N = resI V c := by
  have hw : win1_2.WholeAt (⟨30, by decide +kernel⟩ : Fin grid1.N) := by decide +kernel
  refine (dat V c).arrAt_eq_of_after_last (2 : Fin 4) ⟨30, by decide +kernel⟩ hw _ fun j => ?_
  rw [after_2 V c]
  generalize resI V c = R
  rfl
theorem arrAt_F (c : Dev nD) : (dat V c).arrAt (3 : Fin 4) cfg1.N = resF V c := by
  have hw : win1_3.WholeAt (⟨30, by decide +kernel⟩ : Fin grid1.N) := by decide +kernel
  refine (dat V c).arrAt_eq_of_after_last (3 : Fin 4) ⟨30, by decide +kernel⟩ hw _ fun j => ?_
  rw [after_3 V c]
  generalize resF V c = R
  rfl

end Cert.KernelIdeal.Pass

end
-- ==== Proof.ExactIdeal.lean ====
/-
  The exact pass, run: one grid point's body as it runs, the running best score and best column of every lane as
  one step from those before.
  Everything is stated for any float values.
-/
module

public import proofs.«01_k».proof.Proof.BaseIdeal

@[expose] public section

set_option maxRecDepth 16384

noncomputable section

namespace Cert.KernelIdeal.Exact

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## One grid point -/

/-- The word under which the body resets its two scratch arrays: the grid point is the first. -/
def cond1 (i : grid2.Coords) : BitVec 1 :=
  Scalar.cmpi .ne (Scalar.extui (Scalar.cmpi .eq (BitVec.ofNat 32 (i 0).val) 0#32) : BitVec 32) 0#32

/-- The word carrying the uniform's mantissa bits at every lane of point `i`'s block, read as a float. -/
def uword (i : grid2.Coords) : FVec F S64x16384 .f32 :=
  k2_pay41 (k2_pay38 (k2_pay25 (k2_pay12 i) (k2_pay13 i) k2_pay14) (k2_pay26 (k2_pay12 i) (k2_pay13 i) k2_pay14) (k2_pay27 (k2_pay12 i) (k2_pay13 i) k2_pay14) 17#32)
    (k2_pay39 (k2_pay25 (k2_pay12 i) (k2_pay13 i) k2_pay14) (k2_pay26 (k2_pay12 i) (k2_pay13 i) k2_pay14) (k2_pay27 (k2_pay12 i) (k2_pay13 i) k2_pay14) 17#32)
    (k2_pay40 (k2_pay25 (k2_pay12 i) (k2_pay13 i) k2_pay14) (k2_pay26 (k2_pay12 i) (k2_pay13 i) k2_pay14) (k2_pay27 (k2_pay12 i) (k2_pay13 i) k2_pay14) 17#32) 8#32

/-- The masked scores of point `i`'s block, the staging buffer holding `X`. -/
def score (i : grid2.Coords) (X : S64x16384.Idx → Elt F .f32) : FVec F S64x16384 .f32 := k2_pay42 (k2_pay4 i) (uword i) X

/-- The running best scores after point `i`, from those before it. -/
def stepV (i : grid2.Coords) (X : S64x16384.Idx → Elt F .f32) (b : S64x16384.Idx → Elt F .f32) : S64x16384.Idx → Elt F .f32 :=
  k2_pay44 (k2_pay4 i) (uword i) X b

/-- The running best columns after point `i`, from the scores and columns before it. -/
def stepI (i : grid2.Coords) (X : S64x16384.Idx → Elt F .f32) (b : S64x16384.Idx → Elt F .f32) (v : S64x16384.Idx → Elt F .i32) :
    S64x16384.Idx → Elt F .i32 :=
  k2_pay45 (k2_pay4 i) (uword i) X b v

set_option maxHeartbeats 2000000 in
/-- The body at one point: the block's buffer is kept; the scratch arrays, reset first at the first point, take one
    step; the result's buffer is written at the last point only. -/
theorem sound_body (c : Dev nD) (E : Set ℕ) (i : grid2.Coords) (s0 : Fin 2) (s1 : Fin 1)
    (X : S64x16384.Idx → Elt F .f32) (O : S64x128.Idx → Elt F .i32) (b : S64x16384.Idx → Elt F .f32) (v : S64x16384.Idx → Elt F .i32)
    (K : PUnit → sProp 𝕄) :
    iprop((owns (c : Thread nD τ) (stage2_0 s0) fullShare X ∗ owns (c : Thread nD τ) (stage2_1 s1) fullShare O
            ∗ (((c : Thread nD τ).loc cc2_scratch0) ↦{fullShare} b) ∗ (((c : Thread nD τ).loc cc2_scratch1) ↦{fullShare} v))
          ∗ (iprop(owns (c : Thread nD τ) (stage2_0 s0) fullShare X
                  ∗ owns (c : Thread nD τ) (stage2_1 s1) fullShare
                      (if k2_cond2 i = 1#1 then
                        k2_pay1 (stepV i X (if cond1 i = 1#1 then k2_pay2 else b))
                          (stepI i X (if cond1 i = 1#1 then k2_pay2 else b) (if cond1 i = 1#1 then (k2_pay3 : S64x16384.Idx → BitVec 32) else v))
                       else O)
                  ∗ (((c : Thread nD τ).loc cc2_scratch0) ↦{fullShare} stepV i X (if cond1 i = 1#1 then k2_pay2 else b))
                  ∗ (((c : Thread nD τ).loc cc2_scratch1) ↦{fullShare} stepI i X (if cond1 i = 1#1 then k2_pay2 else b) (if cond1 i = 1#1 then (k2_pay3 : S64x16384.Idx → BitVec 32) else v)))
              -∗ K ⟨⟩))
      ⊢ wp frame (wpE (defs₀ (F := F)) Variants.none c none) E
          (cc2__exact_body i (stage2_0 s0) (hstage2_0 s0) (stage2_1 s1) (hstage2_1 s1) (Memref.whole cc2_scratch0) (Memref.isWhole_whole _) (Memref.whole cc2_scratch1) (Memref.isWhole_whole _)) K := by
  have hz : (![0, 0] : Fin 2 → Nat) = fun _ => 0 := funext fun a => by fin_cases a <;> rfl
  have hr10 : ∀ f, (View.whole cc2_stg0_0).readAt (Elt F) (Rect.unit (s := S64x16384) ![0, 0] S64x16384.size inb_S64x16384_S64x16384_0_0).toLoadRect f = f :=
    Memref.readAt_unit_zero (Elt F) cc2_stg0_0 hz _
  have hr11 : ∀ f, (View.whole cc2_stg0_1).readAt (Elt F) (Rect.unit (s := S64x16384) ![0, 0] S64x16384.size inb_S64x16384_S64x16384_0_0).toLoadRect f = f :=
    Memref.readAt_unit_zero (Elt F) cc2_stg0_1 hz _
  have hr3 : ∀ f, (View.whole cc2_scratch0).readAt (Elt F) (Rect.unit (s := S64x16384) ![0, 0] S64x16384.size inb_S64x16384_S64x16384_0_0).toLoadRect f = f :=
    Memref.readAt_unit_zero (Elt F) cc2_scratch0 hz _
  have hr4 : ∀ f, (View.whole cc2_scratch1).readAt (Elt F) (Rect.unit (s := S64x16384) ![0, 0] S64x16384.size inb_S64x16384_S64x16384_0_0).toLoadRect f = f :=
    Memref.readAt_unit_zero (Elt F) cc2_scratch1 hz _
  have hw3' : ∀ f w, (((Memref.whole cc2_scratch0).access (Rect.unit (s := S64x16384) ![0, 0] S64x16384.size inb_S64x16384_S64x16384_0_0)) :
      View sig .tc _ _ _).write (Elt F) f w Finset.univ = w := Memref.write_access_unit_zero_univ (Elt F) cc2_scratch0 hz _
  have hw3 : ∀ f w L, (View.whole cc2_scratch0).writes (Elt F) f (⟨Rect.unit (s := S64x16384) ![0, 0] S64x16384.size inb_S64x16384_S64x16384_0_0, w⟩ :: L) = w :=
    fun f w L => hw3' _ w
  have hw4' : ∀ f w, (((Memref.whole cc2_scratch1).access (Rect.unit (s := S64x16384) ![0, 0] S64x16384.size inb_S64x16384_S64x16384_0_0)) :
      View sig .tc _ _ _).write (Elt F) f w Finset.univ = w := Memref.write_access_unit_zero_univ (Elt F) cc2_scratch1 hz _
  have hw4 : ∀ f w L, (View.whole cc2_scratch1).writes (Elt F) f (⟨Rect.unit (s := S64x16384) ![0, 0] S64x16384.size inb_S64x16384_S64x16384_0_0, w⟩ :: L) = w :=
    fun f w L => hw4' _ w
  have hw2' : ∀ f w, (((Memref.whole cc2_stg1_0).access (Rect.unit (s := S64x128) ![0, 0] S64x128.size inb_S64x128_S64x128_0_0)) :
      View sig .tc _ _ _).write (Elt F) f w Finset.univ = w := Memref.write_access_unit_zero_univ (Elt F) cc2_stg1_0 hz _
  have hw2 : ∀ f w L, (View.whole cc2_stg1_0).writes (Elt F) f (⟨Rect.unit (s := S64x128) ![0, 0] S64x128.size inb_S64x128_S64x128_0_0, w⟩ :: L) = w :=
    fun f w L => hw2' _ w
  fin_cases s0 <;> fin_cases s1 <;> by_cases h1 : cond1 i = 1#1 <;> by_cases h2 : k2_cond2 i = 1#1 <;>
  · simp only [owns_whole, cc2__exact_body_eq_skeleton]
    unfold cc2__exact_body_skel
    simp only [k2_part5_eq_skeleton]
    unfold k2_part5_skel
    simp only [k2_part1_eq_skeleton, k2_part2_eq_skeleton, k2_part3_eq_skeleton, k2_part4_eq_skeleton]
    unfold k2_part1_skel k2_part2_skel k2_part3_skel k2_part4_skel
    unfold cond1 at h1
    unfold cond1
    simp only [h1, h2, if_true, if_false, dite_true, dite_false, Prog.lift, Prog.bind_op, Prog.bind_ret, Prog.pure_eq_ret]
    iintro ⟨⟨H0, H1, H2, H3⟩, Hk⟩
    sl_steps
    iapply Hk
    simp only [stepV, stepI, uword, hr10, hr11, hr3, hr4, hw2, hw2', hw3, hw3', hw4, hw4']
    isplitl [H0]
    · iexact H0
    isplitl [H1]
    · iexact H1
    isplitl [H2]
    · iexact H2
    · iexact H3

end Cert.KernelIdeal.Exact

end
-- ==== Proof.ExactRunIdeal.lean ====
/-
  The exact pass over its grid: what the scratch arrays hold before every point, the pipeline's proof data, the body
  obligation and the frame run of the whole program. Everything is stated for any float values.
-/
module

public import proofs.«01_k».proof.Proof.ExactIdeal
public import Idealize.ShloMosaic.Lib.WordCmp

@[expose] public section

set_option maxRecDepth 16384

noncomputable section

namespace Cert.KernelIdeal.Exact

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The grid's points -/

/-- The reset is at the first point, -/
theorem cond1_iff : ∀ t : Fin cfg2.N, cond1 (grid2.coords t) = 1#1 ↔ t.val = 0 := by
  show ∀ t : Fin 62, _; decide +kernel
/-- the result's store at the last. -/
theorem cond2_iff : ∀ t : Fin cfg2.N, k2_cond2 (grid2.coords t) = 1#1 ↔ t.val = 61 := by
  show ∀ t : Fin 62, _; decide +kernel
/-- A point's coordinate is its number; -/
theorem coords_val : ∀ t : Fin cfg2.N, (grid2.coords t 0).val = t.val := by
  show ∀ t : Fin 62, _; decide +kernel
/-- every block has all rows, -/
theorem xsize_row : ∀ t : Fin cfg2.N, win2_0.xsize (grid2.coords t) 0 = 64 := by
  show ∀ t : Fin 62, _; decide +kernel
/-- and 16384 columns but the last, which has the 576 that are left. -/
theorem xsize_col : ∀ t : Fin cfg2.N, win2_0.xsize (grid2.coords t) 1 = if t.val = 61 then 576 else 16384 := by
  show ∀ t : Fin 62, _; decide +kernel

/-- A lane's column in the array. -/
theorem pay4_apply (t : Fin cfg2.N) (j : S64x16384.Idx) :
    k2_pay4 (grid2.coords t) j = BitVec.ofNat 32 (t.val * 16384 + (j 1).val) := by
  have e : k2_pay4 (grid2.coords t) j = BitVec.ofNat 32 (grid2.coords t 0).val * 16384#32 + BitVec.ofNat 32 (j 1).val := by
    simp only [k2_pay4, addi]
    rw [iota_single_apply]
    rfl
  rw [e, coords_val]
  simp only [BitVec.ofNat_add, BitVec.ofNat_mul]

/-- A lane the fetch does not fill has its column past the array's end: its mask is off. -/
theorem mask_off (t : Fin cfg2.N) (j : S64x16384.Idx) (h : ¬ win2_0.moved (grid2.coords t) j = true) :
    cmpi .slt (k2_pay4 (grid2.coords t)) (broadcast S64x16384 1000000#32) j = 0#1 := by
  have h0 : (j 0).val < 64 := (j 0).isLt
  have h1 : (j 1).val < 16384 := (j 1).isLt
  have ht : t.val = 61 ∧ 576 ≤ (j 1).val := by
    by_contra hc
    refine h ((win2_0.moved_iff _ j).mpr fun a => ?_)
    match a with
    | ⟨0, _⟩ => exact lt_of_lt_of_eq h0 (xsize_row t).symm
    | ⟨1, _⟩ =>
      refine lt_of_lt_of_eq ?_ (xsize_col t).symm
      show (j 1).val < _
      split <;> omega
  show IntOp.cmpi .slt (k2_pay4 (grid2.coords t) j) (BitVec.ofNat 32 1000000) = 0#1
  rw [pay4_apply, ht.1, WordCmp.cmpi_slt_ofNat (by omega) (by omega), decide_eq_false (by omega)]
  rfl

/-- The masked scores do not depend on what the staging buffer holds past the array's end. -/
theorem score_fill (t : Fin cfg2.N) (d d' : S64x16384.Idx → Elt F .f32) (x : (win2_0.xblock (grid2.coords t)).Idx → Elt F .f32) :
    score (grid2.coords t) (win2_0.fill (grid2.coords t) d x) = score (grid2.coords t) (win2_0.fill (grid2.coords t) d' x) := by
  funext j
  by_cases h : win2_0.moved (grid2.coords t) j = true
  · have e : win2_0.fill (grid2.coords t) d x j = win2_0.fill (grid2.coords t) d' x j := by
      unfold Window.fill; rw [dif_pos h, dif_pos h]
    simp only [score, k2_pay42, select, addf, e]
  · have e := mask_off t j h
    simp only [score, k2_pay42, select, e]
    rfl

theorem stepV_congr {i : grid2.Coords} {X Y : S64x16384.Idx → Elt F .f32} (h : score i X = score i Y) (b : S64x16384.Idx → Elt F .f32) :
    stepV i X b = stepV i Y b := by
  unfold score at h
  simp only [stepV, k2_pay44, k2_pay43, h]
theorem stepI_congr {i : grid2.Coords} {X Y : S64x16384.Idx → Elt F .f32} (h : score i X = score i Y) (b : S64x16384.Idx → Elt F .f32)
    (v : S64x16384.Idx → Elt F .i32) : stepI i X b v = stepI i Y b v := by
  unfold score at h
  simp only [stepI, k2_pay45, k2_pay43, h]

variable (V : Bufs F)

/-! ## The proof data -/

/-- Point `t`'s block of the logits, -/
def blkX (c : Dev nD) (t : Fin cfg2.N) : (win2_0.xblock (grid2.coords t)).Idx → Elt F .f32 :=
  ((cfg2.win 0).blk t).view.read (Elt F) (V c (Pipeline.arrRef spec2 0))

/-- filled out past the array's end with zeros. -/
def xfull (c : Dev nD) (t : Fin cfg2.N) : S64x16384.Idx → Elt F .f32 :=
  win2_0.fill (grid2.coords t) (fun _ => Scalar.ofBits .f32 0#32) (blkX V c t)

/-- The running best scores and columns before point `n`. -/
def best (c : Dev nD) : ℕ → (S64x16384.Idx → Elt F .f32) × (S64x16384.Idx → Elt F .i32)
  | 0 => (k2_pay2, (k2_pay3 : S64x16384.Idx → BitVec 32))
  | n + 1 =>
    if h : n < cfg2.N then
      (stepV (grid2.coords ⟨n, h⟩) (xfull V c ⟨n, h⟩) (best c n).1, stepI (grid2.coords ⟨n, h⟩) (xfull V c ⟨n, h⟩) (best c n).1 (best c n).2)
    else best c n

theorem best_succ (c : Dev nD) (t : Fin cfg2.N) :
    best V c (t.val + 1) = (stepV (grid2.coords t) (xfull V c t) (best V c t.val).1, stepI (grid2.coords t) (xfull V c t) (best V c t.val).1 (best V c t.val).2) := by
  rw [best, dif_pos t.isLt]

theorem best_zero (c : Dev nD) : best V c 0 = (k2_pay2, (k2_pay3 : S64x16384.Idx → BitVec 32)) := rfl

attribute [irreducible] best

/-- The result's block: from the best scores and columns after the last point. -/
def resBlk (c : Dev nD) : S64x128.Idx → Elt F .i32 := k2_pay1 (best V c 62).1 (best V c 62).2

/-- The scoped buffers the call does not use. -/
def othersL (c : Dev nD) : sProp 𝕄 :=
  iprop(ex (F := F) c cc0_stg0_0 ∗ ex (F := F) c cc0_stg0_1 ∗ ex (F := F) c cc1_stg0_0 ∗ ex (F := F) c cc1_stg0_1 ∗ ex (F := F) c cc1_stg1_0 ∗ ex (F := F) c cc1_stg1_1 ∗ ex (F := F) c cc1_stg2_0 ∗ ex (F := F) c cc1_stg3_0 ∗ ex (F := F) c cc1_scratch0 ∗ ex (F := F) c cc1_scratch1 ∗ ex (F := F) c cc1_scratch2)
def othersR (c : Dev nD) : sProp 𝕄 := iprop(ex (F := F) c cc3_stg0_0 ∗ ex (F := F) c cc3_stg1_0 ∗ ex (F := F) c cc3_stg2_0)

/-- What the scratch arrays hold before point `n`: from the second point on, the running best. -/
def Scr (c : Dev nD) (n : ℕ) : sProp 𝕄 :=
  iprop(∃ (b : Buf (Elt F) ((c : Thread nD τ).loc cc2_scratch0)) (v : Buf (Elt F) ((c : Thread nD τ).loc cc2_scratch1)),
    ⌜n ≠ 0 → b = (best V c n).1 ∧ v = (best V c n).2⌝ ∗ (((c : Thread nD τ).loc cc2_scratch0) ↦{fullShare} b)
      ∗ (((c : Thread nD τ).loc cc2_scratch1) ↦{fullShare} v) ∗ othersL (F := F) c ∗ othersR (F := F) c)

/-- Before the first point the scratch arrays hold anything, -/
theorem scr_in (c : Dev nD) : rest (F := F) spec2 c ⊢ Scr V c 0 := by
  unfold Scr othersL othersR rest
  rw [scopedRest2_eq]
  iintro ⟨A0, A1, A2, A3, A4, A5, A6, A7, A8, A9, A10, ⟨%b, Hb⟩, ⟨%v, Hv⟩, Hr⟩
  iexists b
  iexists v
  isplitr
  · ipureintro; exact fun h => absurd rfl h
  isplitl [Hb]
  · iexact Hb
  isplitl [Hv]
  · iexact Hv
  isplitr [Hr]
  · isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    isplitl [A9]
    · iexact A9
    iexact A10
  · iexact Hr

/-- and what they hold after the last is forgotten. -/
theorem scr_out (c : Dev nD) (n : ℕ) : Scr V c n ⊢ rest (F := F) spec2 c := by
  unfold Scr othersL othersR rest
  rw [scopedRest2_eq]
  iintro ⟨%b, %v, -, Hb, Hv, ⟨A0, A1, A2, A3, A4, A5, A6, A7, A8, A9, A10⟩, Hr⟩
  isplitl [A0]
  · iexact A0
  isplitl [A1]
  · iexact A1
  isplitl [A2]
  · iexact A2
  isplitl [A3]
  · iexact A3
  isplitl [A4]
  · iexact A4
  isplitl [A5]
  · iexact A5
  isplitl [A6]
  · iexact A6
  isplitl [A7]
  · iexact A7
  isplitl [A8]
  · iexact A8
  isplitl [A9]
  · iexact A9
  isplitl [A10]
  · iexact A10
  isplitl [Hb]
  · iexists b; iexact Hb
  isplitl [Hv]
  · iexists v; iexact Hv
  · iexact Hr

/-- The call's proof data: the arrays as the call finds them; after the body the logits' buffer holds its
    block and the result's buffer, at the last point, the result. -/
def dat (c : Dev nD) : Dat τ (Elt F) Unit ℕ UU ℕ cfg2 c where
  A w := V c (Pipeline.arrRef spec2 w)
  after w t := match w with
    | ⟨0, _⟩ => xfull V c t
    | ⟨1, _⟩ => resBlk V c
  Φ t := Scr V c t.val
  q _ := fullShare
  owed _ := 0

/-- The result's buffer after a point, if the point writes it. -/
theorem after_1 (c : Dev nD) (t : Fin cfg2.N) : (dat V c).after (1 : Fin 2) t = resBlk V c := by
  dsimp only [dat]

/-- The body finds the block in the logits' buffer, past the array's end anything. -/
theorem before_0 (c : Dev nD) (t : Fin cfg2.N) (d) :
    (dat V c).before (0 : Fin 2) t d = win2_0.fill (grid2.coords t) d (blkX V c t) := by
  unfold Dat.before; rw [if_pos (fetch2_0 t)]; rfl

/-- The library's body obligation. -/
theorem body_obligation (c : Dev nD) : BodyObligationLoose (dat V c) (defs₀ (F := F)) Variants.none () Set.univ := fun t => by
  rw [bigSep_W2, bigSep_W2]
  simp only
  rw [show (dat V c).owesAt () t.succ = (dat V c).owesAt () t.castSucc from rfl,
    show (dat V c).Φ t.castSucc = Scr V c t.val from rfl, show (dat V c).Φ t.succ = Scr V c (t.val + 1) from rfl]
  unfold Scr
  iintro ⟨⟨%b, %v, %hbv, Hb, Hv, Hp⟩, Ho, ⟨%d0, H0⟩, ⟨%d1, H1⟩⟩
  rw [before_0 V c t d0]
  iapply (sound_body (F := F) c Set.univ (grid2.coords t) (cfg2.slots t 0) (cfg2.slots t 1)
    (win2_0.fill (grid2.coords t) d0 (blkX V c t)) ((dat V c).before 1 t d1) b v _)
  isplitl [H0 H1 Hb Hv]
  · isplitl [H0]
    · iexact H0
    isplitl [H1]
    · iexact H1
    isplitl [Hb]
    · iexact Hb
    · iexact Hv
  iintro ⟨H0, H1, Hb, Hv⟩
  have hsc : score (grid2.coords t) (win2_0.fill (grid2.coords t) d0 (blkX V c t)) = score (grid2.coords t) (xfull V c t) :=
    score_fill t _ _ _
  have hb : (if cond1 (grid2.coords t) = 1#1 then k2_pay2 else b) = (best V c t.val).1 := by
    by_cases h : t.val = 0
    · rw [if_pos ((cond1_iff t).mpr h), h, best_zero]
    · rw [if_neg (fun e => h ((cond1_iff t).mp e))]; exact (hbv h).1
  have hv : (if cond1 (grid2.coords t) = 1#1 then (k2_pay3 : S64x16384.Idx → BitVec 32) else v) = (best V c t.val).2 := by
    by_cases h : t.val = 0
    · rw [if_pos ((cond1_iff t).mpr h), h, best_zero]
    · rw [if_neg (fun e => h ((cond1_iff t).mp e))]; exact (hbv h).2
  rw [hb, hv, stepV_congr hsc, stepI_congr hsc]
  have hs := best_succ V c t
  isplitl [Hb Hv Hp]
  · iexists (best V c (t.val + 1)).1
    iexists (best V c (t.val + 1)).2
    isplitr
    · ipureintro; exact fun _ => ⟨rfl, rfl⟩
    rw [hs]
    isplitl [Hb]
    · iexact Hb
    isplitl [Hv]
    · iexact Hv
    · iexact Hp
  isplitl [Ho]; · iexact Ho
  isplitl [H0]
  · iexists d0
    change _ ⊢ owns (c : Thread nD τ) (stage2_0 (cfg2.slots t 0)) fullShare (win2_0.fill (grid2.coords t) d0 (win2_0.cut (grid2.coords t) (xfull V c t)))
    rw [show win2_0.cut (grid2.coords t) (xfull V c t) = blkX V c t from win2_0.cut_fill _ _ _]
  · by_cases h : t.val = 61
    · rw [if_pos ((cond2_iff t).mpr h), show idle2 1 (grid2.coords t) = false by simp only [idle2, (cond2_iff t).mpr h]; rfl]
      simp only
      have h62 : 62 = t.val + 1 := by omega
      have hr : resBlk V c = k2_pay1 (best V c (t.val + 1)).1 (best V c (t.val + 1)).2 := congrArg (fun n => k2_pay1 (best V c n).1 (best V c n).2) h62
      rw [hs] at hr
      rw [after_1, hr]
      iexact H1
    · have hc : ¬ k2_cond2 (grid2.coords t) = 1#1 := fun e => h ((cond2_iff t).mp e)
      rw [if_neg hc, show idle2 1 (grid2.coords t) = true by simp only [idle2, hc, beq_iff_eq, Bool.not_eq_true', beq_eq_false_iff_ne, ne_eq, not_false_eq_true],
        show (win2 1).flush t = false from Bool.eq_false_iff.mpr fun e => by have := (flush2_1 t).mp e; have := t.isLt; have : cfg2.N = 62 := N_2; omega]
      simp only
      iexists d1
      iexact H1

/-- The output array after the run: the result's block. -/
theorem arrAt_out (c : Dev nD) : (dat V c).arrAt (1 : Fin 2) cfg2.N = resBlk V c := by
  have hw : win2_1.WholeAt (⟨61, by decide +kernel⟩ : Fin grid2.N) := by decide +kernel
  refine (dat V c).arrAt_eq_of_after_last (1 : Fin 2) ⟨61, by decide +kernel⟩ hw _ fun j => ?_
  rw [after_1 V c]
  generalize resBlk V c = R
  rfl

end Cert.KernelIdeal.Exact

end
-- ==== Proof.PickIdeal.lean ====
/-
  The last call: its body as it runs, the call's proof data and body obligation.
-/
module

public import proofs.«01_k».proof.Proof.BaseIdeal

@[expose] public section

set_option maxRecDepth 16384

noncomputable section

namespace Cert.KernelIdeal.Pick

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-- The candidates' scaled uniforms, from their columns, -/
def unit (Q : S64x128.Idx → Elt F .i32) : FVec F S64x128 .f32 :=
  k3_pay39 (k3_pay37 (k3_pay24 (k3_pay11 (F := F) Q) (k3_pay12 (F := F) Q) k3_pay13) (k3_pay25 (k3_pay11 (F := F) Q) (k3_pay12 (F := F) Q) k3_pay13) k3_pay26)
    (k3_pay38 (k3_pay24 (k3_pay11 (F := F) Q) (k3_pay12 (F := F) Q) k3_pay13) (k3_pay25 (k3_pay11 (F := F) Q) (k3_pay12 (F := F) Q) k3_pay13) k3_pay26)

/-- and the result's block, from the candidates' logits and columns. -/
def res (X : S64x128.Idx → Elt F .f32) (Q : S64x128.Idx → Elt F .i32) : S64x128.Idx → Elt F .i32 :=
  k3_pay1 (iota .tc S64x128 32 [1] iota_S64x128_d1_w32) (k3_pay2 (F := F) Q) (unit (F := F) Q) (Scalar.ofBits .f32 0x33D6BF95#32) X

set_option maxHeartbeats 2000000 in
/-- The body: the result's buffer takes the block. -/
theorem sound_body (c : Dev nD) (E : Set ℕ)
    (X : S64x128.Idx → Elt F .f32) (Q O : S64x128.Idx → Elt F .i32) (K : PUnit → sProp 𝕄) :
    iprop((owns (c : Thread nD τ) (stage3_0 0) fullShare X ∗ owns (c : Thread nD τ) (stage3_1 0) fullShare Q
            ∗ owns (c : Thread nD τ) (stage3_2 0) fullShare O)
          ∗ (iprop(owns (c : Thread nD τ) (stage3_0 0) fullShare X ∗ owns (c : Thread nD τ) (stage3_1 0) fullShare Q
            ∗ owns (c : Thread nD τ) (stage3_2 0) fullShare (res (F := F) X Q)) -∗ K ⟨⟩))
      ⊢ wp frame (wpE (defs₀ (F := F)) Variants.none c none) E
          (cc3__pick_body (stage3_0 0) (hstage3_0 0) (stage3_1 0) (hstage3_1 0) (stage3_2 0) (hstage3_2 0)) K := by
  have hz : (![0, 0] : Fin 2 → Nat) = fun _ => 0 := funext fun a => by fin_cases a <;> rfl
  have hr0 : ∀ f, (View.whole cc3_stg0_0).readAt (Elt F) (Rect.unit (s := S64x128) ![0, 0] S64x128.size inb_S64x128_S64x128_0_0).toLoadRect f = f :=
    Memref.readAt_unit_zero (Elt F) cc3_stg0_0 hz _
  have hr1 : ∀ f, (View.whole cc3_stg1_0).readAt (Elt F) (Rect.unit (s := S64x128) ![0, 0] S64x128.size inb_S64x128_S64x128_0_0).toLoadRect f = f :=
    Memref.readAt_unit_zero (Elt F) cc3_stg1_0 hz _
  have hw2' : ∀ f w, (((Memref.whole cc3_stg2_0).access (Rect.unit (s := S64x128) ![0, 0] S64x128.size inb_S64x128_S64x128_0_0)) :
      View sig .tc _ _ _).write (Elt F) f w Finset.univ = w := Memref.write_access_unit_zero_univ (Elt F) cc3_stg2_0 hz _
  have hw2 : ∀ f w L, (View.whole cc3_stg2_0).writes (Elt F) f (⟨Rect.unit (s := S64x128) ![0, 0] S64x128.size inb_S64x128_S64x128_0_0, w⟩ :: L) = w :=
    fun f w L => hw2' _ w
  · simp only [owns_whole, cc3__pick_body_eq_skeleton]
    unfold cc3__pick_body_skel
    simp only [k3_part1_eq_skeleton, k3_part2_eq_skeleton, k3_part3_eq_skeleton, k3_part4_eq_skeleton]
    unfold k3_part1_skel k3_part2_skel k3_part3_skel k3_part4_skel
    simp only [Prog.lift, Prog.bind_op, Prog.bind_ret, Prog.pure_eq_ret]
    iintro ⟨⟨H0, H1, H2⟩, Hk⟩
    sl_steps
    iapply Hk
    simp only [res, unit, hr0, hr1, hw2, hw2']
    isplitl [H0]
    · iexact H0
    isplitl [H1]
    · iexact H1
    · iexact H2

variable (V : Bufs F)

/-- The block a window takes of its array (the whole array: there is one point). -/
def blkX (c : Dev nD) (t : Fin cfg3.N) : S64x128.Idx → Elt F .f32 :=
  ((cfg3.win 0).blk t).view.read (Elt F) (V c (Pipeline.arrRef spec3 0))
def blkQ (c : Dev nD) (t : Fin cfg3.N) : S64x128.Idx → Elt F .i32 :=
  ((cfg3.win 1).blk t).view.read (Elt F) (V c (Pipeline.arrRef spec3 1))

/-- The call's proof data: after the body the inputs' buffers hold their blocks and the result's buffer the result. -/
def dat (c : Dev nD) : Dat τ (Elt F) Unit ℕ UU ℕ cfg3 c where
  A w := V c (Pipeline.arrRef spec3 w)
  after w t := match w with
    | ⟨0, _⟩ => blkX V c t
    | ⟨1, _⟩ => blkQ V c t
    | ⟨2, _⟩ => res (F := F) (blkX V c t) (blkQ V c t)
  Φ _ := rest spec3 c
  q _ := fullShare
  owed _ := 0

theorem after_2 (c : Dev nD) (t : Fin cfg3.N) : (dat V c).after (2 : Fin 3) t = res (F := F) (blkX V c t) (blkQ V c t) := by
  dsimp only [dat]

theorem before_0 (c : Dev nD) (t : Fin cfg3.N) (d) : (dat V c).before (0 : Fin 3) t d = blkX V c t := by
  unfold Dat.before; rw [if_pos (fetch3_0 t)]; rfl
theorem before_1 (c : Dev nD) (t : Fin cfg3.N) (d) : (dat V c).before (1 : Fin 3) t d = blkQ V c t := by
  unfold Dat.before; rw [if_pos (fetch3_1 t)]; rfl

/-- The library's body obligation. -/
theorem body_obligation (c : Dev nD) : BodyObligationLoose (dat V c) (defs₀ (F := F)) Variants.none () Set.univ := fun t => by
  rw [bigSep_W3, bigSep_W3]
  simp only
  rw [show (dat V c).owesAt () t.succ = (dat V c).owesAt () t.castSucc from rfl,
    show (dat V c).Φ t.castSucc = rest spec3 c from rfl, show (dat V c).Φ t.succ = rest spec3 c from rfl]
  iintro ⟨HΦ, Ho, ⟨%d0, H0⟩, ⟨%d1, H1⟩, ⟨%d2, H2⟩⟩
  rw [before_0 V c t d0, before_1 V c t d1]
  iapply (sound_body (F := F) c Set.univ (blkX V c t) (blkQ V c t) ((dat V c).before 2 t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexact H0
  isplitl [H1]
  · iexact H1
  · change _ ⊢ owns (c : Thread nD τ) (stage3_2 0) fullShare ((dat V c).after (2 : Fin 3) t)
    rw [after_2 V c t]

/-- A window takes its whole array. -/
theorem blkX_eq (c : Dev nD) (t : Fin cfg3.N) : blkX V c t = V c main_case0b1_v29 := by
  funext j
  show V c main_case0b1_v29 (((cfg3.win 0).blk t).view.emb j) = V c main_case0b1_v29 j
  refine congrArg _ (funext fun a => Fin.ext ?_)
  obtain rfl := fin_N3 t
  exact (win3_0.rect_emb_val t3_0 j a).trans (by show 0 * _ + _ = _; rw [Nat.zero_mul, Nat.zero_add])
theorem blkQ_eq (c : Dev nD) (t : Fin cfg3.N) : blkQ V c t = V c main_case0b1_v32 := by
  funext j
  show V c main_case0b1_v32 (((cfg3.win 1).blk t).view.emb j) = V c main_case0b1_v32 j
  refine congrArg _ (funext fun a => Fin.ext ?_)
  obtain rfl := fin_N3 t
  exact (win3_1.rect_emb_val t3_0 j a).trans (by show 0 * _ + _ = _; rw [Nat.zero_mul, Nat.zero_add])

/-- The output array after the call: the result's block. -/
theorem arrAt_out (c : Dev nD) : (dat V c).arrAt (2 : Fin 3) cfg3.N = res (F := F) (V c main_case0b1_v29) (V c main_case0b1_v32) := by
  have hw : win3_2.WholeAt (⟨0, by decide +kernel⟩ : Fin grid3.N) := by decide +kernel
  refine (dat V c).arrAt_eq_of_after_last (2 : Fin 3) ⟨0, by decide +kernel⟩ hw _ fun j => ?_
  rw [after_2 V c, blkX_eq, blkQ_eq]
  generalize res (F := F) (V c main_case0b1_v29) (V c main_case0b1_v32) = R
  rfl

end Cert.KernelIdeal.Pick

end
-- ==== Proof.RegsIdeal.lean ====
/-
  The whole program's run: the four calls as regions, the host operations between them, the choice between the two arms,
  and the launch.
-/
module

public import proofs.«01_k».proof.Proof.GenIdeal
public import proofs.«01_k».proof.Proof.PassRunIdeal
public import proofs.«01_k».proof.Proof.ExactRunIdeal
public import proofs.«01_k».proof.Proof.PickIdeal
public import Idealize.ShloMosaic.Lib.Pipeline.RegionsCase
public import Idealize.ShloMosaic.Lib.HostLoop.Plain
public import Idealize.ShloMosaic.Lib.HostLoop.Lifted

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligationLoose CSeg CaseSeg Ticket ucRefs sub_ucRefs)

variable {F : FTy → Type} [FloatOps F]

local notation "𝕄" => MT nD τ sig Unit (Elt F) ℕ UU ℕ

/-! ## The regions, at any entry contents -/

/-- A call's entry contents per core, as the buffers its proof data read. -/
abbrev bufs (W : Dev nD → Valuation τ sig (Elt F)) : Bufs F := fun c b => W c (Proc.devRef .tc b)

section Regions

variable (V : Fin 4 → Dev nD → Valuation τ sig (Elt F))

/-- Every call's proof data, each at its own entry contents. -/
def pdats (p : Fin 4) (c : Dev nD) : Dat τ (Elt F) Unit ℕ UU ℕ (Pipeline.pin (pcfgs (F := F)) adm p) c :=
  match p with
  | 0 => Noise.dat (bufs (V 0)) c
  | 1 => Pass.dat (bufs (V 1)) c
  | 2 => Exact.dat (bufs (V 2)) c
  | 3 => Pick.dat (bufs (V 3)) c

abbrev 𝒱₀ : Variants := Variants.none

/-- One ticket per call. -/
def tk (j : Fin 4) : Ticket (Ix := Unit) (Name := ℕ) (U := UU) (Lvl := ℕ) (nD := nD) (τ := τ) (pcfgs (F := F)) adm :=
  { p := j, pdats := pdats V, EP := embAt j }

/-- What a thread holds between items: every unscoped buffer, a fact of the core, and nothing owed. -/
abbrev owing (R : Dev nD → Prop) (c : Dev nD) : sProp 𝕄 := iprop(⌜R c⌝ ∗ ∃ W, owes (c : Thread nD τ) (0 : CellTallies nD τ sig Unit) W)
abbrev state (W : Dev nD → Valuation τ sig (Elt F)) (R : Dev nD → Prop) (c : Dev nD) : sProp 𝕄 :=
  iprop(held (c : Thread nD τ) (ucRefs τ sig) (W c) ∗ owing R c)

-- `iapply` of a lemma stated over `cfgs p` at the pinned configuration unifies only when unification may unfold plain
-- definitions in a metavariable's type
set_option backward.isDefEq.respectTransparency.types false in
/-- A call as a region: entered at its entry contents, left at any contents `V'` that have its arrays as its proof data leave
    them and agree with the entry contents elsewhere. -/
def reg (p : Fin 4) (launch : Pipeline.LaunchFacts (nD := nD) (τ := τ) cfgs p) (R : Dev nD → Prop)
    (V' : Dev nD → Valuation τ sig (Elt F))
    (hbody : ∀ c, BodyObligationLoose (pdats V p c) (defs₀ (F := F)) 𝒱₀ () Set.univ)
    (howed : ∀ c t, (pdats V p c).owed t = 0) (hrec : ∀ c, (pdats V p c).recorded 0 = Set.univ)
    (hshare : ∀ c w, (pdats V p c).share w = fullShare)
    (hA : ∀ c w, (pdats V p c).A w = V p c (Proc.devRef .tc (Pipeline.arrRef (Pipeline.pin (pcfgs (F := F)) adm p).spec w)))
    (hV' : ∀ c w, (pdats V p c).arrAt w (Pipeline.pin (pcfgs (F := F)) adm p).N = V' c (Proc.devRef .tc (Pipeline.arrRef (Pipeline.pin (pcfgs (F := F)) adm p).spec w)))
    (hne : ∀ c (b : Ref sig .tc), b ∉ Finset.univ.image (Pipeline.arrRef (Pipeline.pin (pcfgs (F := F)) adm p).spec) → V' c (Proc.devRef .tc b) = V p c (Proc.devRef .tc b))
    (hΦin : ∀ c, (Pipeline.scopedRest (Pipeline.pin (pcfgs (F := F)) adm p).spec c : sProp 𝕄) ⊢ (pdats V p c).Φ 0)
    (hΦout : ∀ c, (pdats V p c).Φ (Fin.last (Pipeline.pin (pcfgs (F := F)) adm p).N) ⊢ (Pipeline.scopedRest (Pipeline.pin (pcfgs (F := F)) adm p).spec c : sProp 𝕄))
    (hK : (Finset.univ : Finset (Fin (pcfgs (F := F) p).pre.K)) = ∅) :
    Pipeline.RegionSeg (pcfgs (F := F)) adm (pdats V) () defs₀ 𝒱₀ L lv p where
  win := launch.win.to₀
  block_pos := launch.block_pos
  stage_whole := launch.stage_whole
  K := PEmpty
  osem k := k.elim
  ho := Pipeline.OwnSemFacts.none _
  hbody c := hbody c
  hwaits := Pipeline.hwaits_of_owed_zero _ _ _ _ L lv p fun c t => howed c t
  pre := state (V p) R
  post := state V' R
  X _ := BI.emp
  Y _ := BI.emp
  Z c := iprop(Pipeline.unscopedRest (Ix := Unit) (Name := ℕ) (U := UU) (Lvl := ℕ) (Pipeline.pin (pcfgs (F := F)) adm p).spec c (bufs (V p) c) ∗ ⌜R c⌝)
  hentry c := by
    rw [Pipeline.ownSems0_none]
    have hsplit := Pipeline.arrays_of_unscopedBufs (p := p) (pcfgs (F := F)) adm (pdats V) launch.win launch.arr_whole c (hshare c) (bufs (V p) c) (hA c)
    unfold state
    rw [← Pipeline.unscopedBufs_held c (V p c)]
    iintro ⟨⟨Hub, HR, HO⟩, -, -⟩
    ihave H := hsplit $$ Hub
    icases H with ⟨Ha, Hrest⟩
    imodintro
    isplitl [Ha]; · iexact Ha
    isplitr; · unfold Pipeline.prefHeld; rw [hK, BI.bigSep_empty]; iempintro
    isplitl [HO]
    · unfold Pipeline.Dat.owesAt Pipeline.owesWithin
      rw [howed c 0]
      icases HO with ⟨%W, HO⟩; iexists W; isplitr; · ipureintro; exact fun x _ => Or.inl (by show x ∈ (pdats V p c).recorded 0; rw [hrec c]; trivial)
      iexact HO
    isplitr; · iempintro
    isplitl [Hrest] <;> iassumption
  hin c := by
    iintro ⟨-, -, Hr⟩
    iapply (hΦin c)
    iexact Hr
  hout c := by
    rw [Pipeline.ownSems0_none]
    iintro Hr
    isplitr; · iempintro
    isplitr; · iempintro
    iapply (hΦout c)
    iexact Hr
  hexit c := by
    have hjoin := Pipeline.unscopedBufs_of_arrays (p := p) (pcfgs (F := F)) adm (Ix := Unit) (Name := ℕ) (U := UU) (Lvl := ℕ) launch.win launch.arr_whole c (pdats V)
      (hshare c) (bufs (V p) c) (bufs V' c) ((pdats V p c).arrAt · (Pipeline.pin (pcfgs (F := F)) adm p).N) (hV' c) (hne c)
    unfold state
    rw [← Pipeline.unscopedBufs_held c (V' c)]
    iintro ⟨Ha, HO, -, Hrest, HR⟩
    imodintro
    isplitl [Ha Hrest]; · iapply hjoin; isplitl [Ha] <;> iassumption
    isplitl [HR]; · iexact HR
    unfold Pipeline.Dat.owesAt Pipeline.owesWithin
    rw [howed c _]
    icases HO with ⟨%W, -, HO⟩; iexists W; iexact HO

end Regions

/-! ## The program's contents, item by item -/

/-- The word the choice reads is the flags' conjunction, widened. -/
abbrev rdOp : HloOp τ sig (Elt F) :=
  StableHlo.unary main_v8 main_v9 ((extui 32 · natLt_1_32) : (⟨S_, .i1⟩ : BufTy).Contents (Elt F) → (⟨S_, .i32⟩ : BufTy).Contents (Elt F))

/-- The operations after the exact call. -/
def opsExact : List (HloOp τ sig (Elt F)) :=
  [ StableHlo.unary main_case0b0_v11 main_case0b0_v12 ((extractStridedSlice S64x1 ![0, 0] · slices_S64x128_S64x1_0_0) : (⟨S64x128, .i32⟩ : BufTy).Contents (Elt F) → (⟨S64x1, .i32⟩ : BufTy).Contents (Elt F)),
    StableHlo.reshape main_case0b0_v12 main_case0b0_v13 (rfl : (.i32 : EltTy) = .i32) shapeCasts_S64x1_S64,
    StableHlo.unary main_case0b0_v13 main_v10 id ]

/-- The operations of the other arm before the gather: the four candidates a row has. -/
def opsCand : List (HloOp τ sig (Elt F)) :=
  [ StableHlo.nullary main_case0b1_c_1 (constantI S_ 32 0#32),
    StableHlo.unary main_case0b1_c_1 main_case0b1_v11 (broadcastInDim S64 ![] bcast_S_S64 : (⟨S_, .i32⟩ : BufTy).Contents (Elt F) → (⟨S64, .i32⟩ : BufTy).Contents (Elt F)),
    StableHlo.binary main_v3 main_case0b1_v11 main_case0b1_v12 (addi : (⟨S64, .i32⟩ : BufTy).Contents (Elt F) → (⟨S64, .i32⟩ : BufTy).Contents (Elt F) → (⟨S64, .i32⟩ : BufTy).Contents (Elt F)),
    StableHlo.nullary main_case0b1_c_2 (constantI S_ 32 8192#32),
    StableHlo.unary main_case0b1_c_2 main_case0b1_v13 (broadcastInDim S64 ![] bcast_S_S64 : (⟨S_, .i32⟩ : BufTy).Contents (Elt F) → (⟨S64, .i32⟩ : BufTy).Contents (Elt F)),
    StableHlo.binary main_v3 main_case0b1_v13 main_case0b1_v14 (addi : (⟨S64, .i32⟩ : BufTy).Contents (Elt F) → (⟨S64, .i32⟩ : BufTy).Contents (Elt F) → (⟨S64, .i32⟩ : BufTy).Contents (Elt F)),
    StableHlo.nullary main_case0b1_c_3 (constantI S_ 32 16384#32),
    StableHlo.unary main_case0b1_c_3 main_case0b1_v15 (broadcastInDim S64 ![] bcast_S_S64 : (⟨S_, .i32⟩ : BufTy).Contents (Elt F) → (⟨S64, .i32⟩ : BufTy).Contents (Elt F)),
    StableHlo.binary main_v3 main_case0b1_v15 main_case0b1_v16 (addi : (⟨S64, .i32⟩ : BufTy).Contents (Elt F) → (⟨S64, .i32⟩ : BufTy).Contents (Elt F) → (⟨S64, .i32⟩ : BufTy).Contents (Elt F)),
    StableHlo.nullary main_case0b1_c_4 (constantI S_ 32 24576#32),
    StableHlo.unary main_case0b1_c_4 main_case0b1_v17 (broadcastInDim S64 ![] bcast_S_S64 : (⟨S_, .i32⟩ : BufTy).Contents (Elt F) → (⟨S64, .i32⟩ : BufTy).Contents (Elt F)),
    StableHlo.binary main_v3 main_case0b1_v17 main_case0b1_v18 (addi : (⟨S64, .i32⟩ : BufTy).Contents (Elt F) → (⟨S64, .i32⟩ : BufTy).Contents (Elt F) → (⟨S64, .i32⟩ : BufTy).Contents (Elt F)),
    StableHlo.unary main_case0b1_v12 main_case0b1_v19 (broadcastInDim S64x1 ![0] bcast_S64_S64x1_0 : (⟨S64, .i32⟩ : BufTy).Contents (Elt F) → (⟨S64x1, .i32⟩ : BufTy).Contents (Elt F)),
    StableHlo.unary main_case0b1_v14 main_case0b1_v20 (broadcastInDim S64x1 ![0] bcast_S64_S64x1_0 : (⟨S64, .i32⟩ : BufTy).Contents (Elt F) → (⟨S64x1, .i32⟩ : BufTy).Contents (Elt F)),
    StableHlo.unary main_case0b1_v16 main_case0b1_v21 (broadcastInDim S64x1 ![0] bcast_S64_S64x1_0 : (⟨S64, .i32⟩ : BufTy).Contents (Elt F) → (⟨S64x1, .i32⟩ : BufTy).Contents (Elt F)),
    StableHlo.unary main_case0b1_v18 main_case0b1_v22 (broadcastInDim S64x1 ![0] bcast_S64_S64x1_0 : (⟨S64, .i32⟩ : BufTy).Contents (Elt F) → (⟨S64x1, .i32⟩ : BufTy).Contents (Elt F)),
    StableHlo.nary ![main_case0b1_v19, main_case0b1_v20, main_case0b1_v21, main_case0b1_v22] main_case0b1_v23 (fun u => (concatenate S64x4 1 [⟨S64x1, (u 0 : (⟨S64x1, .i32⟩ : BufTy).Contents (Elt F))⟩, ⟨S64x1, (u 1 : (⟨S64x1, .i32⟩ : BufTy).Contents (Elt F))⟩, ⟨S64x1, (u 2 : (⟨S64x1, .i32⟩ : BufTy).Contents (Elt F))⟩, ⟨S64x1, (u 3 : (⟨S64x1, .i32⟩ : BufTy).Contents (Elt F))⟩] concatenates_S64x1_S64x1_S64x1_S64x1_S64x4_d1 : (⟨S64x4, .i32⟩ : BufTy).Contents (Elt F))),
    StableHlo.nullary main_case0b1_c_5 (constantI S_ 32 999999#32),
    StableHlo.unary main_case0b1_c_5 main_case0b1_v24 (broadcastInDim S64x4 ![] bcast_S_S64x4 : (⟨S_, .i32⟩ : BufTy).Contents (Elt F) → (⟨S64x4, .i32⟩ : BufTy).Contents (Elt F)),
    StableHlo.binary main_case0b1_v23 main_case0b1_v24 main_case0b1_v25 (minsi : (⟨S64x4, .i32⟩ : BufTy).Contents (Elt F) → (⟨S64x4, .i32⟩ : BufTy).Contents (Elt F) → (⟨S64x4, .i32⟩ : BufTy).Contents (Elt F)) ]

/-- The gather of the candidates' entries. -/
def opsTake : List (HloOp τ sig (Elt F)) :=
  [ StableHlo.TRef.nullary main_case0b1_call0.c (constantI S_ 32 0#32),
    StableHlo.TRef.unary main_case0b1_call0.c main_case0b1_call0.v0 (broadcastInDim S64x4 ![] bcast_S_S64x4),
    StableHlo.TRef.binary (.of main_case0b1_v25) main_case0b1_call0.v0 main_case0b1_call0.v1 (cmpi .slt),
    StableHlo.TRef.nullary main_case0b1_call0.c_0 (constantI S_ 32 1000000#32),
    StableHlo.TRef.unary main_case0b1_call0.c_0 main_case0b1_call0.v2 (broadcastInDim S64x4 ![] bcast_S_S64x4),
    StableHlo.TRef.binary (.of main_case0b1_v25) main_case0b1_call0.v2 main_case0b1_call0.v3 addi,
    StableHlo.TRef.ternary main_case0b1_call0.v1 main_case0b1_call0.v3 (.of main_case0b1_v25) main_case0b1_call0.v4 select,
    StableHlo.TRef.reshape main_case0b1_call0.v4 main_case0b1_call0.v5 (rfl : (.i32 : EltTy) = .i32) shapeCasts_S64x4_S64x4x1,
    StableHlo.TRef.nullary main_case0b1_call0.c_1 (constantI S1 32 999999#32),
    StableHlo.TRef.nullary main_case0b1_call0.c_2 (constantI S_ 32 0#32),
    StableHlo.TRef.unary main_case0b1_call0.c_2 main_case0b1_call0.v6 (broadcastInDim S64x4x1 ![] bcast_S_S64x4x1),
    StableHlo.TRef.binary main_case0b1_call0.v5 main_case0b1_call0.v6 main_case0b1_call0.v7 (cmpi .sge),
    StableHlo.TRef.unary main_case0b1_call0.c_1 main_case0b1_call0.v8 (broadcastInDim S1x1x1 ![2] bcast_S1_S1x1x1_2),
    StableHlo.TRef.unary main_case0b1_call0.v8 main_case0b1_call0.v9 (broadcastInDim S64x4x1 ![0, 1, 2] bcast_S1x1x1_S64x4x1_0_1_2),
    StableHlo.TRef.binary main_case0b1_call0.v5 main_case0b1_call0.v9 main_case0b1_call0.v10 (cmpi .sle),
    StableHlo.TRef.binary main_case0b1_call0.v7 main_case0b1_call0.v10 main_case0b1_call0.v11 andi,
    StableHlo.TRef.nullary main_case0b1_call0.c_3 (constantI S_ 1 1#1),
    StableHlo.TRef.binary main_case0b1_call0.v11 main_case0b1_call0.c_3 main_case0b1_call0.v12 (fun x v => Host.reduce IntOp.andi x v reducesTo_S64x4x1_S64x4_d2 h_S_),
    StableHlo.TRef.binary (.of main_arg0) main_case0b1_call0.v5 main_case0b1_call0.v13 (fun x i => Host.gather gather_S64x1000000_S64x4x1_S64x4_n_1_0_0_1_2_11 x i),
    StableHlo.TRef.nullary main_case0b1_call0.cst (constant S_ .f32 0x7FC00000#32),
    StableHlo.TRef.unary main_case0b1_call0.cst main_case0b1_call0.v14 (broadcastInDim S64x4 ![] bcast_S_S64x4),
    StableHlo.TRef.ternary main_case0b1_call0.v12 main_case0b1_call0.v13 main_case0b1_call0.v14 main_case0b1_call0.v15 select ]

/-- The two paddings before the last call. -/
def opsPad : List (HloOp τ sig (Elt F)) :=
  [ StableHlo.nullary main_case0b1_cst (constant S_ .f32 0x00000000#32),
    StableHlo.unary main_case0b1_cst main_case0b1_v27 (broadcastInDim S64x128 ![] bcast_S_S64x128 : (⟨S_, .f32⟩ : BufTy).Contents (Elt F) → (⟨S64x128, .f32⟩ : BufTy).Contents (Elt F)),
    StableHlo.nullary main_case0b1_c_6 (constantI S_ 32 0#32),
    StableHlo.unary main_case0b1_c_6 main_case0b1_v28 (broadcastInDim S1 ![] bcast_S_S1 : (⟨S_, .i32⟩ : BufTy).Contents (Elt F) → (⟨S1, .i32⟩ : BufTy).Contents (Elt F)),
    StableHlo.ternary main_case0b1_v27 main_case0b1_v28 main_case0b1_v26 main_case0b1_v29 ((fun x i u => Host.scatter scatter_S64x128_S1_S64x4_01_n_1_0 (fun _ b => b) x i u) : (⟨S64x128, .f32⟩ : BufTy).Contents (Elt F) → (⟨S1, .i32⟩ : BufTy).Contents (Elt F) → (⟨S64x4, .f32⟩ : BufTy).Contents (Elt F) → (⟨S64x128, .f32⟩ : BufTy).Contents (Elt F)),
    StableHlo.nullary main_case0b1_c_7 (constantI S_ 32 1000000#32),
    StableHlo.unary main_case0b1_c_7 main_case0b1_v30 (broadcastInDim S64x128 ![] bcast_S_S64x128 : (⟨S_, .i32⟩ : BufTy).Contents (Elt F) → (⟨S64x128, .i32⟩ : BufTy).Contents (Elt F)),
    StableHlo.nullary main_case0b1_c_8 (constantI S_ 32 0#32),
    StableHlo.unary main_case0b1_c_8 main_case0b1_v31 (broadcastInDim S1 ![] bcast_S_S1 : (⟨S_, .i32⟩ : BufTy).Contents (Elt F) → (⟨S1, .i32⟩ : BufTy).Contents (Elt F)),
    StableHlo.ternary main_case0b1_v30 main_case0b1_v31 main_case0b1_v23 main_case0b1_v32 ((fun x i u => Host.scatter scatter_S64x128_S1_S64x4_01_n_1_0 (fun _ b => b) x i u) : (⟨S64x128, .i32⟩ : BufTy).Contents (Elt F) → (⟨S1, .i32⟩ : BufTy).Contents (Elt F) → (⟨S64x4, .i32⟩ : BufTy).Contents (Elt F) → (⟨S64x128, .i32⟩ : BufTy).Contents (Elt F)) ]

/-- The operations after the last call. -/
def opsPick : List (HloOp τ sig (Elt F)) :=
  [ StableHlo.unary main_case0b1_v33 main_case0b1_v34 ((extractStridedSlice S64x1 ![0, 0] · slices_S64x128_S64x1_0_0) : (⟨S64x128, .i32⟩ : BufTy).Contents (Elt F) → (⟨S64x1, .i32⟩ : BufTy).Contents (Elt F)),
    StableHlo.reshape main_case0b1_v34 main_case0b1_v35 (rfl : (.i32 : EltTy) = .i32) shapeCasts_S64x1_S64,
    StableHlo.unary main_case0b1_v35 main_v10 id ]

def opsArm : List (HloOp τ sig (Elt F)) := opsCand ++ (opsTake ++ opsPad)

section Contents

variable (m : (ℓ : Loc nD τ sig) → Buf (Elt F) ℓ)

/-- Before the first call, after it, after the second, after the flags' conjunction, after the read. -/
def W0 (c : Dev nD) : Valuation τ sig (Elt F) := fun b => m ((c : Dev nD), b)
def noise (c : Dev nD) : Buf (Elt F) ((c : Thread nD τ).loc main_v0) := (Noise.dat (bufs (W0 m)) c).arrAt (0 : Fin 1) cfg0.N
def W1 (c : Dev nD) : Valuation τ sig (Elt F) := Function.update (W0 m c) (Proc.devRef .tc main_v0) (noise m c)
def W2 (c : Dev nD) : Valuation τ sig (Elt F) :=
  Function.update (Function.update (W1 m c) (Proc.devRef .tc main_v1_0) (Pass.resI (bufs (W1 m)) c)) (Proc.devRef .tc main_v1_1) (Pass.resF (bufs (W1 m)) c)
def W3 (c : Dev nD) : Valuation τ sig (Elt F) := after hostOps2 (W2 m c)
def W4 (c : Dev nD) : Valuation τ sig (Elt F) := after [rdOp] (W3 m c)
/-- The word read. -/
def word (c : Dev nD) : BitVec 32 := W4 m c main_v9 HostLoop.idx0
/-- The exact arm: after its call, after its operations. -/
def W5 (c : Dev nD) : Valuation τ sig (Elt F) := Function.update (W4 m c) (Proc.devRef .tc main_case0b0_v11) (Exact.resBlk (bufs (W4 m)) c)
def W6 (c : Dev nD) : Valuation τ sig (Elt F) := after opsExact (W5 m c)
/-- The other arm: before its call, after it, after its operations. -/
def W7 (c : Dev nD) : Valuation τ sig (Elt F) := after opsArm (W4 m c)
def W8 (c : Dev nD) : Valuation τ sig (Elt F) := Function.update (W7 m c) (Proc.devRef .tc main_case0b1_v33)
  (Pick.res (F := F) (W7 m c main_case0b1_v29) (W7 m c main_case0b1_v32))
def W9 (c : Dev nD) : Valuation τ sig (Elt F) := after opsPick (W8 m c)

/-- The contents an arm ends with; the program's last contents. -/
def armEnd (b : Fin 2) (c : Dev nD) : Valuation τ sig (Elt F) := match b with | 0 => W6 m c | 1 => W9 m c
def Wend (c : Dev nD) : Valuation τ sig (Elt F) := armEnd m (HostLoop.branch (word m c) 1) c

/-- Each call's entry contents. -/
def Vat (p : Fin 4) : Dev nD → Valuation τ sig (Elt F) := match p with | 0 => W0 m | 1 => W1 m | 2 => W4 m | 3 => W7 m

end Contents

end Cert.KernelIdeal.Whole

end
-- ==== Proof.SegsIdeal.lean ====
/-
  The whole program's run: its items as segments, the choice between its two arms, and the launch.
-/
module

public import proofs.«01_k».proof.Proof.RegsIdeal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligationLoose CSeg CaseSeg Ticket ucRefs sub_ucRefs)

variable {F : FTy → Type} [FloatOps F]

local notation "𝕄" => MT nD τ sig Unit (Elt F) ℕ UU ℕ

variable (m : (ℓ : Loc nD τ sig) → Buf (Elt F) ℓ)

/-! ## The host operations touch unscoped buffers and fill no fresh one -/

theorem opsExact_sub : ∀ op ∈ (opsExact (F := F)), op.bufs ⊆ ucRefs τ sig := by
  intro op h; unfold opsExact at h
  fin_cases h <;> first | exact sub_ucRefs _ (StableHlo.unary_bufs_sub ..) | exact sub_ucRefs _ (StableHlo.reshape_bufs_sub ..)
theorem opsPick_sub : ∀ op ∈ (opsPick (F := F)), op.bufs ⊆ ucRefs τ sig := by
  intro op h; unfold opsPick at h
  fin_cases h <;> first | exact sub_ucRefs _ (StableHlo.unary_bufs_sub ..) | exact sub_ucRefs _ (StableHlo.reshape_bufs_sub ..)
theorem opsCand_sub : ∀ op ∈ (opsCand (F := F)), op.bufs ⊆ ucRefs τ sig := fun op h => sub_ucRefs op (List.forall_iff_forall_mem.mp
  (show (opsCand (F := F)).Forall fun op => op.bufs ⊆ StableHlo.tcRefs τ sig from ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub ..⟩) op h)
theorem opsTake_sub : ∀ op ∈ (opsTake (F := F)), op.bufs ⊆ ucRefs τ sig := fun op h => sub_ucRefs op (List.forall_iff_forall_mem.mp
  (show (opsTake (F := F)).Forall fun op => op.bufs ⊆ StableHlo.tcRefs τ sig from ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩) op h)
theorem opsPad_sub : ∀ op ∈ (opsPad (F := F)), op.bufs ⊆ ucRefs τ sig := fun op h => sub_ucRefs op (List.forall_iff_forall_mem.mp
  (show (opsPad (F := F)).Forall fun op => op.bufs ⊆ StableHlo.tcRefs τ sig from ⟨StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub ..⟩) op h)
theorem opsArm_sub : ∀ op ∈ (opsArm (F := F)), op.bufs ⊆ ucRefs τ sig := by
  intro op h; unfold opsArm at h
  rcases List.mem_append.mp h with h | h
  · exact opsCand_sub op h
  rcases List.mem_append.mp h with h | h
  · exact opsTake_sub op h
  · exact opsPad_sub op h

theorem opsExact_fresh : ∀ op ∈ (opsExact (F := F)), op.fresh = ∅ := by intro op h; unfold opsExact at h; fin_cases h <;> rfl
theorem opsPick_fresh : ∀ op ∈ (opsPick (F := F)), op.fresh = ∅ := by intro op h; unfold opsPick at h; fin_cases h <;> rfl
theorem opsArm_fresh : ∀ op ∈ (opsArm (F := F)), op.fresh = ∅ := by
  intro op h; unfold opsArm at h
  rcases List.mem_append.mp h with h | h
  · unfold opsCand at h; fin_cases h <;> rfl
  rcases List.mem_append.mp h with h | h
  · unfold opsTake at h; fin_cases h <;> rfl
  · unfold opsPad at h; fin_cases h <;> rfl

/-! ## The argument reaches every call as launched -/

theorem opsExact_arg : ∀ op ∈ (opsExact (F := F)), (Proc.devRef .tc main_arg0 : DevRef τ sig) ∉ op.writes := by
  intro op h; unfold opsExact at h
  fin_cases h <;> exact Finset.notMem_singleton.mpr (StableHlo.devRef_ne_of_ne (by decide))
theorem opsPick_arg : ∀ op ∈ (opsPick (F := F)), (Proc.devRef .tc main_arg0 : DevRef τ sig) ∉ op.writes := by
  intro op h; unfold opsPick at h
  fin_cases h <;> exact Finset.notMem_singleton.mpr (StableHlo.devRef_ne_of_ne (by decide))
theorem opsArm_arg : ∀ op ∈ (opsArm (F := F)), (Proc.devRef .tc main_arg0 : DevRef τ sig) ∉ op.writes := by
  intro op h; unfold opsArm at h
  rcases List.mem_append.mp h with h | h
  · unfold opsCand at h; fin_cases h <;> exact Finset.notMem_singleton.mpr (StableHlo.devRef_ne_of_ne (by decide))
  rcases List.mem_append.mp h with h | h
  · unfold opsTake at h; fin_cases h <;> exact Finset.notMem_singleton.mpr (StableHlo.devRef_ne_of_ne (by decide))
  · unfold opsPad at h; fin_cases h <;> exact Finset.notMem_singleton.mpr (StableHlo.devRef_ne_of_ne (by decide))
theorem hostOps2_arg : ∀ op ∈ (hostOps2 (F := F)), (Proc.devRef .tc main_arg0 : DevRef τ sig) ∉ op.writes := by
  intro op h; unfold hostOps2 at h
  fin_cases h <;> exact Finset.notMem_singleton.mpr (StableHlo.devRef_ne_of_ne (by decide))

theorem W1_arg (c : Dev nD) : W1 m c main_arg0 = m ((c : Thread nD τ).loc main_arg0) := by
  unfold W1; exact Function.update_of_ne (StableHlo.devRef_ne_of_ne (by decide)) _ _
theorem W2_arg (c : Dev nD) : W2 m c main_arg0 = m ((c : Thread nD τ).loc main_arg0) := by
  unfold W2
  exact (Function.update_of_ne (StableHlo.devRef_ne_of_ne (by decide)) _ _).trans ((Function.update_of_ne (StableHlo.devRef_ne_of_ne (by decide)) _ _).trans (W1_arg m c))
theorem W3_arg (c : Dev nD) : W3 m c main_arg0 = m ((c : Thread nD τ).loc main_arg0) :=
  (StableHlo.after_of_forall_not_mem (b := Proc.devRef .tc main_arg0) hostOps2 (W2 m c) hostOps2_arg).trans (W2_arg m c)
theorem W4_arg (c : Dev nD) : W4 m c main_arg0 = m ((c : Thread nD τ).loc main_arg0) := by
  refine (StableHlo.after_of_forall_not_mem (b := Proc.devRef .tc main_arg0) [rdOp] (W3 m c) ?_).trans (W3_arg m c)
  intro op h; obtain rfl := List.mem_singleton.mp h
  exact Finset.notMem_singleton.mpr (StableHlo.devRef_ne_of_ne (by decide))
theorem W7_arg (c : Dev nD) : W7 m c main_arg0 = m ((c : Thread nD τ).loc main_arg0) :=
  (StableHlo.after_of_forall_not_mem (b := Proc.devRef .tc main_arg0) opsArm (W4 m c) opsArm_arg).trans (W4_arg m c)
theorem armEnd_arg (b : Fin 2) (c : Dev nD) : armEnd m b c main_arg0 = m ((c : Thread nD τ).loc main_arg0) := by
  fin_cases b
  · refine (StableHlo.after_of_forall_not_mem (b := Proc.devRef .tc main_arg0) opsExact (W5 m c) opsExact_arg).trans ?_
    unfold W5
    exact (Function.update_of_ne (StableHlo.devRef_ne_of_ne (by decide)) _ _).trans (W4_arg m c)
  · refine (StableHlo.after_of_forall_not_mem (b := Proc.devRef .tc main_arg0) opsPick (W8 m c) opsPick_arg).trans ?_
    unfold W8
    exact (Function.update_of_ne (StableHlo.devRef_ne_of_ne (by decide)) _ _).trans (W7_arg m c)

/-! ## A call changes its result arrays alone -/

theorem W1_out (c : Dev nD) : W1 m c (Proc.devRef .tc main_v0) = noise m c := by unfold W1; exact Function.update_self (Proc.devRef .tc main_v0 : DevRef τ sig) _ _
theorem W1_ne (c : Dev nD) (b : Ref sig .tc) (h : b ≠ main_v0) : W1 m c (Proc.devRef .tc b) = W0 m c (Proc.devRef .tc b) := by
  unfold W1; exact Function.update_of_ne (StableHlo.devRef_ne_of_ne h) _ _
theorem W2_I (c : Dev nD) : W2 m c (Proc.devRef .tc main_v1_0) = Pass.resI (bufs (W1 m)) c := by
  unfold W2; exact (Function.update_of_ne (StableHlo.devRef_ne_of_ne (by decide)) _ _).trans (Function.update_self (Proc.devRef .tc main_v1_0 : DevRef τ sig) _ _)
theorem W2_F (c : Dev nD) : W2 m c (Proc.devRef .tc main_v1_1) = Pass.resF (bufs (W1 m)) c := by
  unfold W2; exact Function.update_self (Proc.devRef .tc main_v1_1 : DevRef τ sig) _ _
theorem W2_ne (c : Dev nD) (b : Ref sig .tc) (h : b ≠ main_v1_0) (h' : b ≠ main_v1_1) : W2 m c (Proc.devRef .tc b) = W1 m c (Proc.devRef .tc b) := by
  unfold W2; exact (Function.update_of_ne (StableHlo.devRef_ne_of_ne h') _ _).trans (Function.update_of_ne (StableHlo.devRef_ne_of_ne h) _ _)
theorem W5_out (c : Dev nD) : W5 m c (Proc.devRef .tc main_case0b0_v11) = Exact.resBlk (bufs (W4 m)) c := by
  unfold W5; exact Function.update_self (Proc.devRef .tc main_case0b0_v11 : DevRef τ sig) _ _
theorem W5_ne (c : Dev nD) (b : Ref sig .tc) (h : b ≠ main_case0b0_v11) : W5 m c (Proc.devRef .tc b) = W4 m c (Proc.devRef .tc b) := by
  unfold W5; exact Function.update_of_ne (StableHlo.devRef_ne_of_ne h) _ _
theorem W8_out (c : Dev nD) : W8 m c (Proc.devRef .tc main_case0b1_v33) = Pick.res (F := F) (W7 m c main_case0b1_v29) (W7 m c main_case0b1_v32) := by
  unfold W8; exact Function.update_self (Proc.devRef .tc main_case0b1_v33 : DevRef τ sig) _ _
theorem W8_ne (c : Dev nD) (b : Ref sig .tc) (h : b ≠ main_case0b1_v33) : W8 m c (Proc.devRef .tc b) = W7 m c (Proc.devRef .tc b) := by
  unfold W8; exact Function.update_of_ne (StableHlo.devRef_ne_of_ne h) _ _

/-! ## The four regions -/

set_option backward.isDefEq.respectTransparency.types false in
/-- The noise call. -/
def reg0 : Pipeline.RegionSeg (pcfgs (F := F)) adm (pdats (Vat m)) () defs₀ 𝒱₀ L lv 0 :=
  reg (Vat m) 0 launch0 (fun _ => True) (W1 m) (fun c => Noise.body_obligation (bufs (Vat m 0)) c) (fun _ _ => rfl) (fun _ => rfl)
    (fun c w => (pdats (Vat m) 0 c).share_full (fun _ => rfl) w) (fun _ _ => rfl)
    (fun c w => match w with
      | ⟨0, _⟩ => (W1_out m c).symm)
    (fun c b hb => W1_ne m c b fun h => hb (by rw [h]; exact Finset.mem_image.mpr ⟨(0 : Fin 1), Finset.mem_univ _, rfl⟩))
    (fun _ => .rfl) (fun _ => .rfl) rfl

set_option backward.isDefEq.respectTransparency.types false in
/-- The first pass. -/
def reg1 : Pipeline.RegionSeg (pcfgs (F := F)) adm (pdats (Vat m)) () defs₀ 𝒱₀ L lv 1 :=
  reg (Vat m) 1 launch1 (fun _ => True) (W2 m) (fun c => Pass.body_obligation (bufs (Vat m 1)) c) (fun _ _ => rfl) (fun _ => rfl)
    (fun c w => (pdats (Vat m) 1 c).share_full (fun _ => rfl) w) (fun _ _ => rfl)
    (fun c w => match w with
      | ⟨0, _⟩ => ((pdats (Vat m) 1 c).arrAt_in (0 : Fin 4) rfl _).trans (W2_ne m c main_arg0 (by decide) (by decide)).symm
      | ⟨1, _⟩ => ((pdats (Vat m) 1 c).arrAt_in (1 : Fin 4) rfl _).trans (W2_ne m c main_v0 (by decide) (by decide)).symm
      | ⟨2, _⟩ => (Pass.arrAt_I (bufs (Vat m 1)) c).trans (W2_I m c).symm
      | ⟨3, _⟩ => (Pass.arrAt_F (bufs (Vat m 1)) c).trans (W2_F m c).symm)
    (fun c b hb => W2_ne m c b (fun h => hb (by rw [h]; exact Finset.mem_image.mpr ⟨(2 : Fin 4), Finset.mem_univ _, rfl⟩)) (fun h => hb (by rw [h]; exact Finset.mem_image.mpr ⟨(3 : Fin 4), Finset.mem_univ _, rfl⟩)))
    (fun c => Pass.scr_in (bufs (Vat m 1)) c) (fun c => Pass.scr_out (bufs (Vat m 1)) c _) rfl

/-- The arm the word names. -/
abbrev named (b : Fin 2) (c : Dev nD) : Prop := b = HostLoop.branch (word m c) 1

set_option backward.isDefEq.respectTransparency.types false in
/-- The exact call. -/
def reg2 : Pipeline.RegionSeg (pcfgs (F := F)) adm (pdats (Vat m)) () defs₀ 𝒱₀ L lv 2 :=
  reg (Vat m) 2 launch2 (named m 0) (W5 m) (fun c => Exact.body_obligation (bufs (Vat m 2)) c) (fun _ _ => rfl) (fun _ => rfl)
    (fun c w => (pdats (Vat m) 2 c).share_full (fun _ => rfl) w) (fun _ _ => rfl)
    (fun c w => match w with
      | ⟨0, _⟩ => ((pdats (Vat m) 2 c).arrAt_in (0 : Fin 2) rfl _).trans (W5_ne m c main_arg0 (by decide)).symm
      | ⟨1, _⟩ => (Exact.arrAt_out (bufs (Vat m 2)) c).trans (W5_out m c).symm)
    (fun c b hb => W5_ne m c b fun h => hb (by rw [h]; exact Finset.mem_image.mpr ⟨(1 : Fin 2), Finset.mem_univ _, rfl⟩))
    (fun c => Exact.scr_in (bufs (Vat m 2)) c) (fun c => Exact.scr_out (bufs (Vat m 2)) c _) rfl

/-- The last call's arrays after it. -/
theorem end3_0 (c : Dev nD) : (Pick.dat (bufs (W7 m)) c).arrAt (0 : Fin 3) cfg3.N = W8 m c (Proc.devRef .tc main_case0b1_v29) := by
  refine ((Pick.dat (bufs (W7 m)) c).arrAt_in (0 : Fin 3) rfl _).trans ?_
  rw [W8_ne m c main_case0b1_v29 (by decide)]; rfl
theorem end3_1 (c : Dev nD) : (Pick.dat (bufs (W7 m)) c).arrAt (1 : Fin 3) cfg3.N = W8 m c (Proc.devRef .tc main_case0b1_v32) := by
  refine ((Pick.dat (bufs (W7 m)) c).arrAt_in (1 : Fin 3) rfl _).trans ?_
  rw [W8_ne m c main_case0b1_v32 (by decide)]; rfl
theorem end3_2 (c : Dev nD) : (Pick.dat (bufs (W7 m)) c).arrAt (2 : Fin 3) cfg3.N = W8 m c (Proc.devRef .tc main_case0b1_v33) :=
  (Pick.arrAt_out (bufs (W7 m)) c).trans (W8_out m c).symm
theorem end3 (c : Dev nD) (w : Fin 3) : (Pick.dat (bufs (W7 m)) c).arrAt w cfg3.N = W8 m c (Proc.devRef .tc (Pipeline.arrRef spec3 w)) := by
  fin_cases w
  · exact end3_0 m c
  · exact end3_1 m c
  · exact end3_2 m c

theorem ne3 (c : Dev nD) (b : Ref sig .tc) (hb : b ∉ Finset.univ.image (Pipeline.arrRef spec3)) : W8 m c (Proc.devRef .tc b) = W7 m c (Proc.devRef .tc b) :=
  W8_ne m c b fun h => hb (by rw [h]; exact Finset.mem_image.mpr ⟨(2 : Fin 3), Finset.mem_univ _, rfl⟩)

set_option backward.isDefEq.respectTransparency.types false in
/-- The last call. -/
def reg3 : Pipeline.RegionSeg (pcfgs (F := F)) adm (pdats (Vat m)) () defs₀ 𝒱₀ L lv 3 :=
  reg (Vat m) 3 launch3 (named m 1) (W8 m) (fun c => Pick.body_obligation (bufs (Vat m 3)) c) (fun _ _ => rfl) (fun _ => rfl)
    (fun c w => (pdats (Vat m) 3 c).share_full (fun _ => rfl) w) (fun _ _ => rfl)
    (fun c w => end3 m c w)
    (fun c b hb => ne3 m c b hb)
    (fun c => Entails.of_eq (show rest (F := F) spec3 c = (Pick.dat (bufs (W7 m)) c).Φ 0 from rfl)) (fun c => Entails.of_eq (show (Pick.dat (bufs (W7 m)) c).Φ (Fin.last cfg3.N) = rest (F := F) spec3 c from rfl)) rfl

/-! ## The choice -/

/-- The two arms, as items. -/
def arm : Fin 2 → Prog (TpuEff nD τ sig (Elt F) (Pipeline.Sig Λ₀ (Fin 4) fun p => (pcfgs (F := F) p).Adm) .tc) PUnit
  | 0 => Pipeline.chain [Prog.lift (.customCall (Pipeline.entry 2) ()), StableHlo.seq opsExact]
  | 1 => Pipeline.chain [StableHlo.seq opsArm, Prog.lift (.customCall (Pipeline.entry 3) ()), StableHlo.seq opsPick]

/-- No host loop. -/
abbrev loops : Fin 0 → Prog (TpuEff nD τ sig (Elt F) (HostLoop.Sig (Pipeline.Sig Λ₀ (Fin 4) fun p => (pcfgs (F := F) p).Adm) 0) .tc) PUnit := fun l => l.elim0

abbrev SegT : Type _ := CSeg (pcfgs (F := F)) adm (defs₀ (F := F)) 𝒱₀ L lv (loops (F := F)) (tk (Vat m))

set_option backward.isDefEq.respectTransparency.types false in
/-- The regions as segments. -/
def call0 : SegT m := CSeg.region _ _ () cellOf_inj _ _ _ _ _ _ (0 : Fin 4) (reg0 m)
set_option backward.isDefEq.respectTransparency.types false in
def call1 : SegT m := CSeg.region _ _ () cellOf_inj _ _ _ _ _ _ (1 : Fin 4) (reg1 m)
set_option backward.isDefEq.respectTransparency.types false in
def call2 : SegT m := CSeg.region _ _ () cellOf_inj _ _ _ _ _ _ (2 : Fin 4) (reg2 m)
set_option backward.isDefEq.respectTransparency.types false in
def call3 : SegT m := CSeg.region _ _ () cellOf_inj _ _ _ _ _ _ (3 : Fin 4) (reg3 m)

/-- The stretches of host operations as segments. -/
def flags : SegT m := CSeg.ofOps _ _ _ _ _ _ _ _ (ucRefs τ sig) hostOps2
  (fun op h => sub_ucRefs op (List.forall_iff_forall_mem.mp hostOps2_sub op h)) (by intro op h; unfold hostOps2 at h; fin_cases h <;> rfl) (W2 m) (owing fun _ => True)
def exactTail : SegT m := CSeg.ofOps _ _ _ _ _ _ _ _ (ucRefs τ sig) opsExact opsExact_sub opsExact_fresh (W5 m) (owing (named m 0))
def armHead : SegT m := CSeg.ofOps _ _ _ _ _ _ _ _ (ucRefs τ sig) opsArm opsArm_sub opsArm_fresh (W4 m) (owing (named m 1))
def pickTail : SegT m := CSeg.ofOps _ _ _ _ _ _ _ _ (ucRefs τ sig) opsPick opsPick_sub opsPick_fresh (W8 m) (owing (named m 1))

def armSegs : Fin 2 → List (SegT m)
  | 0 => [call2 m, exactTail m]
  | 1 => [armHead m, call3 m, pickTail m]

/-- The read as printed, over the host loops' labels. -/
abbrev rdProg : Prog (TpuEff nD τ sig (Elt F) (HostLoop.Sig (Pipeline.Sig Λ₀ (Fin 4) fun p => (pcfgs (F := F) p).Adm) 0) .tc) (BitVec 32) :=
  hlo rfl (rdOp (F := F)) (HostLoop.elt main_v9)

abbrev mid (v : BitVec 32) (c : Dev nD) : sProp 𝕄 :=
  iprop(held (c : Thread nD τ) (ucRefs τ sig) (W4 m c) ∗ ⌜v = word m c⌝ ∗ ∃ W, owes (c : Thread nD τ) (0 : CellTallies nD τ sig Unit) W)
abbrev alive : Fin (1 + 1) → Prop := fun _ => True

set_option backward.isDefEq.respectTransparency.types false in
/-- The read: one operation, its result read for its element. -/
theorem read_spec (c : Dev nD) (bd : Option (Variants.lift 𝒱₀).V) :
    iprop(boundary (c : Thread nD τ) ∗ state (W3 m) (fun _ => True) c)
      ⊢ wp frame (wpE (HostLoop.defs (loops (F := F)) (Pipeline.defs (pcfgs (F := F)) defs₀)) (Variants.lift 𝒱₀) (c : Thread nD τ) bd) Set.univ (rdProg (F := F))
          (fun v => iprop(⌜alive (HostLoop.branch v 1)⌝ ∗ boundary (c : Thread nD τ) ∗ mid m v c)) := by
  unfold rdProg
  iintro ⟨Hb, Hh, -, HR⟩
  iapply (StableHlo.wp_hlo_within (Variants.lift 𝒱₀) (c : Thread nD τ) bd Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold W4; rw [StableHlo.after_cons, StableHlo.after_nil]; iexact Hh
  isplitr; · ipureintro; rfl
  iexact HR

/-- The arm the word names runs from the read to the program's last contents. -/
theorem arm_chain (c : Dev nD) (v : BitVec 32) (b : Fin 2) (hb : HostLoop.branch v 1 = b) :
    CSeg.ChainsAt c (mid m v) (armSegs m b) (state (Wend m) fun _ => True) := by
  have hin : mid m v c ⊢ state (W4 m) (named m b) c := by
    iintro ⟨Hh, %hv, HR⟩
    isplitl [Hh]; · iexact Hh
    isplitr; · ipureintro; show b = _; rw [← hb, hv]
    iexact HR
  have hout : state (armEnd m b) (named m b) c ⊢ state (Wend m) (fun _ => True) c := by
    iintro ⟨Hh, %hv, HR⟩
    unfold state
    rw [show Wend m c = armEnd m b c from by unfold Wend; rw [← hv]]
    isplitl [Hh]; · iexact Hh
    isplitr; · ipureintro; trivial
    iexact HR
  fin_cases b
  · exact ⟨hin, .rfl, hout⟩
  · exact ⟨hin, .rfl, .rfl, hout⟩

/-- The choice's record. -/
def choiceW : CaseSeg (pcfgs (F := F)) adm (defs₀ (F := F)) 𝒱₀ L lv (loops (F := F)) (tk (Vat m)) :=
  { on := fun _ => True
    N := 1
    rd := rdProg
    br := fun b => HostLoop.liftProg (L := 0) (arm b)
    pre := state (W3 m) fun _ => True
    mid := mid m
    post := state (Wend m) fun _ => True
    live := alive
    hrd := fun c _ bd => read_spec m c bd
    segs := armSegs m
    hch := fun c _ v _ => arm_chain m c v _ rfl
    hbr := fun b _ => by
      fin_cases b <;>
      · show HostLoop.liftProg (L := 0) (Pipeline.chain _) = _
        rw [HostLoop.liftProg_chain]
        simp only [List.map_cons, List.map_nil, HostLoop.liftProg_seq]
        rfl
    B := max ((Pipeline.pin (pcfgs (F := F)) adm 2).tripCount + 1) ((Pipeline.pin (pcfgs (F := F)) adm 3).tripCount + 1)
    hM := fun b _ s hs => by
      fin_cases b <;> unfold armSegs at hs <;> fin_cases hs <;>
        first | exact Nat.zero_le _ | exact le_max_left _ _ | exact le_max_right _ _
    T := {2, 3}
    hT := fun b _ s hs => by
      fin_cases b <;> unfold armSegs at hs <;> fin_cases hs <;>
        first | exact Finset.empty_subset _ | (show ({2} : Finset (Fin 4)) ⊆ {2, 3}; decide) | (show ({3} : Finset (Fin 4)) ⊆ {2, 3}; decide)
    hdisT := fun b _ => by
      fin_cases b <;> unfold armSegs
      · exact List.pairwise_pair.mpr (by show Disjoint ({2} : Finset (Fin 4)) ∅; decide)
      · refine List.pairwise_cons.mpr ⟨fun s _ => by show Disjoint (∅ : Finset (Fin 4)) _; exact Finset.disjoint_empty_left _, List.pairwise_pair.mpr (by show Disjoint ({3} : Finset (Fin 4)) ∅; decide)⟩ }

def choice : SegT m := CSeg.case _ _ _ _ _ _ _ _ (choiceW m)

/-- The program as segments. -/
def segs : List (SegT m) := [call0 m, call1 m, flags m, choice m]

theorem segs_chain : CSeg.Chains (state (W0 m) fun _ => True) (segs m) (state (Wend m) fun _ => True) :=
  ⟨fun _ => .rfl, fun _ => .rfl, fun _ => .rfl, fun _ => CSeg.case_pre _ _ _ _ _ _ _ _ (choiceW m) trivial, fun _ => .rfl⟩

/-- The program over the host loops' labels is the segments' chain. -/
theorem lift_main (c : Dev nD) : HostLoop.liftProg (L := 0) (main (F := F) c) = Pipeline.chain ((segs m).map CSeg.prog) := by
  rw [main_chain, HostLoop.liftProg_chain]
  refine congrArg Pipeline.chain ?_
  simp only [List.map_cons, List.map_nil, HostLoop.liftProg_seq, segs]
  refine congrArg (List.cons _) (congrArg (List.cons _) (congrArg (List.cons _) (congrArg (· :: []) ?_)))
  rw [HostLoop.liftProg_bind]
  refine congrArg (rdProg (F := F) >>= ·) (funext fun x => ?_)
  rw [HostLoop.liftProg_case]
  refine congrArg (HostLoop.case 2 x) (funext fun b => ?_)
  fin_cases b
  · refine congrArg (HostLoop.liftProg (L := 0)) ?_
    show _ = Pipeline.chain [Prog.lift (.customCall (Pipeline.entry 2) ()), StableHlo.seq opsExact]
    chain_rfl
  · refine congrArg (HostLoop.liftProg (L := 0)) ?_
    show _ = Pipeline.chain [StableHlo.seq opsArm, Prog.lift (.customCall (Pipeline.entry 3) ()), StableHlo.seq opsPick]
    chain_rfl

end Cert.KernelIdeal.Whole

end
-- ==== Proof.RunIdeal.lean ====
/-
  The whole program's run: every weakly fair execution terminates with every buffer at the contents computed item by item.
-/
module

public import proofs.«01_k».proof.Proof.SegsIdeal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligationLoose CSeg CaseSeg Ticket ucRefs sub_ucRefs)

variable {F : FTy → Type} [FloatOps F]

local notation "𝕄" => MT nD τ sig Unit (Elt F) ℕ UU ℕ

variable (m : (ℓ : Loc nD τ sig) → Buf (Elt F) ℓ) (ρ : Dev nD → PrngReg)

/-- The launch element: one copy of the pipeline library's per call; no counter yet. -/
def u₀ : UU := (fun _ => initOf (Pipeline.cells cfgs cellOf_inj) (Pipeline.launchToks cfgs cellOf_inj), 1)

/-- What holds at the end: the result and the argument at the last contents, every semaphore at zero. -/
def Post : PUnit × MemSt nD τ sig (Elt F) → Prop := fun r =>
  (∀ c : Dev nD, r.2.mem ((c : Thread nD τ).loc main_v10) = Wend m c main_v10 ∧ r.2.mem ((c : Thread nD τ).loc main_arg0) = m ((c : Thread nD τ).loc main_arg0))
    ∧ r.2.sem = fun _ => 0

set_option backward.isDefEq.respectTransparency.types false in
/-- The lifted program's run. -/
theorem run_lift : θ_run (HostLoop.defs (loops (F := F)) (Pipeline.defs (pcfgs (F := F)) defs₀)) (onTc (τ := τ) fun c => HostLoop.liftProg (L := 0) (main (F := F) c))
    ⟨m, fun _ => 0, ρ⟩ (Post m) :=
  Pipeline.θ_run_regions_loop_kit_sems (pcfgs (F := F)) adm cellOf_inj defs₀ 𝒱₀ L lv loops (tk (Vat m)) m ρ (fun c => HostLoop.liftProg (L := 0) (main (F := F) c)) (segs m)
    (fun c Q => by rw [lift_main m c]; exact .rfl)
    (by
      unfold segs
      refine List.pairwise_cons.mpr ⟨fun s hs => ?_, List.pairwise_cons.mpr ⟨fun s hs => ?_, List.pairwise_pair.mpr ?_⟩⟩
      · fin_cases hs
        · show Disjoint ({0} : Finset (Fin 4)) {1}; decide
        · show Disjoint ({0} : Finset (Fin 4)) ∅; decide
        · show Disjoint ({0} : Finset (Fin 4)) {2, 3}; decide
      · fin_cases hs
        · show Disjoint ({1} : Finset (Fin 4)) ∅; decide
        · show Disjoint ({1} : Finset (Fin 4)) {2, 3}; decide
      · show Disjoint (∅ : Finset (Fin 4)) _; exact Finset.disjoint_empty_left _)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]
      · iapply (own_iprod _)
        iexact HP
      iapply (show (BI.emp : sProp 𝕄) ⊢ bigSep Finset.univ (fun _ : Dev nD => (BI.emp : sProp 𝕄)) from by rw [BI.bigSep_emp_const])
      iempintro)
    (T₀ := state (W0 m) fun _ => True) (Tₙ := fun c => iprop(held (c : Thread nD τ) (ucRefs τ sig) (Wend m c)))
    (hch := by
      refine ⟨fun _ => .rfl, fun _ => .rfl, fun _ => .rfl, fun _ => CSeg.case_pre _ _ _ _ _ _ _ _ (choiceW m) trivial, fun c => ?_⟩
      show state (Wend m) (fun _ => True) c ⊢ _
      iintro ⟨Hh, -, HO⟩
      isplitl [Hh]; · iexact Hh
      iexact HO)
    (hinit := by
      refine Pipeline.initEach L lv fun c => ?_
      rw [show unscopedBufs c (fun b => m ((c : Thread nD τ).loc b)) = held (c : Thread nD τ) (ucRefs τ sig) (W0 m c) from Pipeline.unscopedBufs_held c (W0 m c)]
      iintro ⟨⟨Hh, -, HO, -, -, -⟩, -⟩
      imodintro
      isplitl [Hh]; · iexact Hh
      isplitr; · ipureintro; trivial
      iexists ∅; iexact HO)
    (QY := fun c s => ∀ b ∈ ucRefs τ sig, s.mem ((c : Dev nD), b) = Wend m c b)
    (hfin := fun c s' => by
      unfold held
      iintro ⟨Hh, HSI⟩
      ihave Hr := (pointsTo_read_all (ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun s h hz => ⟨fun c => ⟨h c _ (Pipeline.devRef_mem_ucRefs (b := main_v10) (by decide)), (h c _ (Pipeline.devRef_mem_ucRefs (b := main_arg0) (by decide))).trans (armEnd_arg m _ c)⟩,
      funext fun g => hz g (.inr (by revert g; decide))⟩)

/-- The program's run. -/
theorem run_main : θ_run defs (onTc (τ := τ) (main (F := F))) ⟨m, fun _ => 0, ρ⟩ (Post m) :=
  HostLoop.θ_run_of_lift (L := 0) loops defs main _ _ (run_lift m ρ)

end Cert.KernelIdeal.Whole

end
-- ==== Proof.HostReads.lean ====
/-
  What the host's operations leave, as arrays of what they read: the flags' conjunction, the four candidates of a row,
  their entries, the two padded blocks, and the two arms' results.
-/
module

public import proofs.«01_k».proof.Proof.SegsIdeal
public import Idealize.ShloMosaic.Lib.StableHlo.RunRead

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic Idealize.SL.Sem
open Idealize.ShloMosaic.StableHlo (after)

variable {F : FTy → Type} [FloatOps F]

/-- The first column of a block, as a vector. -/
def firstCol (x : IVec S64x128 32) : IVec S64 32 := shapeCast S64 (extractStridedSlice S64x1 ![0, 0] x slices_S64x128_S64x1_0_0) shapeCasts_S64x1_S64

/-- Whether every row's flag is set. -/
def allSet (x : IVec S64x128 32) : IVec S_ 1 :=
  Host.reduce IntOp.andi (cmpi .ne (firstCol x) (broadcastInDim S64 ![] bcast_S_S64 (constantI S_ 32 0#32))) (constantI S_ 1 1#1) reducesTo_S64_S_d0 h_S_

/-- A vector plus a constant, as a column. -/
def colPlus (a : IVec S64 32) (w : BitVec 32) : IVec S64x1 32 :=
  broadcastInDim S64x1 ![0] bcast_S64_S64x1_0 (addi a (broadcastInDim S64 ![] bcast_S_S64 (constantI S_ 32 w)))

/-- A row's four candidates. -/
def cands (a : IVec S64 32) : IVec S64x4 32 :=
  concatenate S64x4 1 [⟨S64x1, colPlus a 0#32⟩, ⟨S64x1, colPlus a 8192#32⟩, ⟨S64x1, colPlus a 16384#32⟩, ⟨S64x1, colPlus a 24576#32⟩]
    concatenates_S64x1_S64x1_S64x1_S64x1_S64x4_d1

/-- The candidates, none past the last column. -/
def clamped (a : IVec S64 32) : IVec S64x4 32 := minsi (cands a) (broadcastInDim S64x4 ![] bcast_S_S64x4 (constantI S_ 32 999999#32))

/-- The take's index words: a negative one counts from the end. -/
def wrapped (q : IVec S64x4 32) : IVec S64x4x1 32 :=
  shapeCast S64x4x1 (select (cmpi .slt q (broadcastInDim S64x4 ![] bcast_S_S64x4 (constantI S_ 32 0#32)))
    (addi q (broadcastInDim S64x4 ![] bcast_S_S64x4 (constantI S_ 32 1000000#32))) q) shapeCasts_S64x4_S64x4x1

/-- Which of them are in range. -/
def inside (i : IVec S64x4x1 32) : IVec S64x4 1 :=
  Host.reduce IntOp.andi (andi (cmpi .sge i (broadcastInDim S64x4x1 ![] bcast_S_S64x4x1 (constantI S_ 32 0#32)))
    (cmpi .sle i (broadcastInDim S64x4x1 ![0, 1, 2] bcast_S1x1x1_S64x4x1_0_1_2 (broadcastInDim S1x1x1 ![2] bcast_S1_S1x1x1_2 (constantI S1 32 999999#32)))))
    (constantI S_ 1 1#1) reducesTo_S64x4x1_S64x4_d2 h_S_

/-- The entries taken. -/
def taken (x : FVec F S64x1000000 .f32) (q : IVec S64x4 32) : FVec F S64x4 .f32 :=
  select (inside (wrapped q)) (Host.gather gather_S64x1000000_S64x4x1_S64x4_n_1_0_0_1_2_11 x (wrapped q))
    (broadcastInDim S64x4 ![] bcast_S_S64x4 (constant S_ .f32 0x7FC00000#32))

/-- A block of four columns inside one of a hundred and twenty eight. -/
def padded {α : Type} (z : S64x128.Idx → α) (u : S64x4.Idx → α) : S64x128.Idx → α :=
  Host.scatter scatter_S64x128_S1_S64x4_01_n_1_0 (fun _ b => b) z (broadcastInDim S1 ![] bcast_S_S1 (constantI S_ 32 0#32)) u

variable (V : Valuation τ sig (Elt F))

theorem read_v3 : after hostOps2 V main_v3 = firstCol (V main_v1_0) := by after_results_simp; rfl
theorem read_v8 : after hostOps2 V main_v8 = allSet (V main_v1_1) := by after_results_simp; rfl
theorem read_v9 : after [rdOp] V main_v9 = extui 32 (V main_v8) natLt_1_32 := by after_results_simp
theorem keep_v3 : after [rdOp] V main_v3 = V main_v3 := by after_results_simp
theorem read_v23 : after opsCand V main_case0b1_v23 = cands (V main_v3) := by unfold opsCand; after_results_simp; rfl
theorem read_v25 : after opsCand V main_case0b1_v25 = clamped (V main_v3) := by unfold opsCand; after_results_simp; rfl
theorem keep_arg : after opsCand V main_arg0 = V main_arg0 := by unfold opsCand; after_results_simp
theorem keep_v23 : after opsTake V main_case0b1_v23 = V main_case0b1_v23 := by unfold opsTake; after_results_simp
theorem read_v26 : after opsTake V main_case0b1_v26 = taken (V main_arg0) (V main_case0b1_v25) := by unfold opsTake; after_results_simp; rfl
theorem read_v29 : after opsPad V main_case0b1_v29
    = padded (broadcastInDim S64x128 ![] bcast_S_S64x128 (constant S_ .f32 0x00000000#32)) (V main_case0b1_v26) := by unfold opsPad; after_results_simp; rfl
theorem read_v32 : after opsPad V main_case0b1_v32
    = padded (broadcastInDim S64x128 ![] bcast_S_S64x128 (constantI S_ 32 1000000#32)) (V main_case0b1_v23) := by unfold opsPad; after_results_simp; rfl
theorem read_exact : after opsExact V main_v10 = firstCol (V main_case0b0_v11) := by unfold opsExact; after_results_simp; rfl
theorem read_pick : after opsPick V main_v10 = firstCol (V main_case0b1_v33) := by unfold opsPick; after_results_simp; rfl

variable (m : (ℓ : Loc nD τ sig) → Buf (Elt F) ℓ) (c : Dev nD)

/-- The last call's first operand, -/
theorem W7_v29 : W7 m c main_case0b1_v29
    = padded (broadcastInDim S64x128 ![] bcast_S_S64x128 (constant S_ .f32 0x00000000#32))
        (taken (W4 m c main_arg0) (clamped (W4 m c main_v3))) := by
  unfold W7 opsArm
  rw [StableHlo.after_append, StableHlo.after_append, read_v29, read_v26, keep_arg, read_v25]

/-- and its second. -/
theorem W7_v32 : W7 m c main_case0b1_v32
    = padded (broadcastInDim S64x128 ![] bcast_S_S64x128 (constantI S_ 32 1000000#32)) (cands (W4 m c main_v3)) := by
  unfold W7 opsArm
  rw [StableHlo.after_append, StableHlo.after_append, read_v32, keep_v23, read_v23]

theorem W4_v3 : W4 m c main_v3 = firstCol (Pass.resI (bufs (W1 m)) c) := by
  unfold W4 W3
  rw [keep_v3, read_v3]
  exact congrArg firstCol (W2_I m c)
theorem W4_v9 : W4 m c main_v9 = extui 32 (allSet (Pass.resF (bufs (W1 m)) c)) natLt_1_32 := by
  unfold W4 W3
  rw [read_v9, read_v8]
  exact congrArg (fun x => extui 32 (allSet x) natLt_1_32) (W2_F m c)
theorem W6_v10 : W6 m c main_v10 = firstCol (Exact.resBlk (bufs (W4 m)) c) := by
  unfold W6
  rw [read_exact]
  exact congrArg firstCol (W5_out m c)
theorem W9_v10 : W9 m c main_v10 = firstCol (Pick.res (F := F) (W7 m c main_case0b1_v29) (W7 m c main_case0b1_v32)) := by
  unfold W9
  rw [read_pick]
  exact congrArg firstCol (W8_out m c)

end Cert.KernelIdeal.Whole

end
-- ==== Proof.HostOps.lean ====
/-
  The host's indexed operations at this program's shapes, read at an index: the take along a row, the padding of a block to
  a wider one, the four columns side by side.
-/
module

public import proofs.«01_k».proof.Proof.BaseIdeal
public import Idealize.ShloMosaic.Lib.Routing.OpsSet
public import Idealize.ShloMosaic.Lib.Pointwise

@[expose] public section

set_option maxRecDepth 16384

noncomputable section

namespace Cert.KernelIdeal.HostOps

open Cert.KernelIdeal Cert.KernelIdeal.Gen
open Idealize.ShloMosaic Idealize.ShloMosaic.TcCoe Idealize.SL.Sem

/-- A row's entry at an index word in range. -/
theorem gather_apply {α : Type} (x : S64x1000000.Idx → α) (idx : IVec S64x4x1 32) (r : Fin 64) (k : Fin 4) (n : ℕ) (hn : n < 1000000)
    (h : idx (ix3 r k (0 : Fin 1)) = BitVec.ofNat 32 n) :
    Host.gather gather_S64x1000000_S64x4x1_S64x4_n_1_0_0_1_2_11 x idx (ix2 r k) = x (ix2 r ⟨n, hn⟩) := by
  unfold Host.gather
  refine congrArg x (funext fun a => Fin.ext ?_)
  match a with
  | ⟨0, _⟩ =>
    show 0 + r.val + 0 = r.val
    omega
  | ⟨1, _⟩ =>
    have hi : gather_S64x1000000_S64x4x1_S64x4_n_1_0_0_1_2_11.siIdx (ix2 r k) (0 : Fin 1) = ix3 r k (0 : Fin 1) := by
      funext b
      match b with
      | ⟨0, _⟩ => rfl
      | ⟨1, _⟩ => rfl
      | ⟨2, _⟩ => rfl
    show min (idx (gather_S64x1000000_S64x4x1_S64x4_n_1_0_0_1_2_11.siIdx (ix2 r k) (0 : Fin 1))).toInt.toNat (1000000 - 1) + 0 + 0 = n
    rw [hi, h, StableHlo.Predicate.toInt_ofNat_small n (by omega)]
    omega

/-- Where an update of the padding lands, with the start at zero. -/
theorem lands (idx : IVec S1 32) (hidx : ∀ i, idx i = 0#32) (j : S64x4.Idx) (r : Fin 64) (c : Fin 128) :
    scatter_S64x128_S1_S64x4_01_n_1_0.resultIdx? j idx = some (ix2 r c) ↔ (j 0).val = r.val ∧ (j 1).val = c.val := by
  rw [Routing.resultIdx?_eq_some]
  have h0 : scatter_S64x128_S1_S64x4_01_n_1_0.start j idx 0 = 0 := rfl
  have h1 : scatter_S64x128_S1_S64x4_01_n_1_0.start j idx 1 = 0 := by
    show (idx _).toInt = 0
    rw [hidx]; rfl
  have w0 : scatter_S64x128_S1_S64x4_01_n_1_0.window j 0 = (j 0).val := rfl
  have w1 : scatter_S64x128_S1_S64x4_01_n_1_0.window j 1 = (j 1).val := rfl
  constructor
  · intro h
    have a0 := h 0
    have a1 := h 1
    rw [h0, w0] at a0
    rw [h1, w1] at a1
    have b0 : ((ix2 r c : S64x128.Idx) 0).val = r.val := rfl
    have b1 : ((ix2 r c : S64x128.Idx) 1).val = c.val := rfl
    omega
  · intro h a
    match a with
    | ⟨0, _⟩ =>
      show scatter_S64x128_S1_S64x4_01_n_1_0.start j idx 0 + (scatter_S64x128_S1_S64x4_01_n_1_0.window j 0 : Int) = (r.val : Int)
      rw [h0, w0]; omega
    | ⟨1, _⟩ =>
      show scatter_S64x128_S1_S64x4_01_n_1_0.start j idx 1 + (scatter_S64x128_S1_S64x4_01_n_1_0.window j 1 : Int) = (c.val : Int)
      rw [h1, w1]; omega

/-- The padding's first four columns are the block's. -/
theorem scatter_apply {α : Type} (x : S64x128.Idx → α) (idx : IVec S1 32) (hidx : ∀ i, idx i = 0#32) (u : S64x4.Idx → α) (r : Fin 64) (k : Fin 4) :
    Host.scatter scatter_S64x128_S1_S64x4_01_n_1_0 (fun _ b => b) x idx u (ix2 r (⟨k.val, by omega⟩ : Fin 128)) = u (ix2 r k) := by
  refine Routing.scatter_set_hit _ x idx u _ _ (fun j hj => ?_) (ix2 r k) ((lands idx hidx _ _ _).mpr ⟨rfl, rfl⟩)
  obtain ⟨h0, h1⟩ := (lands idx hidx j r _).mp hj
  refine congrArg u (funext fun a => Fin.ext ?_)
  match a with
  | ⟨0, _⟩ => exact h0
  | ⟨1, _⟩ => exact h1

/-- The four columns side by side. -/
theorem concat_apply {α : Type} (a0 a1 a2 a3 : S64x1.Idx → α) (h) (r : Fin 64) (k : Fin 4) :
    concatenate S64x4 1 [⟨S64x1, a0⟩, ⟨S64x1, a1⟩, ⟨S64x1, a2⟩, ⟨S64x1, a3⟩] h (ix2 r k)
      = (match k with | 0 => a0 | 1 => a1 | 2 => a2 | 3 => a3) (ix2 r (0 : Fin 1)) := by
  match k with
  | 0 => pointwise
  | 1 => pointwise
  | 2 => pointwise
  | 3 => pointwise

end Cert.KernelIdeal.HostOps

end
-- ==== Proof.Words.lean ====
/-
  The random words, one at a time: the twenty rounds of the counter-based generator under the fixed key, as the
  kernel and the reference both compute them at the linear index of an element. Pure arithmetic of 32-bit words.
-/
module

public import Idealize.ShloMosaic.PureOps

@[expose] public section

namespace Cert.Words

/-- A pair of words. -/
abbrev W2 := BitVec 32 × BitVec 32

/-- One round: add, rotate the second word left by `r` (`s` is `32 - r`), exclusive or. -/
def rnd (r s : BitVec 32) (p : W2) : W2 := (p.1 + p.2, (p.1 + p.2) ^^^ ((p.2 <<< r) ||| (p.2 >>> s)))

/-- The four rounds of an odd group, -/
def rA (p : W2) : W2 := rnd 6#32 26#32 (rnd 26#32 6#32 (rnd 15#32 17#32 (rnd 13#32 19#32 p)))
/-- and of an even group. -/
def rB (p : W2) : W2 := rnd 24#32 8#32 (rnd 16#32 16#32 (rnd 29#32 3#32 (rnd 17#32 15#32 p)))

/-- A key injection after a group of rounds. -/
def inj (a b : BitVec 32) (p : W2) : W2 := (p.1 + a, p.2 + b)

/-- The generator's state after its five groups, at linear index `n`: the keys are 0 and 42, their third word 466689008. -/
def tf (n : BitVec 32) : W2 :=
  inj 466689008#32 5#32 (rA (inj 42#32 466689012#32 (rB (inj 0#32 45#32 (rA (inj 466689008#32 2#32 (rB (inj 42#32 466689009#32
    (rA (0#32, n + 42#32))))))))))

/-- The word of a float in [1, 2) whose mantissa bits are the random bits. -/
def mword (n : BitVec 32) : BitVec 32 := (((tf n).1 ^^^ (tf n).2) >>> 9#32) ||| 1065353216#32

end Cert.Words
-- ==== Proof.ExactWord.lean ====
/-
  The exact pass's random words in closed form: at every lane of every block the word whose float read is the uniform's
  mantissa is the reference's word of the element's linear index.
-/
module

public import proofs.«01_k».proof.Proof.ExactRunIdeal
public import proofs.«01_k».proof.Proof.Words
public import Idealize.ShloMosaic.Lib.Pipeline.ValueKit

@[expose] public section

set_option maxRecDepth 16384

noncomputable section

namespace Cert.KernelIdeal.Exact

open Cert.KernelIdeal Cert.KernelIdeal.Gen Cert.Words
open Idealize.ShloMosaic Idealize.ShloMosaic.TcCoe Idealize.SL.Sem

variable {F : FTy → Type} [FloatOps F]

/-- The first group of rounds. -/
theorem round1 (i : grid2.Coords) (j : S64x16384.Idx) : (k2_pay12 i j, k2_pay13 i j) = rA (0#32, k2_pay5 i j) := by
  have h1 : (k2_pay6 i j, k2_pay7 i j) = rnd 13#32 19#32 (0#32, k2_pay5 i j) := rfl
  have h2 : (k2_pay8 i j, k2_pay9 i j) = rnd 15#32 17#32 (k2_pay6 i j, k2_pay7 i j) := rfl
  have h3 : (k2_pay10 i j, k2_pay11 i j) = rnd 26#32 6#32 (k2_pay8 i j, k2_pay9 i j) := rfl
  have h4 : (k2_pay12 i j, k2_pay13 i j) = rnd 6#32 26#32 (k2_pay10 i j, k2_pay11 i j) := rfl
  rw [h4, h3, h2, h1]
  rfl

/-- The second group, and the first two rounds of the third. -/
theorem round2 (a b c : IVec S64x16384 32) (j : S64x16384.Idx) (hc : c j = 42#32) :
    (k2_pay24 a b c j, k2_pay25 a b c j) = rnd 13#32 19#32 (inj 466689008#32 2#32 (rB (inj 42#32 466689009#32 (a j, b j)))) := by
  have h1 : (k2_pay16 a b c j, k2_pay17 a b c j) = rnd 17#32 15#32 (a j + c j, b j + 466689009#32) := rfl
  have h2 : (k2_pay18 a b c j, k2_pay19 a b c j) = rnd 29#32 3#32 (k2_pay16 a b c j, k2_pay17 a b c j) := rfl
  have h3 : (k2_pay20 a b c j, k2_pay21 a b c j) = rnd 16#32 16#32 (k2_pay18 a b c j, k2_pay19 a b c j) := rfl
  have h4 : (k2_pay22 a b c j + 466689008#32, k2_pay23 a b c j) = inj 466689008#32 2#32 (rnd 24#32 8#32 (k2_pay20 a b c j, k2_pay21 a b c j)) := rfl
  have h5 : (k2_pay24 a b c j, k2_pay25 a b c j) = rnd 13#32 19#32 (k2_pay22 a b c j + 466689008#32, k2_pay23 a b c j) := rfl
  rw [h5, h4, h3, h2, h1, hc]
  rfl

/-- The rest of the third group, and the fourth up to its last round. -/
theorem round3 (x y z : IVec S64x16384 32) (j : S64x16384.Idx) (p q : BitVec 32) (hx : x j = q) (hy : y j = p + q) (hz : z j = q <<< 15#32) :
    (k2_pay37 x y z 17#32 j, k2_pay38 x y z 17#32 j)
      = rnd 16#32 16#32 (rnd 29#32 3#32 (rnd 17#32 15#32 (inj 0#32 45#32 (rnd 6#32 26#32 (rnd 26#32 6#32 (rnd 15#32 17#32 (p, q))))))) := by
  have h1 : (y j, k2_pay28 x y z 17#32 j) = rnd 15#32 17#32 (p, q) := by
    show (y j, y j ^^^ (z j ||| x j >>> 17#32)) = _
    rw [hx, hy, hz]; rfl
  have h2 : (k2_pay29 x y z 17#32 j, k2_pay30 x y z 17#32 j) = rnd 26#32 6#32 (y j, k2_pay28 x y z 17#32 j) := rfl
  have h3 : (k2_pay31 x y z 17#32 j + 0#32, k2_pay32 x y z 17#32 j) = inj 0#32 45#32 (rnd 6#32 26#32 (k2_pay29 x y z 17#32 j, k2_pay30 x y z 17#32 j)) := rfl
  have h4 : (k2_pay33 x y z 17#32 j, k2_pay34 x y z 17#32 j) = rnd 17#32 15#32 (k2_pay31 x y z 17#32 j + 0#32, k2_pay32 x y z 17#32 j) := rfl
  have h5 : (k2_pay35 x y z 17#32 j, k2_pay36 x y z 17#32 j) = rnd 29#32 3#32 (k2_pay33 x y z 17#32 j, k2_pay34 x y z 17#32 j) := rfl
  have h6 : (k2_pay37 x y z 17#32 j, k2_pay38 x y z 17#32 j) = rnd 16#32 16#32 (k2_pay35 x y z 17#32 j, k2_pay36 x y z 17#32 j) := rfl
  rw [h6, h5, h4, h3, h2, h1]

/-- The end of the fourth group, the fifth, and the mantissa word. -/
theorem round4 (x y z : IVec S64x16384 32) (j : S64x16384.Idx) (p q : BitVec 32) (hx : x j = q) (hy : y j = p + q) (hz : z j = q <<< 24#32) :
    (k2_pay41 x y z 8#32 : FVec F S64x16384 .f32) j = FloatOps.ofBits .f32
      ((((inj 466689008#32 5#32 (rA (inj 42#32 466689012#32 (rnd 24#32 8#32 (p, q))))).1
        ^^^ (inj 466689008#32 5#32 (rA (inj 42#32 466689012#32 (rnd 24#32 8#32 (p, q))))).2) >>> 9#32) ||| 1065353216#32) := by
  have h1 : (y j, y j ^^^ (z j ||| x j >>> 8#32)) = rnd 24#32 8#32 (p, q) := by
    rw [hx, hy, hz]; rfl
  rw [← h1]
  rfl

/-- The word of every lane. -/
theorem uword_apply (i : grid2.Coords) (j : S64x16384.Idx) (n : BitVec 32) (hn : k2_pay5 i j = n + 42#32) :
    (uword i : FVec F S64x16384 .f32) j = FloatOps.ofBits .f32 (mword n) := by
  have e1 := round1 i j
  have e2 := round2 (k2_pay12 i) (k2_pay13 i) k2_pay14 j rfl
  have e3 := round3 (k2_pay25 (k2_pay12 i) (k2_pay13 i) k2_pay14) (k2_pay26 (k2_pay12 i) (k2_pay13 i) k2_pay14)
    (k2_pay27 (k2_pay12 i) (k2_pay13 i) k2_pay14) j _ _ rfl rfl rfl
  have e4 := round4 (F := F) (k2_pay38 (k2_pay25 (k2_pay12 i) (k2_pay13 i) k2_pay14) (k2_pay26 (k2_pay12 i) (k2_pay13 i) k2_pay14) (k2_pay27 (k2_pay12 i) (k2_pay13 i) k2_pay14) 17#32)
    (k2_pay39 (k2_pay25 (k2_pay12 i) (k2_pay13 i) k2_pay14) (k2_pay26 (k2_pay12 i) (k2_pay13 i) k2_pay14) (k2_pay27 (k2_pay12 i) (k2_pay13 i) k2_pay14) 17#32)
    (k2_pay40 (k2_pay25 (k2_pay12 i) (k2_pay13 i) k2_pay14) (k2_pay26 (k2_pay12 i) (k2_pay13 i) k2_pay14) (k2_pay27 (k2_pay12 i) (k2_pay13 i) k2_pay14) 17#32) j _ _ rfl rfl rfl
  rw [uword, e4, e3, e2, e1, hn]
  rfl

/-- The element a lane holds: row `j 0`, column `16384 t + j 1`. -/
theorem pay5_apply (t : Fin grid2.N) (j : S64x16384.Idx) :
    k2_pay5 (grid2.coords t) j = BitVec.ofNat 32 ((j 0).val * 1000000 + (t.val * 16384 + (j 1).val)) + 42#32 := by
  have h : k2_pay5 (grid2.coords t) j = BitVec.ofNat 32 (j 0).val * 1000000#32 + k2_pay4 (grid2.coords t) j + 42#32 := by
    show iota .tc S64x16384 32 [0] iota_S64x16384_d0_w32 j * 1000000#32 + k2_pay4 (grid2.coords t) j + 42#32 = _
    rw [iota_single_apply]
  rw [h, pay4_apply]
  simp only [BitVec.ofNat_add, BitVec.ofNat_mul]

end Cert.KernelIdeal.Exact

end
-- ==== Proof.Gumbel.lean ====
/-
  The Gumbel variate of a random word over the extended reals, and the row of perturbed logits: what both programs
  take the first maximum of.
-/
module

public import proofs.«01_k».proof.Proof.Words
public import Idealize.ShloMosaic.PureOps.Ideal.Laws
public import Idealize.ShloMosaic.Lib.Pointwise.Index

@[expose] public section

noncomputable section

namespace Cert.Gumbel

open Idealize.ShloMosaic Cert.Words

/-- The value of the float whose mantissa bits are the word's upper 23 bits and which lies in [1, 2). -/
theorem ofBits_mantissa (y : BitVec 32) :
    Ideal.ofBits .f32 ((y >>> 9#32) ||| 1065353216#32) = ((1 + (y.toNat / 512 : ℕ) / 8388608 : ℝ) : EReal) := by
  have hy : y.toNat / 512 < 8388608 := by have := y.isLt; omega
  have hb : ((y >>> 9#32) ||| 1065353216#32).toNat = 127 * 8388608 + y.toNat / 512 := by
    have h1 : (y >>> 9#32).toNat = y.toNat / 512 := by
      show (y >>> (9#32).toNat).toNat = _
      rw [BitVec.toNat_ushiftRight]; exact Nat.shiftRight_eq_div_pow _ 9
    have h2 := Nat.two_pow_add_eq_or_of_lt (i := 23) (b := y.toNat / 512) hy 127
    rw [BitVec.toNat_or, h1, Nat.or_comm]
    exact h2.symm.trans (by omega)
  generalize (y >>> 9#32) ||| 1065353216#32 = b at hb
  have e1 : b.extractLsb' (8 + 23) 1 = 0#1 := by
    apply BitVec.eq_of_toNat_eq
    rw [BitVec.extractLsb'_toNat, hb, Nat.shiftRight_eq_div_pow]
    show (127 * 8388608 + y.toNat / 512) / 2147483648 % 2 = 0
    omega
  have e2 : (b.extractLsb' 23 8).toNat = 127 := by
    rw [BitVec.extractLsb'_toNat, hb, Nat.shiftRight_eq_div_pow]
    show (127 * 8388608 + y.toNat / 512) / 8388608 % 256 = 127
    omega
  have e3 : (b.extractLsb' 0 23).toNat = y.toNat / 512 := by
    rw [BitVec.extractLsb'_toNat, hb, Nat.shiftRight_eq_div_pow]
    show (127 * 8388608 + y.toNat / 512) / 1 % 8388608 = _
    omega
  show Ideal.ieee 8 23 b = _
  unfold Ideal.ieee
  simp only [e1, e2, e3]
  rw [if_neg (by decide), if_neg (by decide), if_neg (by decide)]
  congr 1
  push_cast
  norm_num
  ring

/-- The value of the float one. -/
theorem ofBits_one : Ideal.ofBits .f32 0x3F800000#32 = 1 := by
  have h := ofBits_mantissa 0#32
  rw [show ((0#32 >>> 9#32) ||| 1065353216#32 : BitVec 32) = 0x3F800000#32 by decide] at h
  rw [h]
  norm_num

/-- The uniform variate in [0, 1) of a word. -/
def unit (w : BitVec 32) : EReal := Ideal.ofBits .f32 w - 1

/-- It is the mantissa's fraction. -/
theorem unit_mword (n : BitVec 32) :
    unit (mword n) = (((((tf n).1 ^^^ (tf n).2).toNat / 512 : ℕ) / 8388608 : ℝ) : EReal) := by
  unfold unit mword
  rw [ofBits_mantissa, ← EReal.coe_one, ← EReal.coe_sub]
  congr 1
  ring

theorem unit_nonneg (n : BitVec 32) : 0 ≤ unit (mword n) := by
  rw [unit_mword, ← EReal.coe_zero, EReal.coe_le_coe_iff]
  positivity

/-- The uniform variate in the reference's open interval. -/
def unif (w : BitVec 32) : EReal :=
  max (Ideal.ofBits .f32 0x33D6BF95#32) (unit w * Ideal.ofBits .f32 0x3F7FFFFC#32 + Ideal.ofBits .f32 0x33D6BF95#32)

/-- The Gumbel variate of a word. -/
def gum (w : BitVec 32) : EReal := -Ideal.log (-Ideal.log (unif w))

/-- The perturbed logit of row `r`, column `c`. -/
def sc (x : (⟨2, ![64, 1000000]⟩ : Shape).Idx → EReal) (r : Fin 64) (c : ℕ) : EReal :=
  if h : c < 1000000 then x (ix2 r ⟨c, h⟩) + gum (mword (BitVec.ofNat 32 (r.val * 1000000 + c))) else ⊥

theorem sc_of_lt (x : (⟨2, ![64, 1000000]⟩ : Shape).Idx → EReal) (r : Fin 64) (c : ℕ) (h : c < 1000000) :
    sc x r c = x (ix2 r ⟨c, h⟩) + gum (mword (BitVec.ofNat 32 (r.val * 1000000 + c))) := dif_pos h

theorem sc_of_not_lt (x : (⟨2, ![64, 1000000]⟩ : Shape).Idx → EReal) (r : Fin 64) (c : ℕ) (h : ¬ c < 1000000) : sc x r c = ⊥ := dif_neg h

end Cert.Gumbel

end
-- ==== Proof.FirstMax.lean ====
/-
  The first position of a row's maximum: what it is, that it is one, and the two ways it is computed — a running best
  per lane followed by a reduction over the lanes, and a fold of (value, index) pairs. Extended reals and words only.
-/
module

public import Idealize.ShloMosaic.PureOps.Ideal.Laws
public import Idealize.ShloMosaic.PureOps.Reduce
public import Idealize.ShloMosaic.Lib.WordArith
public import Idealize.ShloMosaic.Lib.WordCmp

@[expose] public section

namespace Cert.FirstMax

open Idealize.ShloMosaic

/-- `k` is the first position, below `n`, of the maximum of `s`. -/
def IsFirst (n : ℕ) (s : ℕ → EReal) (k : ℕ) : Prop := k < n ∧ (∀ c < n, s c ≤ s k) ∧ ∀ c < k, s c < s k

/-- There is one such position. -/
theorem IsFirst.unique {n : ℕ} {s : ℕ → EReal} {k k' : ℕ} (h : IsFirst n s k) (h' : IsFirst n s k') : k = k' := by
  rcases lt_trichotomy k k' with hlt | he | hgt
  · exact absurd (h.2.1 k' h'.1) (not_le.mpr (h'.2.2 k hlt))
  · exact he
  · exact absurd (h'.2.1 k h.1) (not_le.mpr (h.2.2 k' hgt))

/-- The greatest of finitely many values, from minus infinity: an upper bound, and attained unless it is minus infinity. -/
theorem fold_max {ι : Type} (S : Finset ι) (f : ι → EReal) :
    (∀ i ∈ S, f i ≤ S.fold max ⊥ f) ∧ (S.fold max ⊥ f = ⊥ ∨ ∃ i ∈ S, f i = S.fold max ⊥ f) := by
  classical
  induction S using Finset.induction_on with
  | empty => exact ⟨fun i hi => absurd hi (Finset.notMem_empty i), .inl rfl⟩
  | insert a S ha ih =>
    rw [Finset.fold_insert ha]
    refine ⟨fun i hi => ?_, ?_⟩
    · rcases Finset.mem_insert.mp hi with rfl | hi
      · exact le_max_left _ _
      · exact (ih.1 i hi).trans (le_max_right _ _)
    · rcases le_total (f a) (S.fold max ⊥ f) with h | h
      · rw [max_eq_right h]
        exact ih.2.imp id fun ⟨i, hi, e⟩ => ⟨i, Finset.mem_insert_of_mem hi, e⟩
      · rw [max_eq_left h]
        exact .inr ⟨a, Finset.mem_insert_self a S, rfl⟩

/-- The least of finitely many non-negative words, from the greatest one: a lower bound, and attained unless it is that. -/
theorem fold_min {ι : Type} (S : Finset ι) (f : ι → BitVec 32) (hf : ∀ i ∈ S, (f i).toNat < 2 ^ 31) :
    (∀ i ∈ S, (S.fold IntOp.minsi 2147483647#32 f).toNat ≤ (f i).toNat) ∧ (S.fold IntOp.minsi 2147483647#32 f).toNat < 2 ^ 31
      ∧ (S.fold IntOp.minsi 2147483647#32 f = 2147483647#32 ∨ ∃ i ∈ S, f i = S.fold IntOp.minsi 2147483647#32 f) := by
  classical
  induction S using Finset.induction_on with
  | empty => exact ⟨fun i hi => absurd hi (Finset.notMem_empty i), by rw [Finset.fold_empty]; decide, .inl rfl⟩
  | insert a S ha ih =>
    have ih := ih fun i hi => hf i (Finset.mem_insert_of_mem hi)
    have hm := WordArith.toNat_minsi_of_lt (f a) (S.fold IntOp.minsi 2147483647#32 f) (hf a (Finset.mem_insert_self a S)) ih.2.1
    rw [Finset.fold_insert ha, hm]
    refine ⟨fun i hi => ?_, ?_, ?_⟩
    · rcases Finset.mem_insert.mp hi with rfl | hi
      · exact min_le_left _ _
      · exact (min_le_right _ _).trans (ih.1 i hi)
    · exact (min_le_right _ _).trans_lt ih.2.1
    · unfold IntOp.minsi
      split
      · exact .inr ⟨a, Finset.mem_insert_self a S, rfl⟩
      · exact ih.2.2.imp id fun ⟨i, hi, e⟩ => ⟨i, Finset.mem_insert_of_mem hi, e⟩

/-! ## The running best of a lane -/

/-- A lane's best value and column after `n` points: lane `l` of `W` sees column `t W + l` at point `t`; it starts at minus
    infinity and column 0 and is replaced only by what is greater. -/
def LaneOk (M : ℕ → EReal) (W l n : ℕ) (b : EReal) (v : BitVec 32) : Prop :=
  (∀ t < n, M (t * W + l) ≤ b)
    ∧ ((b = ⊥ ∧ v = 0#32) ∨ (⊥ < b ∧ ∃ t < n, v = BitVec.ofNat 32 (t * W + l) ∧ M (t * W + l) = b ∧ ∀ t' < t, M (t' * W + l) < b))

theorem LaneOk.zero (M : ℕ → EReal) (W l : ℕ) : LaneOk M W l 0 ⊥ 0#32 :=
  ⟨fun t ht => absurd ht (Nat.not_lt_zero t), .inl ⟨rfl, rfl⟩⟩

theorem LaneOk.step {M : ℕ → EReal} {W l n : ℕ} {b : EReal} {v : BitVec 32} (h : LaneOk M W l n b v) :
    LaneOk M W l (n + 1) (if b < M (n * W + l) then M (n * W + l) else b)
      (if b < M (n * W + l) then BitVec.ofNat 32 (n * W + l) else v) := by
  obtain ⟨h1, h2⟩ := h
  by_cases hx : b < M (n * W + l)
  · rw [if_pos hx, if_pos hx]
    refine ⟨fun t ht => ?_, .inr ⟨lt_of_le_of_lt bot_le hx, n, Nat.lt_succ_self n, rfl, rfl, fun t' ht' => (h1 t' ht').trans_lt hx⟩⟩
    rcases Nat.lt_succ_iff_lt_or_eq.mp ht with ht | rfl
    · exact (h1 t ht).trans hx.le
    · exact le_rfl
  · rw [if_neg hx, if_neg hx]
    refine ⟨fun t ht => ?_, h2.imp id fun ⟨hb, t, ht, h⟩ => ⟨hb, t, Nat.lt_succ_of_lt ht, h⟩⟩
    rcases Nat.lt_succ_iff_lt_or_eq.mp ht with ht | rfl
    · exact h1 t ht
    · exact not_lt.mp hx

/-- The least column among the lanes holding the greatest value is the first position of the maximum. -/
theorem first_of_lanes {s M : ℕ → EReal} {W T n : ℕ} (hn : 0 < n) (hn32 : n ≤ 2 ^ 31) (hW : 0 < W) (hWT : n ≤ T * W)
    (hM : ∀ c, M c = if c < n then s c else ⊥) (b : ℕ → EReal) (v : ℕ → BitVec 32) (hl : ∀ l < W, LaneOk M W l T (b l) (v l))
    (R : EReal) (hR : ∀ l < W, b l ≤ R) (k : ℕ) (hk : ∀ l < W, b l = R → k ≤ (v l).toNat) (hk' : ∃ l < W, b l = R ∧ (v l).toNat = k) :
    IsFirst n s k := by
  obtain ⟨l0, hl0, hb0, hv0⟩ := hk'
  have hsM : ∀ c < n, s c = M c := fun c hc => by rw [hM, if_pos hc]
  have hT : ∀ c < n, c / W < T := fun c hc => Nat.div_lt_of_lt_mul (lt_of_lt_of_le hc (by rwa [Nat.mul_comm]))
  have hc' : ∀ c : ℕ, c / W * W + c % W = c := fun c => Nat.div_add_mod' c W
  have hle : ∀ c < n, s c ≤ b (c % W) := fun c hc => by
    have := (hl (c % W) (Nat.mod_lt c hW)).1 (c / W) (hT c hc)
    rwa [hc', ← hsM c hc] at this
  rcases (hl l0 hl0).2 with ⟨hbot, h0⟩ | ⟨hpos, t, ht, hvt, hMt, hlt⟩
  · have hk0 : k = 0 := by rw [← hv0, h0]; rfl
    have hall : ∀ c < n, s c = ⊥ := fun c hc =>
      le_bot_iff.mp ((hle c hc).trans ((hR _ (Nat.mod_lt c hW)).trans (by rw [← hb0, hbot])))
    subst hk0
    exact ⟨hn, fun c hc => by rw [hall c hc]; exact bot_le, fun c hc => absurd hc (Nat.not_lt_zero c)⟩
  · have hlt' : t * W + l0 < n := by
      by_contra hge
      rw [hM, if_neg hge] at hMt
      rw [← hMt] at hpos
      exact lt_irrefl _ hpos
    have hke : k = t * W + l0 := by
      rw [← hv0, hvt, BitVec.toNat_ofNat, Nat.mod_eq_of_lt (by omega)]
    have hsk : s k = R := by rw [hke, hsM _ hlt', hMt, hb0]
    refine ⟨by omega, fun c hc => by rw [hsk]; exact (hle c hc).trans (hR _ (Nat.mod_lt c hW)), fun c hc => ?_⟩
    have hcn : c < n := by omega
    rw [hsk]
    refine lt_of_le_of_ne ((hle c hcn).trans (hR _ (Nat.mod_lt c hW))) fun he => ?_
    have hbR : b (c % W) = R := le_antisymm (hR _ (Nat.mod_lt c hW)) (he ▸ hle c hcn)
    have hkc := hk (c % W) (Nat.mod_lt c hW) hbR
    rcases (hl (c % W) (Nat.mod_lt c hW)).2 with ⟨hbot', -⟩ | ⟨-, t', ht', hvt', hMt', hlt''⟩
    · rw [hbR, ← hb0] at hbot'
      exact absurd hbot' hpos.ne'
    · have htc : t' ≤ c / W := by
        by_contra hgt
        have := hlt'' (c / W) (not_le.mp hgt)
        rw [hc', ← hsM c hcn, he, hbR] at this
        exact lt_irrefl _ this
      have hmul : t' * W ≤ c / W * W := Nat.mul_le_mul_right W htc
      have hcc := hc' c
      rw [hvt', BitVec.toNat_ofNat] at hkc
      have := Nat.mod_le (t' * W + c % W) (2 ^ 32)
      omega

/-! ## The fold of (value, index) pairs -/

/-- The choice of an arg-max between two pairs: the greater value, the lower index between equal values. -/
noncomputable def better (a b : EReal × BitVec 32) : EReal × BitVec 32 :=
  if b.1 < a.1 then a else if a.1 = b.1 ∧ a.2.toInt < b.2.toInt then (b.1, a.2) else b

/-- Over pairs with non-negative indices, from minus infinity and index 0, the fold ends at a pair whose value is an upper
    bound, whose index is the least of its value, and which is one of the pairs or the start. -/
theorem foldl_better (L : List (EReal × BitVec 32)) (hL : ∀ p ∈ L, p.2.toNat < 2 ^ 31) :
    ∀ (pre : List (EReal × BitVec 32)) (a : EReal × BitVec 32), a.2.toNat < 2 ^ 31 → (∀ p ∈ pre, p.1 ≤ a.1)
      → (∀ p ∈ pre, p.1 = a.1 → a.2.toNat ≤ p.2.toNat) → (a = (⊥, 0#32) ∨ a ∈ pre) →
      (∀ p ∈ pre ++ L, p.1 ≤ (L.foldl better a).1) ∧ (∀ p ∈ pre ++ L, p.1 = (L.foldl better a).1 → (L.foldl better a).2.toNat ≤ p.2.toNat)
        ∧ (L.foldl better a = (⊥, 0#32) ∨ L.foldl better a ∈ pre ++ L) := by
  induction L with
  | nil =>
    intro pre a _ h1 h2 h3
    simpa using ⟨fun a b hp => h1 (a, b) hp, fun a b hp => h2 (a, b) hp, h3⟩
  | cons q L ih =>
    intro pre a ha h1 h2 h3
    have hq : q.2.toNat < 2 ^ 31 := hL q List.mem_cons_self
    have hia : a.2.toInt = a.2.toNat := by rw [BitVec.toInt_eq_toNat_cond]; split <;> omega
    have hiq : q.2.toInt = q.2.toNat := by rw [BitVec.toInt_eq_toNat_cond]; split <;> omega
    have e : pre ++ q :: L = (pre ++ [q]) ++ L := by simp
    rw [e, List.foldl_cons]
    refine ih (fun p hp => hL p (List.mem_cons_of_mem q hp)) (pre ++ [q]) (better a q) ?_ ?_ ?_ ?_
    · unfold better; split_ifs <;> assumption
    · intro p hp
      rcases List.mem_append.mp hp with hp | hp
      · have := h1 p hp
        unfold better; split_ifs with c1 c2
        · exact this
        · exact this.trans c2.1.le
        · exact this.trans (not_lt.mp c1)
      · obtain rfl := List.mem_singleton.mp hp
        unfold better; split_ifs with c1 c2
        · exact c1.le
        · exact le_rfl
        · exact le_rfl
    · intro p hp
      rcases List.mem_append.mp hp with hp | hp
      · have h1p := h1 p hp
        have h2p := h2 p hp
        unfold better; split_ifs with c1 c2
        · exact h2p
        · exact fun hv => h2p (hv.trans c2.1.symm)
        · intro hv
          have hav : a.1 = q.1 := le_antisymm (not_lt.mp c1) (hv ▸ h1p)
          have := h2p (hv.trans hav.symm)
          have : ¬ a.2.toInt < q.2.toInt := fun h => c2 ⟨hav, h⟩
          omega
      · obtain rfl := List.mem_singleton.mp hp
        unfold better; split_ifs with c1 c2
        · exact fun hv => absurd hv c1.ne
        · exact fun _ => by have := c2.2; show a.2.toNat ≤ _; omega
        · exact fun _ => le_rfl
    · unfold better; split_ifs with c1 c2
      · exact h3.imp id fun h => List.mem_append_left _ h
      · have : (q.1, a.2) = a := Prod.ext c2.1.symm rfl
        rw [this]
        exact h3.imp id fun h => List.mem_append_left _ h
      · exact .inr (List.mem_append_right _ (List.mem_singleton.mpr rfl))

/-- So over a row, as pairs of its values and columns in any order, it ends at the first position of the maximum. -/
theorem first_of_foldl {n : ℕ} (hn : 0 < n) (hn31 : n ≤ 2 ^ 31) (s : ℕ → EReal) (L : List (EReal × BitVec 32))
    (hL : ∀ p, p ∈ L ↔ ∃ c < n, p = (s c, BitVec.ofNat 32 c)) :
    ∃ k, IsFirst n s k ∧ (L.foldl better (⊥, 0#32)).2 = BitVec.ofNat 32 k := by
  have hto : ∀ c < n, (BitVec.ofNat 32 c).toNat = c := fun c hc => by
    rw [BitVec.toNat_ofNat, Nat.mod_eq_of_lt (by omega)]
  obtain ⟨h1, h2, h3⟩ := foldl_better L (fun p hp => by obtain ⟨c, hc, rfl⟩ := (hL p).mp hp; show (BitVec.ofNat 32 c).toNat < _; rw [hto c hc]; omega)
    [] (⊥, 0#32) (by decide) (fun p hp => absurd hp List.not_mem_nil) (fun p hp => absurd hp List.not_mem_nil) (.inl rfl)
  rw [List.nil_append] at h1 h2 h3
  generalize L.foldl better (⊥, 0#32) = a at h1 h2 h3 ⊢
  have hmem : a ∈ L := h3.elim (fun e => by
    have h0 : (s 0, BitVec.ofNat 32 0) ∈ L := (hL _).mpr ⟨0, hn, rfl⟩
    have hs : s 0 ≤ ⊥ := by have := h1 _ h0; rwa [e] at this
    rw [e]
    rw [le_bot_iff.mp hs] at h0
    exact h0) id
  obtain ⟨k, hk, rfl⟩ := (hL a).mp hmem
  refine ⟨k, ⟨hk, fun c hc => h1 _ ((hL _).mpr ⟨c, hc, rfl⟩), fun c hc => ?_⟩, rfl⟩
  have hcn : c < n := by omega
  have hc' := (hL _).mpr ⟨c, hcn, rfl⟩
  refine lt_of_le_of_ne (h1 _ hc') fun he => ?_
  have := h2 _ hc' he
  rw [hto k hk, hto c hcn] at this
  omega

end Cert.FirstMax
-- ==== Proof.ExactValue.lean ====
/-
  The exact pass over the extended reals: its result at a row is the first position of the maximum of the perturbed logits.
-/
module

public import proofs.«01_k».proof.Proof.ExactWord
public import proofs.«01_k».proof.Proof.Gumbel
public import proofs.«01_k».proof.Proof.FirstMax
public import Idealize.ShloMosaic.Lib.Pipeline.Value
public import Idealize.ShloMosaic.Lib.Pointwise.Reshape

@[expose] public section

set_option maxRecDepth 16384

noncomputable section

namespace Cert.KernelIdeal.Exact

open Cert.KernelIdeal Cert.KernelIdeal.Gen Cert.KernelIdeal.Whole Cert.Words Cert.Gumbel Cert.FirstMax
open Idealize.ShloMosaic Idealize.ShloMosaic.TcCoe Idealize.SL.Sem
open Idealize.ShloMosaic.Pipeline (Window)

/-- The bits of minus infinity. -/
theorem negInf : Ideal.ofBits .f32 0xFF800000#32 = ⊥ := by
  show Ideal.ieee 8 23 0xFF800000#32 = ⊥
  unfold Ideal.ieee
  rw [if_pos (by decide), if_pos (by decide), if_pos (by decide)]

/-- The masked score of a lane, whatever the words: inside the row. -/
theorem pay42_in (p : IVec S64x16384 32) (w : BitVec 32) (u X : FVec Ideal S64x16384 .f32) (j : S64x16384.Idx)
    (hp : cmpi .slt p (broadcast S64x16384 1000000#32) j = 1#1) (hu : u j = Ideal.ofBits .f32 w) :
    k2_pay42 p u X j = X j + gum w := by
  have e : k2_pay42 p u X j = Scalar.select (cmpi .slt p (broadcast S64x16384 1000000#32) j)
      (X j + (Ideal.ofBits .f32 0x00000000#32 - Ideal.log (Ideal.ofBits .f32 0x00000000#32 - Ideal.log (max (Ideal.ofBits .f32 0x33D6BF95#32)
        ((u j - Ideal.ofBits .f32 0x3F800000#32) * Ideal.ofBits .f32 0x3F7FFFFC#32 + Ideal.ofBits .f32 0x33D6BF95#32)))))
      (Ideal.ofBits .f32 0xFF800000#32) := rfl
  rw [e, hp, hu, Ideal.ofBits_zero_f32, zero_sub, zero_sub, ofBits_one]
  rfl

/-- Past the row's end. -/
theorem pay42_out (p : IVec S64x16384 32) (u X : FVec Ideal S64x16384 .f32) (j : S64x16384.Idx)
    (hp : cmpi .slt p (broadcast S64x16384 1000000#32) j = 0#1) : k2_pay42 p u X j = ⊥ := by
  have e : k2_pay42 p u X j = Scalar.select (cmpi .slt p (broadcast S64x16384 1000000#32) j)
      (X j + (Ideal.ofBits .f32 0x00000000#32 - Ideal.log (Ideal.ofBits .f32 0x00000000#32 - Ideal.log (max (Ideal.ofBits .f32 0x33D6BF95#32)
        ((u j - Ideal.ofBits .f32 0x3F800000#32) * Ideal.ofBits .f32 0x3F7FFFFC#32 + Ideal.ofBits .f32 0x33D6BF95#32)))))
      (Ideal.ofBits .f32 0xFF800000#32) := rfl
  rw [e, hp, negInf]
  rfl

variable (V : Bufs Ideal)

/-- A lane's logit is the array's element at the lane's row and column. -/
theorem xfull_in (c : Dev nD) (t : Fin cfg2.N) (j : S64x16384.Idx) (h : t.val * 16384 + (j 1).val < 1000000) :
    xfull V c t j = V c main_arg0 (ix2 (j 0) ⟨t.val * 16384 + (j 1).val, h⟩) := by
  have h0 : (j 0).val < 64 := (j 0).isLt
  have h1 : (j 1).val < 16384 := (j 1).isLt
  have hm : win2_0.moved (grid2.coords t) j = true := (win2_0.moved_iff _ j).mpr fun a => by
    match a with
    | ⟨0, _⟩ => exact lt_of_lt_of_eq h0 (xsize_row t).symm
    | ⟨1, _⟩ =>
      refine lt_of_lt_of_eq ?_ (xsize_col t).symm
      show (j 1).val < _
      split <;> omega
  unfold xfull Window.fill
  rw [dif_pos hm]
  have e (y : (win2_0.xblock (grid2.coords t)).Idx) : blkX V c t y = V c main_arg0 ((win2_0.rect t).emb y) := rfl
  refine (e _).trans (congrArg _ ?_)
  funext a
  refine Fin.ext ((win2_0.rect_emb_val t _ a).trans ?_)
  have hi : win2_0.index t 1 = t.val := by
    show (BitVec.ofNat 32 (grid2.coords t 0).val).toNat = _
    have ht : t.val < 62 := t.isLt
    rw [coords_val, BitVec.toNat_ofNat, Nat.mod_eq_of_lt (by omega)]
  match a with
  | ⟨0, _⟩ => show 0 * 64 + (j 0).val = (j 0).val; omega
  | ⟨1, _⟩ =>
    show win2_0.index t 1 * 16384 + (j 1).val = t.val * 16384 + (j 1).val
    rw [hi]

/-- A lane's score is the perturbed logit of its row and column. -/
theorem score_apply (c : Dev nD) (t : Fin cfg2.N) (j : S64x16384.Idx) :
    score (grid2.coords t) (xfull V c t) j = sc (V c main_arg0) (j 0) (t.val * 16384 + (j 1).val) := by
  have h1 : (j 1).val < 16384 := (j 1).isLt
  have ht : t.val < 62 := t.isLt
  have hmask : cmpi .slt (k2_pay4 (grid2.coords t)) (broadcast S64x16384 1000000#32) j
      = BitVec.ofBool (decide (t.val * 16384 + (j 1).val < 1000000)) := by
    show IntOp.cmpi .slt (k2_pay4 (grid2.coords t) j) (BitVec.ofNat 32 1000000) = _
    rw [pay4_apply, WordCmp.cmpi_slt_ofNat (by omega) (by omega)]
  by_cases h : t.val * 16384 + (j 1).val < 1000000
  · rw [decide_eq_true h] at hmask
    unfold score
    rw [pay42_in _ _ _ _ j hmask (uword_apply (F := Ideal) _ j _ (pay5_apply t j)), xfull_in V c t j h]
    exact (sc_of_lt _ _ _ h).symm
  · rw [decide_eq_false h] at hmask
    unfold score
    rw [pay42_out _ _ _ j hmask]
    exact (sc_of_not_lt _ _ _ h).symm

/-- One step at a lane. -/
theorem step_lane (i : grid2.Coords) (X b : FVec Ideal S64x16384 .f32) (v : IVec S64x16384 32) (j : S64x16384.Idx) :
    stepV (F := Ideal) i X b j = (if b j < score (F := Ideal) i X j then score (F := Ideal) i X j else b j)
      ∧ stepI (F := Ideal) i X b v j = (if b j < score (F := Ideal) i X j then k2_pay4 i j else v j) := by
  have e1 : stepV (F := Ideal) i X b = select (cmpf .ogt (score (F := Ideal) i X) b) (score (F := Ideal) i X) b := by
    unfold stepV k2_pay44 k2_pay43; exact Idealize.ShloMosaic.shapeCast_id _ _
  have e2 : stepI (F := Ideal) i X b v = select (cmpf .ogt (score (F := Ideal) i X) b) (k2_pay4 i) v := by
    unfold stepI k2_pay45 k2_pay43; exact Idealize.ShloMosaic.shapeCast_id _ _
  have e3 : cmpf .ogt (score (F := Ideal) i X) b j = BitVec.ofBool (decide (b j < score (F := Ideal) i X j)) := rfl
  rw [e1, e2]
  unfold select
  rw [e3]
  by_cases h : b j < score (F := Ideal) i X j <;> simp [h, Scalar.select]

/-- The running best of a lane, after any number of points. -/
theorem best_lane (c : Dev nD) (j : S64x16384.Idx) : ∀ n ≤ 62, LaneOk (sc (V c main_arg0) (j 0)) 16384 (j 1).val n
    ((best V c n).1 j) ((best V c n).2 j)
  | 0, _ => by
    rw [best_zero]
    have e1 : (k2_pay2 : FVec Ideal S64x16384 .f32) j = ⊥ := negInf
    have e2 : (k2_pay3 : IVec S64x16384 32) j = 0#32 := rfl
    show LaneOk _ _ _ _ ((k2_pay2 : FVec Ideal S64x16384 .f32) j) ((k2_pay3 : IVec S64x16384 32) j)
    rw [e1, e2]
    exact LaneOk.zero _ _ _
  | n + 1, h => by
    have ih := best_lane c j n (by omega)
    have e := best_succ V c (⟨n, h⟩ : Fin cfg2.N)
    have e' : best V c (n + 1) = _ := e
    rw [e']
    obtain ⟨e1, e2⟩ := step_lane (grid2.coords (⟨n, h⟩ : Fin cfg2.N)) (xfull V c ⟨n, h⟩) (best V c n).1 (best V c n).2 j
    show LaneOk _ _ _ _ (stepV _ _ (best V c n).1 j) (stepI _ _ (best V c n).1 (best V c n).2 j)
    rw [e1, e2, score_apply, pay4_apply]
    exact ih.step

/-- A row's value spread over the lanes reads the row's value everywhere. -/
theorem spread {α : Type} {n : ℕ} (x : S64.Idx → α) (hs : S64.ShapeCasts S64x1) (hb : S64x1.Broadcasts ⟨2, ![64, n]⟩) (r : Fin 64) (l : Fin n) :
    broadcastTo ⟨2, ![64, n]⟩ (shapeCast S64x1 x hs) hb (ix2 r l) = x (ix1 r) := by
  refine (broadcastTo_apply _ hb _ (ix2 r (0 : Fin 1)) fun a => ?_).trans (shapeCast_apply _ hs _ (ix1 r) ?_)
  · match a with
    | ⟨0, _⟩ => rfl
    | ⟨1, _⟩ => rfl
  · rw [Shape.rowMajor_val_one, Shape.rowMajor_val_two]
    show r.val = r.val * 1 + 0
    omega

/-- The lanes of a row. -/
def rowLanes (r : Fin 64) : Finset S64x16384.Idx := Finset.univ.filter fun i => reduces_S64x16384_S64.drop i = ix1 r

theorem mem_lanes (r : Fin 64) (i : S64x16384.Idx) : i ∈ rowLanes r ↔ i 0 = r := by
  unfold rowLanes
  rw [Finset.mem_filter]
  constructor
  · rintro ⟨-, h⟩
    refine Fin.ext ?_
    have := reduces_S64x16384_S64.drop_apply_val_of_eq i 0 0
    rw [h] at this; exact this.symm
  · intro h
    refine ⟨Finset.mem_univ _, ?_⟩
    funext a
    match a with
    | ⟨0, _⟩ => exact Fin.ext ((reduces_S64x16384_S64.drop_apply_val_of_eq i 0 0).trans (congrArg Fin.val h))

/-- The end of the pass at a row: the least column among the lanes whose best score is the row's maximum. -/
theorem pay1_apply (b : FVec Ideal S64x16384 .f32) (v : IVec S64x16384 32) (r : Fin 64) (l : Fin 128) :
    k2_pay1 (F := Ideal) b v (ix2 r l) = (rowLanes r).fold IntOp.minsi 2147483647#32
      fun i => if b i = (rowLanes (i 0)).fold max ⊥ b then v i else 1000000#32 := by
  let R : FVec Ideal S64 .f32 := multiReduction .maximumf [1] S64 b 0xFF800000#32 reduces_S64x16384_S64 (.inl rfl) rfl
  have hR : ∀ r : Fin 64, R (ix1 r) = (rowLanes r).fold max ⊥ b := fun r => by
    have e := multiReduction_maximumf_eq_fold (axes := [1]) b 0xFF800000#32 reduces_S64x16384_S64 (.inl rfl) rfl (ix1 r)
    have h : FloatOps.ofBits (F := Ideal) .f32 0xFF800000#32 = ⊥ := negInf
    rw [h] at e
    exact e
  have e : k2_pay1 (F := Ideal) b v = broadcastTo S64x128 (shapeCast S64x1 (shapeCast S64x1 (multiReductionI .minsi [1] S64
      (select (cmpf .oeq b (broadcastTo S64x16384 (shapeCast S64x1 R shapeCasts_S64_S64x1) broadcasts_S64x1_S64x16384)) v
        (broadcast S64x16384 1000000#32)) 2147483647#32 reduces_S64x16384_S64 rfl) shapeCasts_S64_S64x1) shapeCasts_S64x1_S64x1)
        broadcasts_S64x1_S64x128 := rfl
  rw [e, Idealize.ShloMosaic.shapeCast_id]
  refine (spread _ shapeCasts_S64_S64x1 broadcasts_S64x1_S64x128 r l).trans ?_
  refine (multiReductionI_eq_fold .minsi _ 2147483647#32 reduces_S64x16384_S64 rfl (ix1 r)).trans ?_
  refine Finset.fold_congr fun i _ => ?_
  have hi : i = ix2 (i 0) (i 1) := by
    funext a; match a with | ⟨0, _⟩ => rfl | ⟨1, _⟩ => rfl
  have h1 : broadcastTo S64x16384 (shapeCast S64x1 R shapeCasts_S64_S64x1) broadcasts_S64x1_S64x16384 i = R (ix1 (i 0)) :=
    (congrArg _ hi).trans (spread R shapeCasts_S64_S64x1 broadcasts_S64x1_S64x16384 (i 0) (i 1))
  show Scalar.select (BitVec.ofBool (decide (b i = broadcastTo S64x16384 (shapeCast S64x1 R shapeCasts_S64_S64x1) broadcasts_S64x1_S64x16384 i)))
    (v i) 1000000#32 = _
  rw [h1, hR (i 0)]
  by_cases h : b i = (rowLanes (i 0)).fold max ⊥ b
  · rw [if_pos h, decide_eq_true h]; rfl
  · rw [if_neg h, decide_eq_false h]; rfl

/-- The end of the pass: from every lane's best score and column to the row's first maximum. -/
theorem finish (x : (⟨2, ![64, 1000000]⟩ : Shape).Idx → EReal) (b : FVec Ideal S64x16384 .f32) (v : IVec S64x16384 32)
    (hl : ∀ j : S64x16384.Idx, LaneOk (sc x (j 0)) 16384 (j 1).val 62 (b j) (v j)) (r : Fin 64) (l : Fin 128) :
    ∃ k, IsFirst 1000000 (sc x r) k ∧ k2_pay1 (F := Ideal) b v (ix2 r l) = BitVec.ofNat 32 k := by
  obtain ⟨hM1, hM2⟩ := fold_max (rowLanes r) b
  have hr (l : ℕ) (h : l < 16384) : (ix2 r (⟨l, h⟩ : Fin 16384) : S64x16384.Idx) ∈ rowLanes r := (mem_lanes r _).mpr rfl
  have hcol (i : S64x16384.Idx) (hi : i ∈ rowLanes r) : i = ix2 r (⟨(i 1).val, (i 1).isLt⟩ : Fin 16384) := by
    have h0 := (mem_lanes r i).mp hi
    funext a; match a with | ⟨0, _⟩ => exact h0 | ⟨1, _⟩ => rfl
  -- the least column's candidates
  let f : S64x16384.Idx → BitVec 32 := fun i => if b i = (rowLanes r).fold max ⊥ b then v i else 1000000#32
  have hfold : k2_pay1 (F := Ideal) b v (ix2 r l) = (rowLanes r).fold IntOp.minsi 2147483647#32 f := by
    rw [pay1_apply]
    refine Finset.fold_congr fun i hi => ?_
    rw [show (i 0 : Fin 64) = r from (mem_lanes r i).mp hi]
  have hv (i : S64x16384.Idx) : (v i).toNat < 2 ^ 31 := by
    obtain ⟨-, h | ⟨-, t, ht, h, -⟩⟩ := hl i
    · rw [h.2]; decide
    · have h1 : (i 1).val < 16384 := (i 1).isLt
      rw [h, BitVec.toNat_ofNat]; omega
  have hf (i : S64x16384.Idx) (_ : i ∈ rowLanes r) : (f i).toNat < 2 ^ 31 := by
    show (if _ then v i else 1000000#32 : BitVec 32).toNat < _
    split
    · exact hv i
    · decide
  obtain ⟨hm1, hm2, hm3⟩ := fold_min (rowLanes r) f hf
  -- a lane holding the row's maximum, whose column is inside the row
  have hattain : ∃ i ∈ rowLanes r, b i = (rowLanes r).fold max ⊥ b := by
    rcases hM2 with h | h
    · exact ⟨_, hr 0 (by omega), by rw [h]; exact le_bot_iff.mp (h ▸ hM1 _ (hr 0 (by omega)))⟩
    · exact h
  have hsmall (i : S64x16384.Idx) : (v i).toNat < 1000000 := by
    obtain ⟨-, h | ⟨hb, t, ht, h, hMb, -⟩⟩ := hl i
    · rw [h.2]; decide
    · have h1 : (i 1).val < 16384 := (i 1).isLt
      have hc : t * 16384 + (i 1).val < 1000000 := by
        by_contra hc
        exact hb.ne' (hMb.symm.trans (sc_of_not_lt _ _ _ hc))
      rw [h, BitVec.toNat_ofNat]; omega
  have fpos (i : S64x16384.Idx) (h : b i = (rowLanes r).fold max ⊥ b) : f i = v i := if_pos h
  obtain ⟨i0, hi0, hb0⟩ := hattain
  have hlt : ((rowLanes r).fold IntOp.minsi 2147483647#32 f).toNat < 1000000 :=
    (hm1 i0 hi0).trans_lt (by rw [fpos i0 hb0]; exact hsmall i0)
  obtain ⟨i1, hi1, hf1⟩ : ∃ i ∈ rowLanes r, f i = (rowLanes r).fold IntOp.minsi 2147483647#32 f := by
    rcases hm3 with h | h
    · rw [h] at hlt; exact absurd hlt (by decide)
    · exact h
  have hb1 : b i1 = (rowLanes r).fold max ⊥ b := by
    by_contra h
    have e : f i1 = 1000000#32 := if_neg h
    rw [← hf1, e] at hlt
    exact absurd hlt (by decide)
  have h11 : (i1 1).val < 16384 := (i1 1).isLt
  refine ⟨((rowLanes r).fold IntOp.minsi 2147483647#32 f).toNat, ?_, by rw [hfold, BitVec.ofNat_toNat, BitVec.setWidth_eq]⟩
  refine first_of_lanes (s := sc x r) (M := sc x r) (W := 16384) (T := 62) (by norm_num) (by norm_num) (by norm_num) (by norm_num)
    (fun c => ?_) (fun l => if h : l < 16384 then b (ix2 r (⟨l, h⟩ : Fin 16384)) else ⊥)
    (fun l => if h : l < 16384 then v (ix2 r (⟨l, h⟩ : Fin 16384)) else 0#32) (fun l h => ?_) ((rowLanes r).fold max ⊥ b) (fun l h => ?_) _
    (fun l h hb => ?_) ⟨(i1 1).val, (i1 1).isLt, ?_, ?_⟩
  · by_cases h : c < 1000000
    · rw [if_pos h]
    · rw [if_neg h, sc_of_not_lt _ _ _ h]
  · rw [dif_pos h, dif_pos h]
    exact hl (ix2 r (⟨l, h⟩ : Fin 16384))
  · rw [dif_pos h]
    exact hM1 _ (hr l h)
  · rw [dif_pos h] at hb ⊢
    rw [← fpos _ hb]
    exact hm1 _ (hr l h)
  · rw [dif_pos h11, ← hcol i1 hi1]
    exact hb1
  · rw [dif_pos h11, ← hcol i1 hi1, ← fpos i1 hb1, hf1]

/-- The exact pass's result. -/
theorem result_first (c : Dev nD) (j : S64.Idx) :
    ∃ k, IsFirst 1000000 (sc (V c main_arg0) (j 0)) k
      ∧ shapeCast S64 (extractStridedSlice S64x1 ![0, 0] (resBlk V c) slices_S64x128_S64x1_0_0) shapeCasts_S64x1_S64 j = BitVec.ofNat 32 k := by
  obtain ⟨k, hk, e⟩ := finish (V c main_arg0) (best V c 62).1 (best V c 62).2
    (fun i => best_lane V c i 62 le_rfl) (j 0) 0
  refine ⟨k, hk, ?_⟩
  rw [← e]
  refine (shapeCast_apply _ shapeCasts_S64x1_S64 j (ix2 (j 0) (0 : Fin 1)) ?_).trans ?_
  · rw [Shape.rowMajor_val_one, Shape.rowMajor_val_two]
    show (j 0).val * 1 + 0 = (j 0).val
    omega
  · refine congrArg (resBlk V c) ?_
    funext a
    match a with
    | ⟨0, _⟩ => exact Fin.ext (Nat.zero_add _)
    | ⟨1, _⟩ => rfl

end Cert.KernelIdeal.Exact

end
-- ==== Proof.Quant.lean ====
/-
  The quantised noise: the sixteen-bit word the noise pass makes of a scaled uniform, and how far below the Gumbel
  variate the word's value lies. Real analysis at one element.
-/
module

public import proofs.«01_k».proof.Proof.Gumbel
public import Mathlib.Analysis.SpecialFunctions.Log.Basic

@[expose] public section

noncomputable section

namespace Cert.Quant

open Cert.Words Cert.Gumbel Idealize.ShloMosaic

/-- The value of a positive normal word. -/
theorem ofBits_pos (b : BitVec 32) (e m : ℕ) (h1 : b.extractLsb' 31 1 = 0#1) (h2 : (b.extractLsb' 23 8).toNat = e)
    (h3 : (b.extractLsb' 0 23).toNat = m) (he : e ≠ 0) (he' : e ≠ 255) :
    Ideal.ofBits .f32 b = (((8388608 + m : ℕ) * (2 : ℝ) ^ ((e : ℤ) - 150) : ℝ) : EReal) := by
  show Ideal.ieee 8 23 b = _
  unfold Ideal.ieee
  simp only [show b.extractLsb' (8 + 23) 1 = 0#1 from h1, h2, h3]
  rw [if_neg (by omega), if_neg he, if_neg (by decide), one_mul]
  congr 1
  rw [show (e : ℤ) - (2 ^ (8 - 1) - 1) - ((23 : ℕ) : ℤ) = (e : ℤ) - 150 by push_cast; ring]
  norm_num

/-- The grid's step, -/
def step : ℝ := 39 / 131072
/-- the approximate inverse the kernel multiplies by, -/
def inv : ℝ := 13765921 / 4096
/-- the grid's offset, -/
def off : ℝ := 27 / 4
/-- the gap allowed between the quantised and the exact score, -/
def eps : ℝ := 10651519 / 34359738368
/-- the uniform's lower end, -/
def lo : ℝ := 14073749 / 140737488355328
/-- and its span. -/
def span : ℝ := 16777212 / 16777216

theorem step_bits : Ideal.ofBits .f32 0x399C0000#32 = (step : EReal) := by
  rw [ofBits_pos _ 115 1835008 (by decide) (by decide) (by decide) (by decide) (by decide)]; congr 1; unfold step; norm_num
theorem inv_bits : Ideal.ofBits .f32 0x45520D21#32 = (inv : EReal) := by
  rw [ofBits_pos _ 138 5377313 (by decide) (by decide) (by decide) (by decide) (by decide)]; congr 1; unfold inv; norm_num
theorem off_bits : Ideal.ofBits .f32 0x40D80000#32 = (off : EReal) := by
  rw [ofBits_pos _ 129 5767168 (by decide) (by decide) (by decide) (by decide) (by decide)]; congr 1; unfold off; norm_num
theorem eps_bits : Ideal.ofBits .f32 0x39A2877F#32 = (eps : EReal) := by
  rw [ofBits_pos _ 115 2262911 (by decide) (by decide) (by decide) (by decide) (by decide)]; congr 1; unfold eps; norm_num
theorem lo_bits : Ideal.ofBits .f32 0x33D6BF95#32 = (lo : EReal) := by
  rw [ofBits_pos _ 103 5685141 (by decide) (by decide) (by decide) (by decide) (by decide)]; congr 1; unfold lo; norm_num
theorem span_bits : Ideal.ofBits .f32 0x3F7FFFFC#32 = (span : EReal) := by
  rw [ofBits_pos _ 126 8388604 (by decide) (by decide) (by decide) (by decide) (by decide)]; congr 1; unfold span; norm_num

/-- The uniform is a real in a closed interval inside (0, 1). -/
theorem unif_real (n : BitVec 32) : ∃ u : ℝ, unif (mword n) = (u : EReal) ∧ lo ≤ u ∧ u ≤ 1 - 1 / 4000000 := by
  unfold unif
  rw [unit_mword, span_bits, lo_bits, ← EReal.coe_mul, ← EReal.coe_add]
  refine ⟨max lo _, (EReal.coe_strictMono.monotone.map_max).symm, le_max_left _ _, max_le (by unfold lo; norm_num) ?_⟩
  have h : ((tf n).1 ^^^ (tf n).2).toNat / 512 ≤ 8388607 := by
    have := ((tf n).1 ^^^ (tf n).2).isLt; omega
  have h' : ((((tf n).1 ^^^ (tf n).2).toNat / 512 : ℕ) : ℝ) ≤ 8388607 := by exact_mod_cast h
  unfold span lo
  linarith

/-- The Gumbel variate is a real in a bounded interval. -/
theorem gum_real (n : BitVec 32) : ∃ g : ℝ, gum (mword n) = (g : EReal) ∧ -(29 / 10) ≤ g ∧ g ≤ 16 := by
  obtain ⟨u, hu, h1, h2⟩ := unif_real n
  have h0 : 0 < u := lt_of_lt_of_le (by unfold lo; norm_num) h1
  have e1 : (27 / 10 : ℝ) < Real.exp 1 := by
    refine lt_of_lt_of_le ?_ (Real.sum_le_exp_of_nonneg (by norm_num) 6)
    norm_num [Finset.sum_range_succ, Nat.factorial]
  have hL : -Real.log u ≤ 17 := by
    have : Real.exp (-17) ≤ u := by
      refine le_trans ?_ h1
      rw [Real.exp_neg, show (17 : ℝ) = ((17 : ℕ) : ℝ) * 1 by norm_num, Real.exp_nat_mul]
      have : (27 / 10 : ℝ) ^ 17 ≤ Real.exp 1 ^ 17 := pow_le_pow_left₀ (by norm_num) e1.le 17
      refine le_trans (inv_anti₀ (by positivity) this) ?_
      unfold lo; norm_num
    have := (Real.le_log_iff_exp_le h0).mpr this
    linarith
  have hl : 1 / 4000000 ≤ -Real.log u := by
    have := Real.log_le_sub_one_of_pos h0
    linarith
  have hp : 0 < -Real.log u := lt_of_lt_of_le (by norm_num) hl
  refine ⟨-Real.log (-Real.log u), ?_, ?_, ?_⟩
  · unfold gum
    rw [hu, Ideal.log_coe, if_neg (not_le.mpr h0), ← EReal.coe_neg, Ideal.log_coe, if_neg (not_le.mpr hp), ← EReal.coe_neg]
  · have : -Real.log u ≤ Real.exp (29 / 10) := by
      refine hL.trans ?_
      have h10 : Real.exp (29 / 10) ^ 10 = Real.exp 1 ^ 29 := by
        rw [← Real.exp_nat_mul, ← Real.exp_nat_mul]; congr 1; norm_num
      have h29 : (27 / 10 : ℝ) ^ 29 ≤ Real.exp 1 ^ 29 := pow_le_pow_left₀ (by norm_num) e1.le 29
      refine le_of_pow_le_pow_left₀ (n := 10) (by norm_num) (Real.exp_pos _).le ?_
      rw [h10]
      refine le_trans (by norm_num) h29
    have := (Real.log_le_iff_le_exp hp).mpr this
    linarith
  · have : Real.exp (-16) ≤ -Real.log u := by
      refine le_trans ?_ hl
      rw [Real.exp_neg, show (16 : ℝ) = ((16 : ℕ) : ℝ) * 1 by norm_num, Real.exp_nat_mul]
      have : (27 / 10 : ℝ) ^ 16 ≤ Real.exp 1 ^ 16 := pow_le_pow_left₀ (by norm_num) e1.le 16
      refine le_trans (inv_anti₀ (by positivity) this) ?_
      norm_num
    have := (Real.le_log_iff_exp_le hp).mpr this
    linarith

/-- The quantised variate before its conversion: the floor on the grid, one less where that lies above the variate. -/
def grid (g : EReal) : EReal :=
  Scalar.select (Ideal.cmp .ogt (Ideal.liftRound Int.floor ((g - Ideal.ofBits .f32 0x40D80000#32) * Ideal.ofBits .f32 0x45520D21#32)
      * Ideal.ofBits .f32 0x399C0000#32 + Ideal.ofBits .f32 0x40D80000#32) g)
    (Ideal.liftRound Int.floor ((g - Ideal.ofBits .f32 0x40D80000#32) * Ideal.ofBits .f32 0x45520D21#32) - Ideal.ofBits .f32 0x3F800000#32)
    (Ideal.liftRound Int.floor ((g - Ideal.ofBits .f32 0x40D80000#32) * Ideal.ofBits .f32 0x45520D21#32))

/-- The quantised variate of a word. -/
def quant (w : BitVec 32) : BitVec 16 := Ideal.fptosi 16 (grid (gum w))

/-- The conversion keeps an integer in its range. -/
theorem fptosi_int (k : ℤ) (h1 : -32768 ≤ k) (h2 : k ≤ 32767) : (Ideal.fptosi 16 (((k : ℝ)) : EReal)).toInt = k := by
  have e : (if 0 ≤ (k : ℝ) then ⌊(k : ℝ)⌋ else ⌈(k : ℝ)⌉) = k := by
    rw [Int.floor_intCast, Int.ceil_intCast, ite_self]
  unfold Ideal.fptosi
  rw [Ideal.toIntClamped_coe, e]
  have e2 : max (-((2 ^ (16 - 1) : ℕ) : ℤ)) (min (((2 ^ (16 - 1) : ℕ) : ℤ) - 1) k) = k := by
    norm_num
    omega
  rw [e2, BitVec.toInt_ofInt]
  exact Int.bmod_eq_of_le (by norm_num; omega) (by norm_num; omega)

/-- The quantised variate lies below the variate, by less than the gap. -/
theorem quant_gap (n : BitVec 32) : ∃ g : ℝ, gum (mword n) = (g : EReal)
    ∧ (quant (mword n)).toInt * step + off ≤ g ∧ g < (quant (mword n)).toInt * step + off + eps := by
  obtain ⟨g, hg, h1, h2⟩ := gum_real n
  refine ⟨g, hg, ?_⟩
  unfold quant grid
  rw [hg, off_bits, inv_bits, step_bits, ofBits_one, ← EReal.coe_sub, ← EReal.coe_mul, Ideal.liftRound_coe, ← EReal.coe_mul, ← EReal.coe_add]
  have f1 := Int.floor_le ((g - off) * inv)
  have f2 := Int.lt_floor_add_one ((g - off) * inv)
  have lo1 : -32760 ≤ ⌊(g - off) * inv⌋ := Int.le_floor.mpr (by unfold off inv; push_cast; linarith)
  have hi1 : ⌊(g - off) * inv⌋ ≤ 32760 := by
    have : ⌊(g - off) * inv⌋ < 32761 := Int.floor_lt.mpr (by unfold off inv; push_cast; linarith)
    omega
  generalize ⌊(g - off) * inv⌋ = f at f1 f2 lo1 hi1 ⊢
  have hc : Ideal.cmp .ogt (((f : ℝ) * step + off : ℝ) : EReal) (g : EReal) = BitVec.ofBool (decide (g < (f : ℝ) * step + off)) := by
    show BitVec.ofBool (decide ((g : EReal) < (((f : ℝ) * step + off : ℝ) : EReal))) = _
    exact congrArg BitVec.ofBool (decide_eq_decide.mpr EReal.coe_lt_coe_iff)
  rw [hc]
  by_cases h : g < (f : ℝ) * step + off
  · rw [decide_eq_true h, show Scalar.select (BitVec.ofBool true) ((((f : ℝ)) : EReal) - 1) (((f : ℝ)) : EReal) = (((f : ℝ)) : EReal) - 1 from rfl,
      show ((((f : ℝ)) : EReal) - 1) = ((((f - 1 : ℤ) : ℝ)) : EReal) by push_cast; rfl, fptosi_int _ (by omega) (by omega)]
    unfold step off eps inv at *
    push_cast
    constructor <;> linarith
  · rw [decide_eq_false h, show Scalar.select (BitVec.ofBool false) ((((f : ℝ)) : EReal) - 1) (((f : ℝ)) : EReal) = (((f : ℝ)) : EReal) from rfl,
      fptosi_int _ (by omega) (by omega)]
    unfold step off eps inv at *
    constructor <;> linarith

end Cert.Quant

end
-- ==== Proof.NoiseValue.lean ====
/-
  The noise array after the noise pass: every element is the quantised Gumbel variate of the reference's word of its
  linear index.
-/
module

public import proofs.«01_k».proof.Proof.GenWord
public import proofs.«01_k».proof.Proof.Quant
public import proofs.«01_k».proof.Proof.RegsIdeal

@[expose] public section

set_option maxRecDepth 16384

noncomputable section

namespace Cert.KernelIdeal.Noise

open Cert.KernelIdeal Cert.KernelIdeal.Gen Cert.KernelIdeal.Whole Cert.Words Cert.Gumbel Cert.Quant
open Idealize.ShloMosaic Idealize.ShloMosaic.TcCoe Idealize.SL.Sem
open Idealize.ShloMosaic.Pipeline (Dat Window)

/-- The quantiser at a lane. -/
theorem pay1_apply (v : FVec Ideal S64x16384 .f32) (j : S64x16384.Idx) (w : BitVec 32)
    (hv : v j = Cert.Gumbel.unit w * Ideal.ofBits .f32 0x3F7FFFFC#32) : k0_pay1 (F := Ideal) v j = quant w := by
  have e : k0_pay1 (F := Ideal) v j = Ideal.fptosi 16 (grid (Ideal.ofBits .f32 0x00000000#32 - Ideal.log (Ideal.ofBits .f32 0x00000000#32 - Ideal.log (max (Ideal.ofBits .f32 0x33D6BF95#32)
        (v j + Ideal.ofBits .f32 0x33D6BF95#32))))) := rfl
  rw [e, hv, Ideal.ofBits_zero_f32, zero_sub, zero_sub]
  rfl

/-- A block's element. -/
theorem blk_apply (t : Fin cfg0.N) (j : S64x16384.Idx) :
    blk (F := Ideal) (grid0.coords t) j = quant (mword (BitVec.ofNat 32 ((j 0).val * 1000000 + (t.val * 16384 + (j 1).val)))) :=
  pay1_apply _ j _ (unit_apply _ j _ (pay2_apply t j))

/-- The noise as an array. -/
def table : S64x1000000.Idx → BitVec 16 := fun i => quant (mword (BitVec.ofNat 32 ((i 0).val * 1000000 + (i 1).val)))

variable (V : Bufs Ideal)

/-- The output array after the pass. -/
theorem arrAt_apply (c : Dev nD) (i : S64x1000000.Idx) : (dat V c).arrAt (0 : Fin 1) cfg0.N i = table i := by
  have hcov : win0_0.Covers := by decide +kernel
  refine (dat V c).arrAt_forall_of_covers (0 : Fin 1) (fun i v => v = table i) hcov (fun t hf y => ?_) i
  have hi : win0_0.index t 1 = t.val := by
    show (BitVec.ofNat 32 (grid0.coords t 0).val).toNat = _
    have ht : t.val < 62 := t.isLt
    rw [coords_val, BitVec.toNat_ofNat, Nat.mod_eq_of_lt (by omega)]
  have h0 : (((win0_0.blk t).view.emb y) 0).val = (y 0).val := by
    refine (win0_0.rect_emb_val t y 0).trans ?_
    show 0 * 64 + (y 0).val = _
    omega
  have h1 : (((win0_0.blk t).view.emb y) 1).val = t.val * 16384 + (y 1).val := by
    refine (win0_0.rect_emb_val t y 1).trans ?_
    show win0_0.index t 1 * 16384 + (y 1).val = _
    rw [hi]
  have e : (dat V c).after (0 : Fin 1) t (win0_0.xinj (grid0.coords t) y) = table ((win0_0.blk t).view.emb y) := by
    rw [after_0 V c t]
    refine (blk_apply t _).trans ?_
    unfold table
    rw [h0, h1]
  exact e

end Cert.KernelIdeal.Noise

namespace Cert.KernelIdeal.Whole

open Cert.KernelIdeal Cert.KernelIdeal.Gen
open Idealize.ShloMosaic Idealize.ShloMosaic.TcCoe Idealize.SL.Sem

/-- The noise the second call finds. -/
theorem noise_eq (m : (ℓ : Loc nD τ sig) → Buf (Elt Ideal) ℓ) (c : Dev nD) : noise m c = Noise.table :=
  funext fun i => Noise.arrAt_apply (bufs (W0 m)) c i

end Cert.KernelIdeal.Whole

end
-- ==== Proof.TwoMax.lean ====
/-
  The two-best scan of one lane, and what a wide enough gap between the best and the second best says: the mathematics
  of the quantised pass at one row, over the extended reals.
-/
module

public import proofs.«01_k».proof.Proof.Quant
public import proofs.«01_k».proof.Proof.FirstMax

@[expose] public section

noncomputable section

namespace Cert.TwoMax

open Cert.Words Cert.Gumbel Cert.Quant Cert.FirstMax Idealize.ShloMosaic

/-- The quantised score of row `r`, column `c`. -/
def qs (x : (⟨2, ![64, 1000000]⟩ : Shape).Idx → EReal) (r : Fin 64) (c : ℕ) : EReal :=
  if h : c < 1000000 then x (ix2 r ⟨c, h⟩) + (((quant (mword (BitVec.ofNat 32 (r.val * 1000000 + c)))).toInt * step : ℝ) : EReal) else ⊥

/-- A perturbed logit is at least the quantised score shifted by the offset, -/
theorem qs_le (x : (⟨2, ![64, 1000000]⟩ : Shape).Idx → EReal) (r : Fin 64) (c : ℕ) : qs x r c + (off : EReal) ≤ sc x r c := by
  by_cases h : c < 1000000
  · unfold qs
    rw [dif_pos h, sc_of_lt x r c h]
    obtain ⟨g, hg, h1, -⟩ := quant_gap (BitVec.ofNat 32 (r.val * 1000000 + c))
    rw [hg, add_assoc, ← EReal.coe_add]
    exact add_le_add le_rfl (EReal.coe_le_coe_iff.mpr h1)
  · unfold qs
    rw [dif_neg h, sc_of_not_lt x r c h, EReal.bot_add]

/-- and at most that plus the gap. -/
theorem le_qs (x : (⟨2, ![64, 1000000]⟩ : Shape).Idx → EReal) (r : Fin 64) (c : ℕ) : sc x r c ≤ qs x r c + (eps : EReal) + (off : EReal) := by
  by_cases h : c < 1000000
  · unfold qs
    rw [dif_pos h, sc_of_lt x r c h]
    obtain ⟨g, hg, -, h2⟩ := quant_gap (BitVec.ofNat 32 (r.val * 1000000 + c))
    rw [hg, add_assoc, add_assoc, ← EReal.coe_add, ← EReal.coe_add]
    refine add_le_add le_rfl (EReal.coe_le_coe_iff.mpr ?_)
    linarith
  · rw [sc_of_not_lt x r c h]; exact bot_le

/-- A score whose lead over a bound exceeds the gap is, exactly, above every score under the bound. -/
theorem lead (x : (⟨2, ![64, 1000000]⟩ : Shape).Idx → EReal) (r : Fin 64) (m : EReal) (c k : ℕ) (hc : qs x r c ≤ m)
    (hk : m + (eps : EReal) < qs x r k) : sc x r c < sc x r k := by
  refine lt_of_le_of_lt (le_qs x r c) (lt_of_lt_of_le ?_ (qs_le x r k))
  exact EReal.add_lt_add_right_coe (lt_of_le_of_lt (add_le_add hc le_rfl) hk) off

/-- The greatest of a lane's four quantised scores at step `t`. -/
def four (x : (⟨2, ![64, 1000000]⟩ : Shape).Idx → EReal) (r : Fin 64) (l t : ℕ) : EReal :=
  max (max (qs x r (t * 32768 + l)) (qs x r (t * 32768 + (8192 + l))))
    (max (qs x r (t * 32768 + (16384 + l))) (qs x r (t * 32768 + (24576 + l))))

theorem le_four (x : (⟨2, ![64, 1000000]⟩ : Shape).Idx → EReal) (r : Fin 64) (l t k : ℕ) (hk : k < 4) :
    qs x r (t * 32768 + l + 8192 * k) ≤ four x r l t := by
  unfold four
  match k, hk with
  | 0, _ => rw [show t * 32768 + l + 8192 * 0 = t * 32768 + l by omega]; exact le_max_of_le_left (le_max_of_le_left le_rfl)
  | 1, _ => rw [show t * 32768 + l + 8192 * 1 = t * 32768 + (8192 + l) by omega]; exact le_max_of_le_left (le_max_right _ _)
  | 2, _ => rw [show t * 32768 + l + 8192 * 2 = t * 32768 + (16384 + l) by omega]; exact le_max_of_le_right (le_max_left _ _)
  | 3, _ => rw [show t * 32768 + l + 8192 * 3 = t * 32768 + (24576 + l) by omega]; exact le_max_of_le_right (le_max_right _ _)

theorem four_mem (x : (⟨2, ![64, 1000000]⟩ : Shape).Idx → EReal) (r : Fin 64) (l t : ℕ) :
    ∃ k < 4, qs x r (t * 32768 + l + 8192 * k) = four x r l t := by
  unfold four
  rcases max_choice (max (qs x r (t * 32768 + l)) (qs x r (t * 32768 + (8192 + l))))
    (max (qs x r (t * 32768 + (16384 + l))) (qs x r (t * 32768 + (24576 + l)))) with h | h <;> rw [h]
  · rcases max_choice (qs x r (t * 32768 + l)) (qs x r (t * 32768 + (8192 + l))) with h | h <;> rw [h]
    · exact ⟨0, by omega, congrArg _ (by omega)⟩
    · exact ⟨1, by omega, congrArg _ (by omega)⟩
  · rcases max_choice (qs x r (t * 32768 + (16384 + l))) (qs x r (t * 32768 + (24576 + l))) with h | h <;> rw [h]
    · exact ⟨2, by omega, congrArg _ (by omega)⟩
    · exact ⟨3, by omega, congrArg _ (by omega)⟩

/-- What a lane holds after `n` steps of the scan of `M`: its best value, the step it was found at, and a bound on the
    values of the other steps. -/
def TwoOk (M : ℕ → EReal) (n : ℕ) (b : EReal) (v : BitVec 32) (u : EReal) : Prop :=
  (∀ t < n, M t ≤ b) ∧ (∀ t < n, v ≠ BitVec.ofNat 32 t → M t ≤ u)
    ∧ ((b = ⊥ ∧ v = 0#32) ∨ ∃ t < n, v = BitVec.ofNat 32 t ∧ M t = b)

theorem TwoOk.zero (M : ℕ → EReal) (u : EReal) : TwoOk M 0 ⊥ 0#32 u :=
  ⟨fun t h => absurd h (Nat.not_lt_zero t), fun t h => absurd h (Nat.not_lt_zero t), .inl ⟨rfl, rfl⟩⟩

theorem TwoOk.step {M : ℕ → EReal} {n : ℕ} {b u : EReal} {v : BitVec 32} (h : TwoOk M n b v u) :
    TwoOk M (n + 1) (max (M n) b) (if b < M n then BitVec.ofNat 32 n else v) (if b < M n then b else max u (M n)) := by
  obtain ⟨h1, h2, h3⟩ := h
  by_cases hb : b < M n
  · rw [if_pos hb, if_pos hb, max_eq_left hb.le]
    refine ⟨fun t ht => ?_, fun t ht hne => ?_, .inr ⟨n, Nat.lt_succ_self n, rfl, rfl⟩⟩
    · rcases Nat.lt_succ_iff_lt_or_eq.mp ht with h | rfl
      · exact (h1 t h).trans hb.le
      · exact le_rfl
    · rcases Nat.lt_succ_iff_lt_or_eq.mp ht with h | rfl
      · exact h1 t h
      · exact absurd rfl hne
  · rw [if_neg hb, if_neg hb, max_eq_right (not_lt.mp hb)]
    refine ⟨fun t ht => ?_, fun t ht hne => ?_, h3.imp id fun ⟨t, ht, e⟩ => ⟨t, Nat.lt_succ_of_lt ht, e⟩⟩
    · rcases Nat.lt_succ_iff_lt_or_eq.mp ht with h | rfl
      · exact h1 t h
      · exact not_lt.mp hb
    · rcases Nat.lt_succ_iff_lt_or_eq.mp ht with h | rfl
      · exact (h2 t h hne).trans (le_max_left _ _)
      · exact le_max_right _ _

theorem TwoOk.small {M : ℕ → EReal} {n : ℕ} {b u : EReal} {v : BitVec 32} (h : TwoOk M n b v u) (hn : 0 < n) (hn' : n ≤ 31) : v.toNat < n := by
  rcases h.2.2 with ⟨-, rfl⟩ | ⟨t, ht, rfl, -⟩
  · exact hn
  · rw [BitVec.toNat_ofNat]; omega

/-- What the pass says of a row whose flag is set: a word naming four columns, one of which is above all the others. -/
def Found (x : (⟨2, ![64, 1000000]⟩ : Shape).Idx → EReal) (r : Fin 64) (w : BitVec 32) : Prop :=
  ∃ code : ℕ, w = BitVec.ofNat 32 code ∧ code < 31 * 32768 ∧ ∃ k < 4, code + 8192 * k < 1000000
    ∧ ∀ c < 1000000, (∀ k < 4, c ≠ code + 8192 * k) → sc x r c < sc x r (code + 8192 * k)

/-- The end of the scan at a row, over any finite set of lanes with columns `l`: the least code among the lanes that hold
    the row's best, if the best leads everything else by more than the gap. -/
theorem found {ι : Type} (S : Finset ι) (l : ι → ℕ) (hl : ∀ i ∈ S, l i < 8192) (hS : ∀ n < 8192, ∃ i ∈ S, l i = n)
    (hinj : ∀ i ∈ S, ∀ i' ∈ S, l i = l i' → i = i')
    (x : (⟨2, ![64, 1000000]⟩ : Shape).Idx → EReal) (r : Fin 64) (b u : ι → EReal) (v : ι → BitVec 32)
    (hok : ∀ i ∈ S, TwoOk (four x r (l i)) 31 (b i) (v i) (u i)) (w : BitVec 32)
    (hw : w = S.fold IntOp.minsi 2147483647#32 fun i => if b i = S.fold max ⊥ b then v i * 32768#32 + BitVec.ofNat 32 (l i) else 1073741824#32)
    (hlead : max (S.fold max ⊥ fun i => if v i * 32768#32 + BitVec.ofNat 32 (l i) = w then ⊥ else b i) (S.fold max ⊥ u) + (eps : EReal)
      < S.fold max ⊥ b) : Found x r w := by
  obtain ⟨hM1, hM2⟩ := fold_max S b
  have hv (i : ι) (hi : i ∈ S) : (v i).toNat < 31 := (hok i hi).small (by omega) le_rfl
  have hcode (i : ι) (hi : i ∈ S) : (v i * 32768#32 + BitVec.ofNat 32 (l i)).toNat = (v i).toNat * 32768 + l i := by
    have h1 := hv i hi
    have h2 := hl i hi
    rw [BitVec.toNat_add, BitVec.toNat_mul, BitVec.toNat_ofNat, BitVec.toNat_ofNat]
    omega
  -- a lane holding the row's best
  have hR : S.fold max ⊥ b ≠ ⊥ := fun h => by rw [h] at hlead; exact absurd hlead not_lt_bot
  obtain ⟨i0, hi0, hb0⟩ := hM2.resolve_left hR
  -- the least code is one of them's
  have hf (i : ι) (hi : i ∈ S) : (if b i = S.fold max ⊥ b then v i * 32768#32 + BitVec.ofNat 32 (l i) else 1073741824#32).toNat < 2 ^ 31 := by
    split
    · rw [hcode i hi]; have := hv i hi; have := hl i hi; omega
    · decide
  obtain ⟨hm1, -, hm3⟩ := fold_min S _ hf
  rw [← hw] at hm1 hm3
  have hwlt : w.toNat < 2 ^ 30 := by
    refine (hm1 i0 hi0).trans_lt ?_
    rw [if_pos hb0, hcode i0 hi0]; have := hv i0 hi0; have := hl i0 hi0; omega
  obtain ⟨i1, hi1, hw1⟩ : ∃ i ∈ S, (if b i = S.fold max ⊥ b then v i * 32768#32 + BitVec.ofNat 32 (l i) else 1073741824#32) = w := by
    rcases hm3 with h | h
    · rw [h] at hwlt; exact absurd hwlt (by decide)
    · exact h
  have hb1 : b i1 = S.fold max ⊥ b := by
    by_contra h
    rw [if_neg h] at hw1
    rw [← hw1] at hwlt
    exact absurd hwlt (by decide)
  rw [if_pos hb1] at hw1
  have hl1 := hl i1 hi1
  obtain ⟨g1, g2, g3⟩ := hok i1 hi1
  obtain ⟨t, ht, hvt, hMt⟩ := g3.resolve_left fun h => hR (hb1 ▸ h.1)
  obtain ⟨k, hk, hqk⟩ := four_mem x r (l i1) t
  rw [hMt, hb1] at hqk
  have hwt : w = BitVec.ofNat 32 (t * 32768 + l i1) := by
    rw [← hw1, hvt, BitVec.ofNat_add, BitVec.ofNat_mul]
  refine ⟨t * 32768 + l i1, hwt, by omega, k, hk, ?_, fun c hc hne => ?_⟩
  · by_contra h
    refine hR (hqk.symm.trans ?_)
    unfold qs
    rw [dif_neg h]
  · refine lead x r _ c _ ?_ (lt_of_lt_of_eq hlead hqk.symm)
    obtain ⟨i, hi, hli⟩ := hS (c % 8192) (Nat.mod_lt _ (by omega))
    have hcdec : c = c / 32768 * 32768 + l i + 8192 * (c % 32768 / 8192) := by rw [hli]; omega
    have ht' : c / 32768 < 31 := by omega
    have hk' : c % 32768 / 8192 < 4 := by omega
    have hle : qs x r c ≤ four x r (l i) (c / 32768) := by
      have := le_four x r (l i) (c / 32768) _ hk'
      rwa [← hcdec] at this
    by_cases h : l i = l i1
    · obtain rfl := hinj i hi i1 hi1 h
      have hne' : c / 32768 ≠ t := fun e => hne _ hk' (by rw [← e]; exact hcdec)
      refine hle.trans ((g2 _ ht' fun e => hne' ?_).trans (((fold_max S u).1 i hi).trans (le_max_right _ _)))
      have e' := congrArg BitVec.toNat (hvt.symm.trans e)
      rw [BitVec.toNat_ofNat, BitVec.toNat_ofNat] at e'
      omega
    · have hcne : v i * 32768#32 + BitVec.ofNat 32 (l i) ≠ w := fun e => h (by
        have e' := congrArg BitVec.toNat (e.trans hw1.symm)
        rw [hcode i hi, hcode i1 hi1] at e'
        have := hl i hi
        omega)
      have := (fold_max S fun i => if v i * 32768#32 + BitVec.ofNat 32 (l i) = w then ⊥ else b i).1 i hi
      rw [if_neg hcne] at this
      exact hle.trans (((hok i hi).1 _ ht').trans (this.trans (le_max_left _ _)))

end Cert.TwoMax

end
-- ==== Proof.PassValue.lean ====
/-
  The quantised pass at the extended reals: what its two results say of a row, from the logits and the noise table.
-/
module

public import proofs.«01_k».proof.Proof.PassRunIdeal
public import proofs.«01_k».proof.Proof.NoiseValue
public import proofs.«01_k».proof.Proof.TwoMax
public import proofs.«01_k».proof.Proof.ExactValue

@[expose] public section

set_option maxRecDepth 16384

noncomputable section

namespace Cert.KernelIdeal.Pass

open Cert.KernelIdeal Cert.KernelIdeal.Gen Cert.KernelIdeal.Whole Cert.Words Cert.Gumbel Cert.Quant Cert.FirstMax Cert.TwoMax
open Cert.KernelIdeal.Exact (spread negInf)
open Idealize.ShloMosaic Idealize.ShloMosaic.TcCoe Idealize.SL.Sem
open Idealize.ShloMosaic.Pipeline (Dat Window)

variable (V : Bufs Ideal)

/-- A block's logit is the array's element at its row and column, -/
theorem fullX_in (c : Dev nD) (t : Fin cfg1.N) (j : S64x32768.Idx) (h : t.val * 32768 + (j 1).val < 1000000) :
    fullX V c t j = V c main_arg0 (ix2 (j 0) ⟨t.val * 32768 + (j 1).val, h⟩) := by
  have hj : (j 1).val < 32768 := (j 1).isLt
  have ht : t.val < 31 := lt_of_lt_of_eq t.isLt N_1
  have hm : win1_0.moved (grid1.coords t) j = true := moved0 t j (by split <;> omega)
  unfold fullX Window.fill
  rw [dif_pos hm]
  have e (y : (win1_0.xblock (grid1.coords t)).Idx) : blkX V c t y = V c main_arg0 ((win1_0.rect t).emb y) := rfl
  refine (e _).trans (congrArg _ ?_)
  funext a
  refine Fin.ext ((win1_0.rect_emb_val t _ a).trans ?_)
  have hi : win1_0.index t 1 = t.val := by
    show (BitVec.ofNat 32 (grid1.coords t 0).val).toNat = _
    rw [coords_val, BitVec.toNat_ofNat, Nat.mod_eq_of_lt (by omega)]
  match a with
  | ⟨0, _⟩ => show 0 * 64 + (j 0).val = (j 0).val; omega
  | ⟨1, _⟩ =>
    show win1_0.index t 1 * 32768 + (j 1).val = t.val * 32768 + (j 1).val
    rw [hi]
/-- and so is its noise. -/
theorem fullN_in (c : Dev nD) (t : Fin cfg1.N) (j : S64x32768.Idx) (h : t.val * 32768 + (j 1).val < 1000000) :
    fullN V c t j = V c main_v0 (ix2 (j 0) ⟨t.val * 32768 + (j 1).val, h⟩) := by
  have hj : (j 1).val < 32768 := (j 1).isLt
  have ht : t.val < 31 := lt_of_lt_of_eq t.isLt N_1
  have hm : win1_1.moved (grid1.coords t) j = true := moved1 t j (by split <;> omega)
  unfold fullN Window.fill
  rw [dif_pos hm]
  have e (y : (win1_1.xblock (grid1.coords t)).Idx) : blkN V c t y = V c main_v0 ((win1_1.rect t).emb y) := rfl
  refine (e _).trans (congrArg _ ?_)
  funext a
  refine Fin.ext ((win1_1.rect_emb_val t _ a).trans ?_)
  have hi : win1_1.index t 1 = t.val := by
    show (BitVec.ofNat 32 (grid1.coords t 0).val).toNat = _
    rw [coords_val, BitVec.toNat_ofNat, Nat.mod_eq_of_lt (by omega)]
  match a with
  | ⟨0, _⟩ => show 0 * 64 + (j 0).val = (j 0).val; omega
  | ⟨1, _⟩ =>
    show win1_1.index t 1 * 32768 + (j 1).val = t.val * 32768 + (j 1).val
    rw [hi]

variable (c : Dev nD) (hN : V c main_v0 = Noise.table)

include hN in
/-- A score of a block inside the row. -/
theorem entry_in (t : Fin cfg1.N) (j : S64x32768.Idx) (h : t.val * 32768 + (j 1).val < 1000000) :
    entry (F := Ideal) (fullX V c t) (fullN V c t) j = qs (V c main_arg0) (j 0) (t.val * 32768 + (j 1).val) := by
  have e : entry (F := Ideal) (fullX V c t) (fullN V c t) j = fullX V c t j + (((BitVec.toInt (fullN V c t j) : ℤ) : ℝ) : EReal) * Ideal.ofBits .f32 0x399C0000#32 := rfl
  rw [e, fullX_in V c t j h, fullN_in V c t j h, hN, step_bits, ← EReal.coe_mul]
  unfold qs
  rw [dif_pos h]
  rfl

include hN in
/-- A lane's maximum at a point is the greatest of its four quantised scores. -/
theorem top_apply (t : Fin cfg1.N) (j : S64x8192.Idx) :
    top V c t j = four (V c main_arg0) (j 0) (j 1).val t.val := by
  have hj : (j 1).val < 8192 := (j 1).isLt
  have ht : t.val < 31 := lt_of_lt_of_eq t.isLt N_1
  have key (k : Fin 4) (n : ℕ) (hn : 8192 * k.val + (j 1).val = n) (h : t.val * 32768 + n < 1000000) :
      entry (F := Ideal) (fullX V c t) (fullN V c t) (at4 j k) = qs (V c main_arg0) (j 0) (t.val * 32768 + n) := by
    subst hn
    exact entry_in V c hN t (at4 j k) h
  have out (n : ℕ) (h : ¬ t.val * 32768 + n < 1000000) : (Scalar.ofBits .f32 0xFF800000#32 : Ideal .f32) = qs (V c main_arg0) (j 0) (t.val * 32768 + n) := by
    unfold qs
    rw [dif_neg h]
    exact negInf
  unfold top four
  rw [max4, key 0 (j 1).val (by show 8192 * 0 + _ = _; omega) (by omega), key 1 (8192 + (j 1).val) (by show 8192 * 1 + _ = _; omega) (by omega)]
  have e2 : (if (j 1).val < (if t.val = 30 then 576 else 8192) then entry (F := Ideal) (fullX V c t) (fullN V c t) (at4 j 2) else Scalar.ofBits .f32 0xFF800000#32)
      = qs (V c main_arg0) (j 0) (t.val * 32768 + (16384 + (j 1).val)) := by
    by_cases h : (j 1).val < (if t.val = 30 then 576 else 8192)
    · rw [if_pos h, key 2 (16384 + (j 1).val) (by show 8192 * 2 + _ = _; omega) (by split at h <;> omega)]
    · rw [if_neg h, out (16384 + (j 1).val) (by split at h <;> omega)]
  have e3 : (if (j 1).val < (if t.val = 30 then 0 else 8192) then entry (F := Ideal) (fullX V c t) (fullN V c t) (at4 j 3) else Scalar.ofBits .f32 0xFF800000#32)
      = qs (V c main_arg0) (j 0) (t.val * 32768 + (24576 + (j 1).val)) := by
    by_cases h : (j 1).val < (if t.val = 30 then 0 else 8192)
    · rw [if_pos h, key 3 (24576 + (j 1).val) (by show 8192 * 3 + _ = _; omega) (by split at h <;> omega)]
    · rw [if_neg h, out (24576 + (j 1).val) (by split at h <;> omega)]
  rw [e2, e3]
  rfl

/-- One step at a lane. -/
theorem next_lane (i : grid1.Coords) (M b u : FVec Ideal S64x8192 .f32) (v : IVec S64x8192 32) (j : S64x8192.Idx) :
    nextB (F := Ideal) M b j = max (M j) (b j)
      ∧ nextS (F := Ideal) i M b v j = (if b j < M j then BitVec.ofNat 32 (i 0).val else v j)
      ∧ nextT (F := Ideal) M b u j = (if b j < M j then b j else max (u j) (M j)) := by
  have e1 : nextB (F := Ideal) M b = maximumf M b := by
    unfold nextB; exact Idealize.ShloMosaic.shapeCast_id _ _
  have e2 : nextS (F := Ideal) i M b v = select (cmpf .ogt M b) (broadcast S64x8192 (BitVec.ofNat 32 (i 0).val)) v := by
    unfold nextS k1_pay1 k1_pay14; exact Idealize.ShloMosaic.shapeCast_id _ _
  have e3 : nextT (F := Ideal) M b u = select (cmpf .ogt M b) b (maximumf u M) := by
    unfold nextT k1_pay2; exact Idealize.ShloMosaic.shapeCast_id _ _
  have e4 : cmpf .ogt M b j = BitVec.ofBool (decide (b j < M j)) := rfl
  rw [e1, e2, e3]
  refine ⟨rfl, ?_⟩
  unfold select
  rw [e4]
  by_cases h : b j < M j
  · rw [if_pos h, if_pos h, decide_eq_true h]; exact ⟨rfl, rfl⟩
  · rw [if_neg h, if_neg h, decide_eq_false h]; exact ⟨rfl, rfl⟩

include hN in
/-- The running values of a lane, after any number of points. -/
theorem track_lane (j : S64x8192.Idx) : ∀ n ≤ 31, TwoOk (four (V c main_arg0) (j 0) (j 1).val) n
    ((track V c n).b j) ((track V c n).s j) ((track V c n).t j)
  | 0, _ => by
    rw [track_zero]
    have e1 : (k1_pay8 : FVec Ideal S64x8192 .f32) j = ⊥ := negInf
    have e2 : (k1_pay9 : IVec S64x8192 32) j = 0#32 := rfl
    show TwoOk _ _ ((k1_pay8 : FVec Ideal S64x8192 .f32) j) ((k1_pay9 : IVec S64x8192 32) j) _
    rw [e1, e2]
    exact TwoOk.zero _ _
  | n + 1, h => by
    have hn : n < cfg1.N := lt_of_lt_of_eq h N_1.symm
    have ih := track_lane j n (by omega)
    have e := track_succ V c (⟨n, hn⟩ : Fin cfg1.N)
    have e' : track V c (n + 1) = _ := e
    rw [e']
    obtain ⟨e1, e2, e3⟩ := next_lane (grid1.coords (⟨n, hn⟩ : Fin cfg1.N)) (top V c ⟨n, hn⟩) (track V c n).b (track V c n).t (track V c n).s j
    show TwoOk _ _ (nextB (top V c ⟨n, hn⟩) (track V c n).b j) (nextS _ (top V c ⟨n, hn⟩) (track V c n).b (track V c n).s j)
      (nextT (top V c ⟨n, hn⟩) (track V c n).b (track V c n).t j)
    rw [e1, e2, e3, top_apply V c hN, coords_val]
    exact ih.step

/-! ## The end of the pass -/

/-- The lanes of a row. -/
def rowLanes (r : Fin 64) : Finset S64x8192.Idx := Finset.univ.filter fun i => reduces_S64x8192_S64.drop i = ix1 r

theorem mem_lanes (r : Fin 64) (i : S64x8192.Idx) : i ∈ rowLanes r ↔ i 0 = r := by
  unfold rowLanes
  rw [Finset.mem_filter]
  constructor
  · rintro ⟨-, h⟩
    refine Fin.ext ?_
    have := reduces_S64x8192_S64.drop_apply_val_of_eq i 0 0
    rw [h] at this; exact this.symm
  · intro h
    refine ⟨Finset.mem_univ _, ?_⟩
    funext a
    match a with
    | ⟨0, _⟩ => exact Fin.ext ((reduces_S64x8192_S64.drop_apply_val_of_eq i 0 0).trans (congrArg Fin.val h))

/-- A column's value spread over the lanes. -/
theorem spread1 {α : Type} {n : ℕ} (y : S64x1.Idx → α) (hb : S64x1.Broadcasts ⟨2, ![64, n]⟩) (r : Fin 64) (l : Fin n) :
    broadcastTo ⟨2, ![64, n]⟩ y hb (ix2 r l) = y (ix2 r (0 : Fin 1)) := by
  refine broadcastTo_apply _ hb _ (ix2 r (0 : Fin 1)) fun a => ?_
  match a with
  | ⟨0, _⟩ => rfl
  | ⟨1, _⟩ => rfl

/-- A row's value as a column of one. -/
theorem cast1 {α : Type} (x : S64.Idx → α) (hs : S64.ShapeCasts S64x1) (r : Fin 64) : shapeCast S64x1 x hs (ix2 r (0 : Fin 1)) = x (ix1 r) := by
  refine shapeCast_apply _ hs _ (ix1 r) ?_
  rw [Shape.rowMajor_val_one, Shape.rowMajor_val_two]
  show r.val = r.val * 1 + 0
  omega

/-- A row's maximum. -/
theorem rmax_apply (b : FVec Ideal S64x8192 .f32) (r : Fin 64) :
    multiReduction (F := Ideal) .maximumf [1] S64 b 0xFF800000#32 reduces_S64x8192_S64 (.inl rfl) rfl (ix1 r) = (rowLanes r).fold max ⊥ b := by
  have e := multiReduction_maximumf_eq_fold (axes := [1]) b 0xFF800000#32 reduces_S64x8192_S64 (.inl rfl) rfl (ix1 r)
  have h : FloatOps.ofBits (F := Ideal) .f32 0xFF800000#32 = ⊥ := negInf
  rw [h] at e
  exact e

theorem idx_eta (i : S64x8192.Idx) : i = ix2 (i 0) (i 1) := by
  funext a; match a with | ⟨0, _⟩ => rfl | ⟨1, _⟩ => rfl

/-- A lane's code. -/
theorem code_apply (s : IVec S64x8192 32) (i : S64x8192.Idx) : k1_pay3 (F := Ideal) lanes s i = s i * 32768#32 + BitVec.ofNat 32 (i 1).val := by
  have e : k1_pay3 (F := Ideal) lanes s i = s i * 32768#32 + iota .tc S64x8192 32 [1] iota_S64x8192_d1_w32 i := rfl
  rw [e, iota_single_apply]

/-- The row's best, in a column of one. -/
theorem pay4_apply (b : FVec Ideal S64x8192 .f32) (r : Fin 64) : k1_pay4 (F := Ideal) b (ix2 r (0 : Fin 1)) = (rowLanes r).fold max ⊥ b := by
  unfold k1_pay4
  exact (cast1 _ _ r).trans (rmax_apply b r)

/-- The least code among the lanes that hold the row's best. -/
theorem pay5_apply (b : FVec Ideal S64x8192 .f32) (s : IVec S64x8192 32) (r : Fin 64) :
    k1_pay5 (F := Ideal) lanes b s (ix2 r (0 : Fin 1)) = (rowLanes r).fold IntOp.minsi 2147483647#32
      fun i => if b i = (rowLanes r).fold max ⊥ b then s i * 32768#32 + BitVec.ofNat 32 (i 1).val else 1073741824#32 := by
  unfold k1_pay5
  refine (cast1 _ _ r).trans ((multiReductionI_eq_fold .minsi _ 2147483647#32 reduces_S64x8192_S64 rfl (ix1 r)).trans ?_)
  refine Finset.fold_congr fun i hi => ?_
  have hr : (i 0 : Fin 64) = r := (mem_lanes r i).mp hi
  have h1 : broadcastTo S64x8192 (k1_pay4 (F := Ideal) b) broadcasts_S64x1_S64x8192 i = (rowLanes r).fold max ⊥ b := by
    refine (congrArg _ (idx_eta i)).trans ((spread1 _ broadcasts_S64x1_S64x8192 (i 0) (i 1)).trans ?_)
    rw [hr]
    exact pay4_apply b r
  show Scalar.select (BitVec.ofBool (decide (b i = broadcastTo S64x8192 (k1_pay4 (F := Ideal) b) broadcasts_S64x1_S64x8192 i)))
    (k1_pay3 (F := Ideal) lanes s i) 1073741824#32 = _
  rw [h1, code_apply]
  by_cases h : b i = (rowLanes r).fold max ⊥ b
  · rw [if_pos h, decide_eq_true h]; rfl
  · rw [if_neg h, decide_eq_false h]; rfl

/-- The first result. -/
theorem pay6_apply (b : FVec Ideal S64x8192 .f32) (s : IVec S64x8192 32) (r : Fin 64) (l : Fin 128) :
    k1_pay6 (F := Ideal) lanes b s (ix2 r l) = k1_pay5 (F := Ideal) lanes b s (ix2 r (0 : Fin 1)) := by
  unfold k1_pay6
  refine (spread1 _ broadcasts_S64x1_S64x128 r l).trans ?_
  rw [Idealize.ShloMosaic.shapeCast_id]

/-- A flag at a row: the best leads both others by more than the gap. -/
theorem flag_apply (P Q R : FVec Ideal S64x1 .f32) (w : BitVec 32) (j : S64x1.Idx) :
    extui 32 (cmpf .ogt R (addf (maximumf P Q) (broadcast S64x1 (Scalar.ofBits .f32 w)))) natLt_1_32 j
      = BitVec.setWidth 32 (BitVec.ofBool (decide (max (P j) (Q j) + Ideal.ofBits .f32 w < R j))) := rfl

/-- The second result is set only if the row's best leads by more than the gap. -/
theorem pay7_apply (b u : FVec Ideal S64x8192 .f32) (s : IVec S64x8192 32) (r : Fin 64) (l : Fin 128)
    (h : k1_pay7 (F := Ideal) lanes b s u (ix2 r l) ≠ 0#32) :
    max ((rowLanes r).fold max ⊥ fun i => if s i * 32768#32 + BitVec.ofNat 32 (i 1).val = k1_pay5 (F := Ideal) lanes b s (ix2 r (0 : Fin 1)) then ⊥ else b i)
      ((rowLanes r).fold max ⊥ u) + (eps : EReal) < (rowLanes r).fold max ⊥ b := by
  let A : FVec Ideal S64x8192 .f32 := select (cmpi .eq (k1_pay3 (F := Ideal) lanes s) (broadcastTo S64x8192 (k1_pay5 (F := Ideal) lanes b s) broadcasts_S64x1_S64x8192))
    (broadcast S64x8192 (Scalar.ofBits .f32 0xFF800000#32 : Ideal .f32)) b
  have hA : (rowLanes r).fold max ⊥ A = (rowLanes r).fold max ⊥ fun i => if s i * 32768#32 + BitVec.ofNat 32 (i 1).val = k1_pay5 (F := Ideal) lanes b s (ix2 r (0 : Fin 1)) then ⊥ else b i := by
    refine Finset.fold_congr fun i hi => ?_
    have hr : (i 0 : Fin 64) = r := (mem_lanes r i).mp hi
    have h1 : broadcastTo S64x8192 (k1_pay5 (F := Ideal) lanes b s) broadcasts_S64x1_S64x8192 i = k1_pay5 (F := Ideal) lanes b s (ix2 r (0 : Fin 1)) := by
      refine (congrArg _ (idx_eta i)).trans ((spread1 _ broadcasts_S64x1_S64x8192 (i 0) (i 1)).trans ?_)
      rw [hr]
    show Scalar.select (BitVec.ofBool (decide (k1_pay3 (F := Ideal) lanes s i = broadcastTo S64x8192 (k1_pay5 (F := Ideal) lanes b s) broadcasts_S64x1_S64x8192 i)))
      (Ideal.ofBits .f32 0xFF800000#32) (b i) = _
    rw [h1, code_apply, negInf]
    by_cases h : s i * 32768#32 + BitVec.ofNat 32 (i 1).val = k1_pay5 (F := Ideal) lanes b s (ix2 r (0 : Fin 1))
    · rw [if_pos h, decide_eq_true h]; rfl
    · rw [if_neg h, decide_eq_false h]; rfl
  have e : k1_pay7 (F := Ideal) lanes b s u (ix2 r l) = BitVec.setWidth 32 (BitVec.ofBool (decide
      (max (shapeCast S64x1 (multiReduction (F := Ideal) .maximumf [1] S64 A 0xFF800000#32 reduces_S64x8192_S64 (.inl rfl) rfl) shapeCasts_S64_S64x1 (ix2 r (0 : Fin 1)))
          (shapeCast S64x1 (multiReduction (F := Ideal) .maximumf [1] S64 u 0xFF800000#32 reduces_S64x8192_S64 (.inl rfl) rfl) shapeCasts_S64_S64x1 (ix2 r (0 : Fin 1)))
        + Ideal.ofBits .f32 0x39A2877F#32 < k1_pay4 (F := Ideal) b (ix2 r (0 : Fin 1))))) := by
    have e' : k1_pay7 (F := Ideal) lanes b s u = broadcastTo S64x128 (shapeCast S64x1 (extui 32 (cmpf .ogt (k1_pay4 (F := Ideal) b)
        (addf (maximumf (shapeCast S64x1 (multiReduction (F := Ideal) .maximumf [1] S64 A 0xFF800000#32 reduces_S64x8192_S64 (.inl rfl) rfl) shapeCasts_S64_S64x1)
          (shapeCast S64x1 (multiReduction (F := Ideal) .maximumf [1] S64 u 0xFF800000#32 reduces_S64x8192_S64 (.inl rfl) rfl) shapeCasts_S64_S64x1))
          (broadcast S64x1 (Scalar.ofBits .f32 0x39A2877F#32)))) natLt_1_32) shapeCasts_S64x1_S64x1) broadcasts_S64x1_S64x128 := rfl
    rw [e', Idealize.ShloMosaic.shapeCast_id]
    exact (spread1 _ broadcasts_S64x1_S64x128 r l).trans (flag_apply _ _ _ _ _)
  by_contra hc
  refine h (e.trans ?_)
  rw [cast1, cast1, rmax_apply, rmax_apply, pay4_apply, hA, eps_bits, decide_eq_false hc]
  decide

include hN in
/-- What the pass says of a row whose flag is set. -/
theorem found_row (r : Fin 64) (l l' : Fin 128) (h : resF V c (ix2 r l) ≠ 0#32) : Found (V c main_arg0) r (resI V c (ix2 r l')) := by
  have hp := pay7_apply _ _ _ r l h
  unfold resI
  rw [pay6_apply]
  refine found (rowLanes r) (fun i => (i 1).val) (fun i _ => (i 1).isLt) (fun n hn => ⟨ix2 r (⟨n, hn⟩ : Fin 8192), (mem_lanes r _).mpr rfl, rfl⟩)
    (fun i hi i' hi' e => ?_) (V c main_arg0) r (track V c 31).b (track V c 31).t (track V c 31).s (fun i hi => ?_) _ (pay5_apply _ _ r) hp
  · rw [idx_eta i, idx_eta i', show (i 0 : Fin 64) = r from (mem_lanes r i).mp hi, show (i' 0 : Fin 64) = r from (mem_lanes r i').mp hi',
      show (i 1 : Fin 8192) = i' 1 from Fin.ext e]
  · have := track_lane V c hN i 31 le_rfl
    rwa [show (i 0 : Fin 64) = r from (mem_lanes r i).mp hi] at this

end Cert.KernelIdeal.Pass

end
-- ==== Proof.PickValue.lean ====
/-
  The last call at the extended reals: among a row's four candidates it recomputes the perturbed logits and returns the
  first maximum of the row.
-/
module

public import proofs.«01_k».proof.Proof.PickIdeal
public import proofs.«01_k».proof.Proof.ExactValue
public import proofs.«01_k».proof.Proof.TwoMax

@[expose] public section

set_option maxRecDepth 16384

noncomputable section

namespace Cert.KernelIdeal.Pick

open Cert.KernelIdeal Cert.KernelIdeal.Gen Cert.Words Cert.Gumbel Cert.FirstMax Cert.TwoMax
open Cert.KernelIdeal.Exact (spread negInf)
open Idealize.ShloMosaic Idealize.ShloMosaic.TcCoe Idealize.SL.Sem

/-! ## The random words -/

/-- The first group of rounds and its key injection. -/
theorem round1 (Q : IVec S64x128 32) (j : S64x128.Idx) :
    (k3_pay10 (F := Ideal) Q j + 42#32, k3_pay11 (F := Ideal) Q j) = inj 42#32 466689009#32 (rA (0#32, k3_pay3 (F := Ideal) Q j)) := by
  have h1 : (k3_pay4 (F := Ideal) Q j, k3_pay5 (F := Ideal) Q j) = rnd 13#32 19#32 (0#32, k3_pay3 (F := Ideal) Q j) := rfl
  have h2 : (k3_pay6 (F := Ideal) Q j, k3_pay7 (F := Ideal) Q j) = rnd 15#32 17#32 (k3_pay4 (F := Ideal) Q j, k3_pay5 (F := Ideal) Q j) := rfl
  have h3 : (k3_pay8 (F := Ideal) Q j, k3_pay9 (F := Ideal) Q j) = rnd 26#32 6#32 (k3_pay6 (F := Ideal) Q j, k3_pay7 (F := Ideal) Q j) := rfl
  have h4 : (k3_pay10 (F := Ideal) Q j + 42#32, k3_pay11 (F := Ideal) Q j) = inj 42#32 466689009#32 (rnd 6#32 26#32 (k3_pay8 (F := Ideal) Q j, k3_pay9 (F := Ideal) Q j)) := rfl
  rw [h4, h3, h2, h1]
  rfl

/-- The second group, its key injection, and the first two rounds of the third. -/
theorem round2 (x y z : IVec S64x128 32) (j : S64x128.Idx) (p q : BitVec 32) (hx : x j = q) (hy : y j = p + q) (hz : z j = 17#32) :
    (k3_pay23 x y z j, k3_pay24 x y z j) = rnd 15#32 17#32 (rnd 13#32 19#32 (inj 466689008#32 2#32 (rB (p, q)))) := by
  have h1 : (y j, k3_pay14 x y z j) = rnd 17#32 15#32 (p, q) := by
    show (y j, y j ^^^ (IntOp.shli .vector (x j) (z j) ||| x j >>> 15#32)) = _
    rw [hx, hy, hz]; rfl
  have h2 : (k3_pay15 x y z j, k3_pay16 x y z j) = rnd 29#32 3#32 (y j, k3_pay14 x y z j) := rfl
  have h3 : (k3_pay17 x y z j, k3_pay18 x y z j) = rnd 16#32 16#32 (k3_pay15 x y z j, k3_pay16 x y z j) := rfl
  have h4 : (k3_pay19 x y z j + 466689008#32, k3_pay20 x y z j)
      = inj 466689008#32 2#32 (rnd 24#32 8#32 (k3_pay17 x y z j, k3_pay18 x y z j)) := rfl
  have h5 : (k3_pay21 x y z j, k3_pay22 x y z j) = rnd 13#32 19#32 (k3_pay19 x y z j + 466689008#32, k3_pay20 x y z j) := rfl
  have h6 : (k3_pay23 x y z j, k3_pay24 x y z j) = rnd 15#32 17#32 (k3_pay21 x y z j, k3_pay22 x y z j) := rfl
  rw [h6, h5, h4, h3, h2, h1]
  rfl

/-- The rest of the third group, its key injection, and the fourth group. -/
theorem round3 (x y z : IVec S64x128 32) (j : S64x128.Idx) (p q : BitVec 32) (hx : x j = q) (hy : y j = p + q) (hz : z j = 26#32) :
    (k3_pay36 x y z j, k3_pay37 x y z j) = rB (inj 0#32 45#32 (rnd 6#32 26#32 (rnd 26#32 6#32 (p, q)))) := by
  have h1 : (y j, k3_pay27 x y z j) = rnd 26#32 6#32 (p, q) := by
    show (y j, y j ^^^ (IntOp.shli .vector (x j) (z j) ||| x j >>> 6#32)) = _
    rw [hx, hy, hz]; rfl
  have h2 : (k3_pay28 x y z j + 0#32, k3_pay29 x y z j) = inj 0#32 45#32 (rnd 6#32 26#32 (y j, k3_pay27 x y z j)) := rfl
  have h3 : (k3_pay30 x y z j, k3_pay31 x y z j) = rnd 17#32 15#32 (k3_pay28 x y z j + 0#32, k3_pay29 x y z j) := rfl
  have h4 : (k3_pay32 x y z j, k3_pay33 x y z j) = rnd 29#32 3#32 (k3_pay30 x y z j, k3_pay31 x y z j) := rfl
  have h5 : (k3_pay34 x y z j, k3_pay35 x y z j) = rnd 16#32 16#32 (k3_pay32 x y z j, k3_pay33 x y z j) := rfl
  have h6 : (k3_pay36 x y z j, k3_pay37 x y z j) = rnd 24#32 8#32 (k3_pay34 x y z j, k3_pay35 x y z j) := rfl
  rw [h6, h5, h4, h3, h2, h1]
  rfl

/-- The last group, the mantissa word, and the scaled uniform. -/
theorem round4 {F : FTy → Type} [FloatOps F] (x y : IVec S64x128 32) (j : S64x128.Idx) (p q : BitVec 32) (hx : x j = q) (hy : y j = p + 42#32) :
    (k3_pay39 x y : FVec F S64x128 .f32) j = FloatOps.mulf (FloatOps.subf (FloatOps.ofBits .f32
      ((((inj 466689008#32 5#32 (rA (inj 42#32 466689012#32 (p, q)))).1
        ^^^ (inj 466689008#32 5#32 (rA (inj 42#32 466689012#32 (p, q)))).2) >>> 9#32) ||| 1065353216#32))
      (Scalar.ofBits .f32 0x3F800000#32)) (Scalar.ofBits .f32 0x3F7FFFFC#32) := by
  have h1 : (y j, x j + 466689012#32) = inj 42#32 466689012#32 (p, q) := by
    rw [hx, hy]; rfl
  rw [← h1]
  rfl

/-- The scaled uniform of every candidate. -/
theorem unit_apply (Q : IVec S64x128 32) (j : S64x128.Idx) (n : BitVec 32) (hn : k3_pay3 (F := Ideal) Q j = n + 42#32) :
    (unit (F := Ideal) Q : FVec Ideal S64x128 .f32) j = Cert.Gumbel.unit (mword n) * Ideal.ofBits .f32 0x3F7FFFFC#32 := by
  have e1 := round1 Q j
  rw [hn] at e1
  have e2 := round2 (k3_pay11 (F := Ideal) Q) (k3_pay12 (F := Ideal) Q) k3_pay13 j (k3_pay10 (F := Ideal) Q j + 42#32) (k3_pay11 (F := Ideal) Q j) rfl rfl rfl
  rw [e1] at e2
  have e3 := round3 (k3_pay24 (k3_pay11 (F := Ideal) Q) (k3_pay12 (F := Ideal) Q) k3_pay13) (k3_pay25 (k3_pay11 (F := Ideal) Q) (k3_pay12 (F := Ideal) Q) k3_pay13) k3_pay26 j
    (k3_pay23 (k3_pay11 (F := Ideal) Q) (k3_pay12 (F := Ideal) Q) k3_pay13 j) (k3_pay24 (k3_pay11 (F := Ideal) Q) (k3_pay12 (F := Ideal) Q) k3_pay13 j) rfl rfl rfl
  rw [e2] at e3
  have e4 := round4 (F := Ideal) (k3_pay37 (k3_pay24 (k3_pay11 (F := Ideal) Q) (k3_pay12 (F := Ideal) Q) k3_pay13) (k3_pay25 (k3_pay11 (F := Ideal) Q) (k3_pay12 (F := Ideal) Q) k3_pay13) k3_pay26)
    (k3_pay38 (k3_pay24 (k3_pay11 (F := Ideal) Q) (k3_pay12 (F := Ideal) Q) k3_pay13) (k3_pay25 (k3_pay11 (F := Ideal) Q) (k3_pay12 (F := Ideal) Q) k3_pay13) k3_pay26) j
    (k3_pay36 (k3_pay24 (k3_pay11 (F := Ideal) Q) (k3_pay12 (F := Ideal) Q) k3_pay13) (k3_pay25 (k3_pay11 (F := Ideal) Q) (k3_pay12 (F := Ideal) Q) k3_pay13) k3_pay26 j) _ rfl rfl
  rw [e3] at e4
  refine e4.trans ?_
  show (Ideal.ofBits .f32 (mword n) - Ideal.ofBits .f32 0x3F800000#32) * Ideal.ofBits .f32 0x3F7FFFFC#32 = _
  rw [ofBits_one, Cert.Gumbel.unit]

/-- The linear index of a candidate. -/
theorem pay3_apply (Q : IVec S64x128 32) (j : S64x128.Idx) (n : ℕ) (hQ : Q j = BitVec.ofNat 32 n) :
    k3_pay3 (F := Ideal) Q j = BitVec.ofNat 32 ((j 0).val * 1000000 + n) + 42#32 := by
  have h2 : k3_pay2 (F := Ideal) Q = Q := Idealize.ShloMosaic.shapeCast_id _ _
  have e : k3_pay3 (F := Ideal) Q j = iota .tc S64x128 32 [0] iota_S64x128_d0_w32 j * 1000000#32 + k3_pay2 (F := Ideal) Q j + 42#32 := rfl
  rw [e, iota_single_apply, h2, hQ]
  simp only [BitVec.ofNat_add, BitVec.ofNat_mul]

/-! ## The candidates' values and the choice -/

section Shape

variable {F : FTy → Type} [FloatOps F]

/-- The masked values, as arrays. -/
def masked (v0 v3 : IVec S64x128 32) (u Y : FVec F S64x128 .f32) : FVec F S64x128 .f32 :=
  select (andi (cmpi .slt v0 (broadcast S64x128 4#32)) (cmpi .slt v3 (broadcast S64x128 1000000#32)))
    (addf Y (subf (broadcast S64x128 (Scalar.ofBits .f32 0x00000000#32))
      (log (subf (broadcast S64x128 (Scalar.ofBits .f32 0x00000000#32)) (log (maximumf (broadcast S64x128 (Scalar.ofBits .f32 0x33D6BF95#32))
        (addf u (broadcast S64x128 (Scalar.ofBits .f32 0x33D6BF95#32)))))))))
    (broadcast S64x128 (Scalar.ofBits .f32 0xFF800000#32))

/-- The masked values at an index. -/
theorem masked_apply (v0 v3 : IVec S64x128 32) (u Y : FVec F S64x128 .f32) (j : S64x128.Idx) :
    masked v0 v3 u Y j = Scalar.select (IntOp.cmpi .slt (v0 j) 4#32 &&& IntOp.cmpi .slt (v3 j) 1000000#32)
      (FloatOps.addf (Y j) (FloatOps.subf (Scalar.ofBits .f32 0x00000000#32) (FloatOps.log (FloatOps.subf (Scalar.ofBits .f32 0x00000000#32)
        (FloatOps.log (FloatOps.maximumf (Scalar.ofBits .f32 0x33D6BF95#32) (FloatOps.addf (u j) (Scalar.ofBits .f32 0x33D6BF95#32))))))))
      (Scalar.ofBits .f32 0xFF800000#32) := rfl

/-- The choice as an array of the candidates' values and columns. -/
def choice (W : FVec F S64x128 .f32) (v3 : IVec S64x128 32) : IVec S64x128 32 :=
  broadcastTo S64x128 (shapeCast S64x1 (shapeCast S64x1 (multiReductionI .minsi [1] S64
    (select (cmpf .oeq W (broadcastTo S64x128 (shapeCast S64x1 (multiReduction .maximumf [1] S64 W 0xFF800000#32 reduces_S64x128_S64 (.inl rfl) rfl)
      shapeCasts_S64_S64x1) broadcasts_S64x1_S64x128)) v3 (broadcast S64x128 1000000#32)) 2147483647#32 reduces_S64x128_S64 rfl)
      shapeCasts_S64_S64x1) shapeCasts_S64x1_S64x1) broadcasts_S64x1_S64x128

/-- The last payload is the choice of the masked values. -/
theorem pay1_eq (v0 v3 : IVec S64x128 32) (u Y : FVec F S64x128 .f32) :
    k3_pay1 v0 v3 u (Scalar.ofBits .f32 0x33D6BF95#32) Y = choice (masked v0 v3 u (shapeCast S64x128 Y shapeCasts_S64x128_S64x128)) v3 := rfl

end Shape

/-- The masked values of the candidates. -/
def vals (X : FVec Ideal S64x128 .f32) (Q : IVec S64x128 32) : FVec Ideal S64x128 .f32 :=
  masked (F := Ideal) (iota .tc S64x128 32 [1] iota_S64x128_d1_w32) Q (unit (F := Ideal) Q) X

/-- They are the candidates' logits plus their noise, minus infinity where there is no candidate. -/
theorem vals_apply (X : FVec Ideal S64x128 .f32) (Q : IVec S64x128 32) (j : S64x128.Idx) :
    vals X Q j = Scalar.select (IntOp.cmpi .slt (BitVec.ofNat 32 (j 1).val) 4#32 &&& IntOp.cmpi .slt (Q j) 1000000#32)
      (X j + (Ideal.ofBits .f32 0x00000000#32 - Ideal.log (Ideal.ofBits .f32 0x00000000#32 - Ideal.log (max (Ideal.ofBits .f32 0x33D6BF95#32)
        ((unit (F := Ideal) Q : FVec Ideal S64x128 .f32) j + Ideal.ofBits .f32 0x33D6BF95#32)))))
      (Ideal.ofBits .f32 0xFF800000#32) := by
  unfold vals
  generalize (unit (F := Ideal) Q : FVec Ideal S64x128 .f32) = u
  refine (masked_apply _ _ _ _ j).trans ?_
  rw [iota_single_apply]
  rfl

/-- A lane past the fourth holds minus infinity. -/
theorem vals_out (X : FVec Ideal S64x128 .f32) (Q : IVec S64x128 32) (j : S64x128.Idx) (h : ¬ (j 1).val < 4) : vals X Q j = ⊥ := by
  have hj : (j 1).val < 128 := (j 1).isLt
  have e : IntOp.cmpi .slt (BitVec.ofNat 32 (j 1).val) 4#32 = 0#1 := by
    show IntOp.cmpi .slt (BitVec.ofNat 32 (j 1).val) (BitVec.ofNat 32 4) = _
    rw [WordCmp.cmpi_slt_ofNat (by omega) (by omega), decide_eq_false h]; rfl
  have e' : (0#1 &&& IntOp.cmpi .slt (Q j) 1000000#32 : BitVec 1) = 0#1 := BitVec.zero_and
  rw [vals_apply, e, e', negInf]
  rfl

/-- The first four hold the perturbed logits of their columns. -/
theorem vals_in (x : (⟨2, ![64, 1000000]⟩ : Shape).Idx → EReal) (X : FVec Ideal S64x128 .f32) (Q : IVec S64x128 32) (j : S64x128.Idx) (n : ℕ) (hn : n < 2 ^ 31)
    (h : (j 1).val < 4) (hQ : Q j = BitVec.ofNat 32 n) (hX : ∀ h : n < 1000000, X j = x (ix2 (j 0) ⟨n, h⟩)) : vals X Q j = sc x (j 0) n := by
  have e : IntOp.cmpi .slt (BitVec.ofNat 32 (j 1).val) 4#32 = 1#1 := by
    show IntOp.cmpi .slt (BitVec.ofNat 32 (j 1).val) (BitVec.ofNat 32 4) = _
    rw [WordCmp.cmpi_slt_ofNat (by omega) (by omega), decide_eq_true h]; rfl
  have e2 : IntOp.cmpi .slt (Q j) 1000000#32 = BitVec.ofBool (decide (n < 1000000)) := by
    rw [hQ]
    show IntOp.cmpi .slt (BitVec.ofNat 32 n) (BitVec.ofNat 32 1000000) = _
    rw [WordCmp.cmpi_slt_ofNat hn (by omega)]
  rw [vals_apply, e, e2]
  by_cases hc : n < 1000000
  · rw [decide_eq_true hc, unit_apply Q j _ (pay3_apply Q j n hQ), hX hc, Ideal.ofBits_zero_f32, zero_sub, zero_sub, sc_of_lt x (j 0) n hc]
    rfl
  · rw [decide_eq_false hc, negInf, sc_of_not_lt x (j 0) n hc]
    rfl

/-- The lanes of a row. -/
def rowLanes (r : Fin 64) : Finset S64x128.Idx := Finset.univ.filter fun i => reduces_S64x128_S64.drop i = ix1 r

theorem mem_lanes (r : Fin 64) (i : S64x128.Idx) : i ∈ rowLanes r ↔ i 0 = r := by
  unfold rowLanes
  rw [Finset.mem_filter]
  constructor
  · rintro ⟨-, h⟩
    refine Fin.ext ?_
    have := reduces_S64x128_S64.drop_apply_val_of_eq i 0 0
    rw [h] at this; exact this.symm
  · intro h
    refine ⟨Finset.mem_univ _, ?_⟩
    funext a
    match a with
    | ⟨0, _⟩ => exact Fin.ext ((reduces_S64x128_S64.drop_apply_val_of_eq i 0 0).trans (congrArg Fin.val h))

/-- The call's result is the choice of the masked values. -/
theorem res_eq (X : FVec Ideal S64x128 .f32) (Q : IVec S64x128 32) : res (F := Ideal) X Q = choice (vals X Q) Q := by
  have h2 : k3_pay2 (F := Ideal) Q = Q := Idealize.ShloMosaic.shapeCast_id _ _
  have hX : shapeCast S64x128 X shapeCasts_S64x128_S64x128 = X := Idealize.ShloMosaic.shapeCast_id _ _
  unfold res vals
  rw [h2]
  generalize (unit (F := Ideal) Q : FVec Ideal S64x128 .f32) = u
  exact (pay1_eq (F := Ideal) _ _ u X).trans (congrArg (fun Y => choice (masked (F := Ideal) _ Q u Y) Q) hX)

/-- The choice at a row: the least column among the candidates whose value is the row's greatest. -/
theorem choice_apply (W : FVec Ideal S64x128 .f32) (Q : IVec S64x128 32) (r : Fin 64) (l : Fin 128) :
    choice W Q (ix2 r l) = (rowLanes r).fold IntOp.minsi 2147483647#32
      fun i => if W i = (rowLanes r).fold max ⊥ W then Q i else 1000000#32 := by
  let R : FVec Ideal S64 .f32 := multiReduction .maximumf [1] S64 W 0xFF800000#32 reduces_S64x128_S64 (.inl rfl) rfl
  have hR : R (ix1 r) = (rowLanes r).fold max ⊥ W := by
    have e := multiReduction_maximumf_eq_fold (axes := [1]) W 0xFF800000#32 reduces_S64x128_S64 (.inl rfl) rfl (ix1 r)
    have h : FloatOps.ofBits (F := Ideal) .f32 0xFF800000#32 = ⊥ := negInf
    rw [h] at e
    exact e
  unfold choice
  rw [Idealize.ShloMosaic.shapeCast_id]
  refine (spread _ shapeCasts_S64_S64x1 broadcasts_S64x1_S64x128 r l).trans ?_
  refine (multiReductionI_eq_fold .minsi _ 2147483647#32 reduces_S64x128_S64 rfl (ix1 r)).trans ?_
  refine Finset.fold_congr fun i hi => ?_
  have hr : (i 0 : Fin 64) = r := (mem_lanes r i).mp hi
  have hi' : i = ix2 (i 0) (i 1) := by
    funext a; match a with | ⟨0, _⟩ => rfl | ⟨1, _⟩ => rfl
  have h1 : broadcastTo S64x128 (shapeCast S64x1 R shapeCasts_S64_S64x1) broadcasts_S64x1_S64x128 i = R (ix1 r) := by
    refine (congrArg _ hi').trans ((spread R shapeCasts_S64_S64x1 broadcasts_S64x1_S64x128 (i 0) (i 1)).trans ?_)
    rw [hr]
  show Scalar.select (BitVec.ofBool (decide (W i = broadcastTo S64x128 (shapeCast S64x1 R shapeCasts_S64_S64x1) broadcasts_S64x1_S64x128 i)))
    (Q i) 1000000#32 = _
  rw [h1, hR]
  by_cases h : W i = (rowLanes r).fold max ⊥ W
  · rw [if_pos h, decide_eq_true h]; rfl
  · rw [if_neg h, decide_eq_false h]; rfl

/-- The result at a row: the least column among the candidates whose value is the row's greatest. -/
theorem res_apply (X : FVec Ideal S64x128 .f32) (Q : IVec S64x128 32) (r : Fin 64) (l : Fin 128) :
    res (F := Ideal) X Q (ix2 r l) = (rowLanes r).fold IntOp.minsi 2147483647#32
      fun i => if vals X Q i = (rowLanes r).fold max ⊥ (vals X Q) then Q i else 1000000#32 :=
  (congrFun (res_eq X Q) _).trans (choice_apply (vals X Q) Q r l)

/-- The choice: where one candidate is above every other column, the result is the row's first maximum. -/
theorem res_first (x : (⟨2, ![64, 1000000]⟩ : Shape).Idx → EReal) (X : FVec Ideal S64x128 .f32) (Q : IVec S64x128 32) (r : Fin 64) (l : Fin 128) (code : ℕ)
    (hcode : code < 31 * 32768) (hQ : ∀ k : Fin 128, k.val < 4 → Q (ix2 r k) = BitVec.ofNat 32 (code + 8192 * k.val))
    (hX : ∀ k : Fin 128, k.val < 4 → ∀ h : code + 8192 * k.val < 1000000, X (ix2 r k) = x (ix2 r ⟨code + 8192 * k.val, h⟩))
    (hF : ∃ k < 4, code + 8192 * k < 1000000 ∧ ∀ c < 1000000, (∀ k < 4, c ≠ code + 8192 * k) → sc x r c < sc x r (code + 8192 * k)) :
    ∃ n, IsFirst 1000000 (sc x r) n ∧ res (F := Ideal) X Q (ix2 r l) = BitVec.ofNat 32 n := by
  obtain ⟨k0, hk0, hin, hlt⟩ := hF
  obtain ⟨hM1, hM2⟩ := fold_max (rowLanes r) (vals X Q)
  have hmem (k : Fin 128) : (ix2 r k : S64x128.Idx) ∈ rowLanes r := (mem_lanes r _).mpr rfl
  have hcol (i : S64x128.Idx) (hi : i ∈ rowLanes r) : i = ix2 r (i 1) := by
    have h0 := (mem_lanes r i).mp hi
    funext a; match a with | ⟨0, _⟩ => exact h0 | ⟨1, _⟩ => rfl
  have hval (k : Fin 128) (hk : k.val < 4) : vals X Q (ix2 r k) = sc x r (code + 8192 * k.val) :=
    vals_in x X Q (ix2 r k) (code + 8192 * k.val) (by omega) hk (hQ k hk) (hX k hk)
  -- a column that is no candidate, so that the row's greatest value is not minus infinity
  have hbot : ⊥ < sc x r (code + 8192 * k0) := by
    by_cases h0 : code = 0
    · exact lt_of_le_of_lt bot_le (hlt 1 (by omega) fun k _ => by omega)
    · exact lt_of_le_of_lt bot_le (hlt 0 (by omega) fun k _ => by omega)
  have hge (k : ℕ) (hk : k < 4) : sc x r (code + 8192 * k) ≤ (rowLanes r).fold max ⊥ (vals X Q) := by
    have := hM1 _ (hmem (⟨k, by omega⟩ : Fin 128))
    rwa [hval ⟨k, by omega⟩ hk] at this
  have hR : (rowLanes r).fold max ⊥ (vals X Q) ≠ ⊥ := fun h => absurd (lt_of_lt_of_le hbot (hge k0 hk0)) (by rw [h]; exact lt_irrefl _)
  -- a lane holding it is a candidate inside the row
  have hcand (i : S64x128.Idx) (hi : i ∈ rowLanes r) (h : vals X Q i = (rowLanes r).fold max ⊥ (vals X Q)) :
      (i 1).val < 4 ∧ code + 8192 * (i 1).val < 1000000 ∧ Q i = BitVec.ofNat 32 (code + 8192 * (i 1).val)
        ∧ sc x r (code + 8192 * (i 1).val) = (rowLanes r).fold max ⊥ (vals X Q) := by
    have h4 : (i 1).val < 4 := by
      by_contra hc
      exact hR (h.symm.trans (vals_out X Q i hc))
    have e := hcol i hi
    have hv := (congrArg (vals X Q) e).trans (hval (i 1) h4)
    refine ⟨h4, ?_, by rw [e]; exact hQ (i 1) h4, hv.symm.trans h⟩
    by_contra hc
    exact hR (h.symm.trans (hv.trans (sc_of_not_lt _ _ _ hc)))
  have hf (i : S64x128.Idx) (hi : i ∈ rowLanes r) : (if vals X Q i = (rowLanes r).fold max ⊥ (vals X Q) then Q i else 1000000#32).toNat < 2 ^ 31 := by
    split
    · rename_i h
      obtain ⟨h4, -, hq, -⟩ := hcand i hi h
      rw [hq, BitVec.toNat_ofNat]; omega
    · decide
  obtain ⟨hm1, -, hm3⟩ := fold_min (rowLanes r) _ hf
  rw [← res_apply X Q r l] at hm1 hm3
  obtain ⟨i0, hi0, hv0⟩ := hM2.resolve_left hR
  have hsmall : (res (F := Ideal) X Q (ix2 r l)).toNat < 1000000 := by
    refine (hm1 i0 hi0).trans_lt ?_
    obtain ⟨h4, hc, hq, -⟩ := hcand i0 hi0 hv0
    rw [if_pos hv0, hq, BitVec.toNat_ofNat]; omega
  obtain ⟨i1, hi1, hw1⟩ : ∃ i ∈ rowLanes r, (if vals X Q i = (rowLanes r).fold max ⊥ (vals X Q) then Q i else 1000000#32) = res (F := Ideal) X Q (ix2 r l) := by
    rcases hm3 with h | h
    · rw [h] at hsmall; exact absurd hsmall (by decide)
    · exact h
  have hv1 : vals X Q i1 = (rowLanes r).fold max ⊥ (vals X Q) := by
    by_contra h
    rw [if_neg h] at hw1
    rw [← hw1] at hsmall
    exact absurd hsmall (by decide)
  obtain ⟨h4, hc, hq, hs⟩ := hcand i1 hi1 hv1
  rw [if_pos hv1, hq] at hw1
  refine ⟨code + 8192 * (i1 1).val, ⟨hc, fun c hcN => ?_, fun c hcn => ?_⟩, hw1.symm⟩
  · rw [hs]
    by_cases h : ∃ k < 4, c = code + 8192 * k
    · obtain ⟨k, hk, rfl⟩ := h
      exact hge k hk
    · push Not at h
      exact (hlt c hcN h).le.trans (hge k0 hk0)
  · rw [hs]
    by_cases h : ∃ k < 4, c = code + 8192 * k
    · obtain ⟨k, hk, rfl⟩ := h
      refine lt_of_le_of_ne (hge k hk) fun e => ?_
      have hvk : vals X Q (ix2 r (⟨k, by omega⟩ : Fin 128)) = (rowLanes r).fold max ⊥ (vals X Q) := (hval ⟨k, by omega⟩ hk).trans e
      have := hm1 _ (hmem (⟨k, by omega⟩ : Fin 128))
      rw [if_pos hvk, hQ ⟨k, by omega⟩ hk, ← hw1, BitVec.toNat_ofNat, BitVec.toNat_ofNat, Nat.mod_eq_of_lt (by omega), Nat.mod_eq_of_lt (by show code + 8192 * k < _; omega)] at this
      have : code + 8192 * (i1 1).val ≤ code + 8192 * k := this
      omega
    · push Not at h
      exact lt_of_lt_of_le (hlt c (by omega) h) (hge k0 hk0)

end Cert.KernelIdeal.Pick

end
-- ==== Proof.HostValue.lean ====
/-
  The whole program's value: whichever arm runs, each row's result is its first maximum of the perturbed logits.
-/
module

public import proofs.«01_k».proof.Proof.HostReads
public import proofs.«01_k».proof.Proof.HostOps
public import proofs.«01_k».proof.Proof.ExactValue
public import proofs.«01_k».proof.Proof.PassValue
public import proofs.«01_k».proof.Proof.NoiseValue
public import proofs.«01_k».proof.Proof.PickValue
public import Idealize.ShloMosaic.Lib.ReduceAll

@[expose] public section

set_option maxRecDepth 16384

noncomputable section

namespace Cert.KernelIdeal.Whole

open Cert.KernelIdeal Cert.KernelIdeal.Gen Cert.FirstMax Cert.TwoMax Cert.Gumbel
open Idealize.ShloMosaic Idealize.ShloMosaic.TcCoe Idealize.SL.Sem

/-! ## The host's arrays at an index -/

/-- The first column at a row. -/
theorem firstCol_apply (x : IVec S64x128 32) (r : Fin 64) : firstCol x (ix1 r) = x (ix2 r (0 : Fin 128)) := by
  refine (shapeCast_apply _ shapeCasts_S64x1_S64 (ix1 r) (ix2 r (0 : Fin 1)) ?_).trans ?_
  · rw [Shape.rowMajor_val_one, Shape.rowMajor_val_two]
    show r.val * 1 + 0 = r.val
    omega
  · refine congrArg x (funext fun a => Fin.ext ?_)
    match a with
    | ⟨0, _⟩ => show 0 + r.val = r.val; omega
    | ⟨1, _⟩ => rfl

/-- When the conjunction of the flags is set, so is each. -/
theorem allSet_row (x : IVec S64x128 32) (h : allSet x HostLoop.idx0 = 1#1) (r : Fin 64) : x (ix2 r (0 : Fin 128)) ≠ 0#32 := by
  have hs : Subsingleton S_.Idx := ⟨fun a b => funext fun i => i.elim0⟩
  have e := Host.reduce_andi_all _ _ reducesTo_S64_S_d0 h_S_ HostLoop.idx0 h (ix1 r)
  have e' : firstCol x (ix1 r) ≠ 0#32 := IntOp.cmpi_ne.mp e
  rwa [firstCol_apply] at e'

/-- A column of sums at a row. -/
theorem colPlus_apply (a : IVec S64 32) (w : BitVec 32) (r : Fin 64) : colPlus a w (ix2 r (0 : Fin 1)) = a (ix1 r) + w := by
  unfold colPlus
  rw [broadcastInDim_apply _ _ _ (ix2 r (0 : Fin 1)) (ix1 r) (fun a => by match a with | ⟨0, _⟩ => rfl)]
  rfl

/-- A row's candidates lie 8192 columns apart. -/
theorem cands_apply (a : IVec S64 32) (r : Fin 64) (k : Fin 4) (code : ℕ) (h : a (ix1 r) = BitVec.ofNat 32 code) :
    cands a (ix2 r k) = BitVec.ofNat 32 (code + 8192 * k.val) := by
  unfold cands
  rw [HostOps.concat_apply]
  match k with
  | 0 => exact (colPlus_apply _ _ _).trans (by rw [h, BitVec.ofNat_add]; rfl)
  | 1 => exact (colPlus_apply _ _ _).trans (by rw [h, BitVec.ofNat_add]; rfl)
  | 2 => exact (colPlus_apply _ _ _).trans (by rw [h, BitVec.ofNat_add]; rfl)
  | 3 => exact (colPlus_apply _ _ _).trans (by rw [h, BitVec.ofNat_add]; rfl)

/-- The clamped candidates. -/
theorem clamped_apply (a : IVec S64 32) (r : Fin 64) (k : Fin 4) (code : ℕ) (hc : code < 31 * 32768) (h : a (ix1 r) = BitVec.ofNat 32 code) :
    clamped a (ix2 r k) = BitVec.ofNat 32 (min (code + 8192 * k.val) 999999) := by
  have hk : k.val < 4 := k.isLt
  have e : clamped a (ix2 r k) = IntOp.minsi (cands a (ix2 r k)) 999999#32 := rfl
  rw [e, cands_apply a r k code h]
  refine BitVec.eq_of_toNat_eq ?_
  have h1 : (BitVec.ofNat 32 (code + 8192 * k.val)).toNat = code + 8192 * k.val := by
    rw [BitVec.toNat_ofNat]; omega
  have h2 : (BitVec.ofNat 32 (min (code + 8192 * k.val) 999999)).toNat = min (code + 8192 * k.val) 999999 := by
    rw [BitVec.toNat_ofNat]; exact Nat.mod_eq_of_lt (by omega)
  rw [WordArith.toNat_minsi_of_lt _ _ (by rw [h1]; omega) (by decide), h1, h2]
  rfl

/-- An index word in range is not wrapped. -/
theorem wrapped_apply (q : IVec S64x4 32) (r : Fin 64) (k : Fin 4) (n : ℕ) (hn : n < 1000000) (h : q (ix2 r k) = BitVec.ofNat 32 n) :
    wrapped q (ix3 r k (0 : Fin 1)) = BitVec.ofNat 32 n := by
  refine (shapeCast_apply _ shapeCasts_S64x4_S64x4x1 (ix3 r k (0 : Fin 1)) (ix2 r k) ?_).trans ?_
  · rw [Shape.rowMajor_val_two, Shape.rowMajor_val_three]
    show r.val * 4 + k.val = (r.val * 4 + k.val) * 1 + 0
    omega
  · show Scalar.select (IntOp.cmpi .slt (q (ix2 r k)) 0#32) (q (ix2 r k) + 1000000#32) (q (ix2 r k)) = _
    rw [Routing.wrap_of_lt _ _ (by rw [h, BitVec.toNat_ofNat]; omega), h]

/-- Every index word in range is found to be so. -/
theorem inside_one (q : IVec S64x4 32) (h : ∀ r k, ∃ n < 1000000, q (ix2 r k) = BitVec.ofNat 32 n) (j : S64x4.Idx) : inside (wrapped q) j = 1#1 := by
  refine Host.reduce_andi_one _ _ reducesTo_S64x4x1_S64x4_d2 h_S_ j rfl fun i => ?_
  obtain ⟨n, hn, e⟩ := h (i 0) (i 1)
  have hi : i = ix3 (i 0) (i 1) (0 : Fin 1) := by
    funext a
    match a with
    | ⟨0, _⟩ => rfl
    | ⟨1, _⟩ => rfl
    | ⟨2, _⟩ => exact Fin.ext (Nat.lt_one_iff.mp (i 2).isLt)
  have hw : wrapped q i = BitVec.ofNat 32 n := (congrArg (wrapped q) hi).trans (wrapped_apply q _ _ n hn e)
  show IntOp.cmpi .sge (wrapped q i) (BitVec.ofNat 32 0) &&& IntOp.cmpi .sle (wrapped q i) (BitVec.ofNat 32 999999) = 1#1
  rw [hw, WordCmp.cmpi_sge_ofNat (by omega) (by omega), WordCmp.cmpi_sle_ofNat (by omega) (by omega), decide_eq_true (by omega), decide_eq_true (by omega)]
  rfl

/-- The entry taken. -/
theorem taken_apply (x : FVec Ideal S64x1000000 .f32) (q : IVec S64x4 32) (h : ∀ r k, ∃ n < 1000000, q (ix2 r k) = BitVec.ofNat 32 n)
    (r : Fin 64) (k : Fin 4) (n : ℕ) (hn : n < 1000000) (e : q (ix2 r k) = BitVec.ofNat 32 n) :
    taken x q (ix2 r k) = x (ix2 r ⟨n, hn⟩) := by
  have e0 : taken x q (ix2 r k) = Scalar.select (inside (wrapped q) (ix2 r k))
      (Host.gather gather_S64x1000000_S64x4x1_S64x4_n_1_0_0_1_2_11 x (wrapped q) (ix2 r k)) _ := rfl
  rw [e0, inside_one q h, HostOps.gather_apply x _ r k n hn (wrapped_apply q r k n hn e)]
  rfl

/-- The padded block's first four columns. -/
theorem padded_apply {α : Type} (z : S64x128.Idx → α) (u : S64x4.Idx → α) (r : Fin 64) (k : Fin 128) (hk : k.val < 4) :
    padded z u (ix2 r k) = u (ix2 r (⟨k.val, hk⟩ : Fin 4)) :=
  HostOps.scatter_apply z _ (fun _ => rfl) u r ⟨k.val, hk⟩

/-! ## The two arms -/

variable (m : (ℓ : Loc nD τ sig) → Buf (Elt Ideal) ℓ) (c : Dev nD)

/-- The arm taken when a row's flag is not set. -/
theorem exact_arm (j : S64.Idx) : ∃ k, IsFirst 1000000 (sc (m ((c : Thread nD τ).loc main_arg0)) (j 0)) k ∧ W6 m c main_v10 j = BitVec.ofNat 32 k := by
  obtain ⟨k, hk, e⟩ := Exact.result_first (bufs (W4 m)) c j
  have ha : bufs (W4 m) c main_arg0 = m ((c : Thread nD τ).loc main_arg0) := W4_arg m c
  rw [ha] at hk
  exact ⟨k, hk, (congrFun (W6_v10 m c) j).trans e⟩

/-- The arm taken when every row's flag is set. -/
theorem pick_arm (h : allSet (Pass.resF (bufs (W1 m)) c) HostLoop.idx0 = 1#1) (r : Fin 64) :
    ∃ k, IsFirst 1000000 (sc (m ((c : Thread nD τ).loc main_arg0)) r) k ∧ W9 m c main_v10 (ix1 r) = BitVec.ofNat 32 k := by
  have hN : bufs (W1 m) c main_v0 = Noise.table := (W1_out m c).trans (noise_eq m c)
  have ha : bufs (W1 m) c main_arg0 = m ((c : Thread nD τ).loc main_arg0) := W1_arg m c
  have hF (r : Fin 64) : Found (m ((c : Thread nD τ).loc main_arg0)) r (Pass.resI (bufs (W1 m)) c (ix2 r (0 : Fin 128))) := by
    have := Pass.found_row (bufs (W1 m)) c hN r 0 0 (allSet_row _ h r)
    rwa [ha] at this
  have hcol (r : Fin 64) : W4 m c main_v3 (ix1 r) = Pass.resI (bufs (W1 m)) c (ix2 r (0 : Fin 128)) :=
    (congrFun (W4_v3 m c) (ix1 r)).trans (firstCol_apply _ r)
  have hq : ∀ r k, ∃ n < 1000000, clamped (W4 m c main_v3) (ix2 r k) = BitVec.ofNat 32 n := fun r k => by
    obtain ⟨code, hw, hc, -⟩ := hF r
    exact ⟨min (code + 8192 * k.val) 999999, by omega, clamped_apply _ r k code hc ((hcol r).trans hw)⟩
  obtain ⟨code, hw, hc, hbest⟩ := hF r
  have hw' : W4 m c main_v3 (ix1 r) = BitVec.ofNat 32 code := (hcol r).trans hw
  obtain ⟨n, hn, e⟩ := Pick.res_first (m ((c : Thread nD τ).loc main_arg0)) (W7 m c main_case0b1_v29) (W7 m c main_case0b1_v32) r 0 code hc
    (fun k hk => by
      rw [W7_v32]
      exact (padded_apply _ _ r k hk).trans (cands_apply _ r ⟨k.val, hk⟩ code hw'))
    (fun k hk hlt => by
      rw [W7_v29]
      refine (padded_apply _ _ r k hk).trans ?_
      have e := clamped_apply _ r ⟨k.val, hk⟩ code hc hw'
      rw [show min (code + 8192 * (⟨k.val, hk⟩ : Fin 4).val) 999999 = code + 8192 * k.val from by
        show min (code + 8192 * k.val) 999999 = _; omega] at e
      refine (taken_apply _ _ hq r ⟨k.val, hk⟩ _ hlt e).trans ?_
      rw [W4_arg])
    hbest
  exact ⟨n, hn, (congrFun (W9_v10 m c) (ix1 r)).trans ((firstCol_apply _ r).trans e)⟩

/-- The program's result at a row is the row's first maximum of the perturbed logits. -/
theorem result_first (j : S64.Idx) :
    ∃ k, IsFirst 1000000 (sc (m ((c : Thread nD τ).loc main_arg0)) (j 0)) k ∧ Wend m c main_v10 j = BitVec.ofNat 32 k := by
  have hj : j = ix1 (j 0) := by funext a; match a with | ⟨0, _⟩ => rfl
  have hw : word m c = (allSet (Pass.resF (bufs (W1 m)) c) HostLoop.idx0).setWidth 32 := congrFun (W4_v9 m c) HostLoop.idx0
  unfold Wend
  rw [hw]
  by_cases h : allSet (Pass.resF (bufs (W1 m)) c) HostLoop.idx0 = 1#1
  · rw [h, show HostLoop.branch ((1#1 : BitVec 1).setWidth 32) 1 = 1 from by decide]
    obtain ⟨k, hk, e⟩ := pick_arm m c h (j 0)
    exact ⟨k, hk, (congrArg (W9 m c main_v10) hj).trans e⟩
  · rw [(BitVec.eq_zero_or_eq_one _).resolve_right h, show HostLoop.branch ((0#1 : BitVec 1).setWidth 32) 1 = 0 from by decide]
    exact exact_arm m c j

end Cert.KernelIdeal.Whole

end
-- ==== Proof.RefOps.lean ====
/-
  The reference program as the list of its host operations, cut at the round groups of its random generator, with the
  references each part writes.
-/
module

public import proofs.«01_k».proof.Proof.Gen.ReferenceIdeal
public import Idealize.ShloMosaic.Lib.StableHlo.Run
public import Idealize.ShloMosaic.Lib.StableHlo.RunRead

@[expose] public section

set_option maxRecDepth 16384

noncomputable section

namespace Cert.ReferenceIdeal.Line

open Cert.ReferenceIdeal Cert.ReferenceIdeal.Gen
open Idealize.ShloMosaic Idealize.ShloMosaic.TcCoe Idealize.SL.Sem Idealize.ShloMosaic.StableHlo

variable {F : FTy → Type} [FloatOps F]

/-- The key, the linear indices and the first key injection. -/
abbrev g0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S64x1000000, .i64⟩) main_call0_v8) (iotaInDim S64x1000000 64 0),
    TRef.nullary (TRef.of (T := ⟨S64x1000000, .i64⟩) main_call0_v9) (iotaInDim S64x1000000 64 1),
    TRef.nullary (TRef.of (T := ⟨S_, .i64⟩) main_call0_c) (constantI S_ 64 1000000#64),
    TRef.unary (TRef.of (T := ⟨S_, .i64⟩) main_call0_c) (TRef.of (T := ⟨S64x1000000, .i64⟩) main_call0_v10) (broadcastInDim S64x1000000 ![] bcast_S_S64x1000000),
    TRef.binary (TRef.of (T := ⟨S64x1000000, .i64⟩) main_call0_v10) (TRef.of (T := ⟨S64x1000000, .i64⟩) main_call0_v8) (TRef.of (T := ⟨S64x1000000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S64x1000000, .i64⟩) main_call0_v12) (broadcastInDim S64x1000000 ![] bcast_S_S64x1000000),
    TRef.binary (TRef.of (T := ⟨S64x1000000, .i64⟩) main_call0_v12) (TRef.of (T := ⟨S64x1000000, .i64⟩) main_call0_v9) (TRef.of (T := ⟨S64x1000000, .i64⟩) main_call0_v13) muli,
    TRef.binary (TRef.of (T := ⟨S64x1000000, .i64⟩) main_call0_v11) (TRef.of (T := ⟨S64x1000000, .i64⟩) main_call0_v13) (TRef.of (T := ⟨S64x1000000, .i64⟩) main_call0_v14) addi,
    TRef.nullary (TRef.of (T := ⟨S_, .i64⟩) main_call0_c_1) (constantI S_ 64 32#64),
    TRef.unary (TRef.of (T := ⟨S_, .i64⟩) main_call0_c_1) (TRef.of (T := ⟨S64x1000000, .i64⟩) main_call0_v15) (broadcastInDim S64x1000000 ![] bcast_S_S64x1000000),
    TRef.binary (TRef.of (T := ⟨S64x1000000, .i64⟩) main_call0_v14) (TRef.of (T := ⟨S64x1000000, .i64⟩) main_call0_v15) (TRef.of (T := ⟨S64x1000000, .i64⟩) main_call0_v16) Host.shrui,
    TRef.unary (TRef.of (T := ⟨S64x1000000, .i64⟩) main_call0_v14) (TRef.of (T := ⟨S64x1000000, .i32⟩) main_call0_v17) (trunci 32 · natLt_32_64),
    TRef.unary (TRef.of (T := ⟨S64x1000000, .i64⟩) main_call0_v16) (TRef.of (T := ⟨S64x1000000, .i32⟩) main_call0_v18) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S64x1000000, .i32⟩) main_call0_call0_v2) (broadcastInDim S64x1000000 ![] bcast_S_S64x1000000),
    TRef.binary (TRef.of (T := ⟨S64x1000000, .i32⟩) main_call0_v18) (TRef.of (T := ⟨S64x1000000, .i32⟩) main_call0_call0_v2) (TRef.of (T := ⟨S64x1000000, .i32⟩) main_call0_call0_v3) addi,
    TRef.unary (TRef.of (T := ⟨S_, .i32⟩) main_call0_v7) (TRef.of (T := ⟨S64x1000000, .i32⟩) main_call0_call0_v4) (broadcastInDim S64x1000000 ![] bcast_S_S64x1000000),
    TRef.binary (TRef.of (T := ⟨S64x1000000, .i32⟩) main_call0_v17) (TRef.of (T := ⟨S64x1000000, .i32⟩) main_call0_call0_v4) (TRef.of (T := ⟨S64x1000000, .i32⟩) main_call0_call0_v5) addi ]

/-- The references that part writes, in order. -/
abbrev w0 : List (Ref sig .tc) :=
  [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1, main_call0_v15, main_call0_v16, main_call0_v17, main_call0_v18, main_call0_call0_v0, main_call0_call0_c, main_call0_call0_v1, main_call0_call0_v2, main_call0_call0_v3, main_call0_call0_v4, main_call0_call0_v5]

/-- The first group of rounds and the key injection after it. -/
abbrev g1 : List (HloOp τ sig (Elt F)) :=
  [ TRef.binary (TRef.of (T := ⟨S64x1000000, .i32⟩) main_call0_call0_v3) (TRef.of (T := ⟨S64x1000000, .i32⟩) main_call0_call0_v5) (TRef.of (T := ⟨S64x1000000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S64x1000000, .i32⟩) main_call0_call0_v7) (broadcastInDim S64x1000000 ![] bcast_S_S64x1000000),
    TRef.binary (TRef.of (T := ⟨S64x1000000, .i32⟩) main_call0_call0_v5) (TRef.of (T := ⟨S64x1000000, .i32⟩) main_call0_call0_v7) (TRef.of (T := ⟨S64x1000000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S64x1000000, .i32⟩) main_call0_call0_v9) (broadcastInDim S64x1000000 ![] bcast_S_S64x1000000),
    TRef.binary (TRef.of (T := ⟨S64x1000000, .i32⟩) main_call0_call0_v5) (TRef.of (T := ⟨S64x1000000, .i32⟩) main_call0_call0_v9) (TRef.of (T := ⟨S64x1000000, .i32⟩) main_call0_call0_v10) Host.shrui,
    TRef.binary (TRef.of (T := ⟨S64x1000000, .i32⟩) main_call0_call0_v8) (TRef.of (T := ⟨S64x1000000, .i32⟩) main_call0_call0_v10) (TRef.of (T := ⟨S64x1000000, .i32⟩) main_call0_call0_v11) ori,
    TRef.binary (TRef.of (T := ⟨S64x1000000, .i32⟩) main_call0_call0_v6) (TRef.of (T := ⟨S64x1000000, .i32⟩) main_call0_call0_v11) (TRef.of (T := ⟨S64x1000000, .i32⟩) main_call0_call0_v12) xori,
    TRef.binary (TRef.of (T := ⟨S64x1000000, .i32⟩) main_call0_call0_v6) (TRef.of (T := ⟨S64x1000000, .i32⟩) main_call0_call0_v12) (TRef.of (T := ⟨S64x1000000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S64x1000000, .i32⟩) main_call0_call0_v14) (broadcastInDim S64x1000000 ![] bcast_S_S64x1000000),
    TRef.binary (TRef.of (T := ⟨S64x1000000, .i32⟩) main_call0_call0_v12) (TRef.of (T := ⟨S64x1000000, .i32⟩) main_call0_call0_v14) (TRef.of (T := ⟨S64x1000000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S64x1000000, .i32⟩) main_call0_call0_v16) (broadcastInDim S64x1000000 ![] bcast_S_S64x1000000),
    TRef.binary (TRef.of (T := ⟨S64x1000000, .i32⟩) main_call0_call0_v12) (TRef.of (T := ⟨S64x1000000, .i32⟩) main_call0_call0_v16) (TRef.of (T := ⟨S64x1000000, .i32⟩) main_call0_call0_v17) Host.shrui,
    TRef.binary (TRef.of (T := ⟨S64x1000000, .i32⟩) main_call0_call0_v15) (TRef.of (T := ⟨S64x1000000, .i32⟩) main_call0_call0_v17) (TRef.of (T := ⟨S64x1000000, .i32⟩) main_call0_call0_v18) ori,
    TRef.binary (TRef.of (T := ⟨S64x1000000, .i32⟩) main_call0_call0_v13) (TRef.of (T := ⟨S64x1000000, .i32⟩) main_call0_call0_v18) (TRef.of (T := ⟨S64x1000000, .i32⟩) main_call0_call0_v19) xori,
    TRef.binary (TRef.of (T := ⟨S64x1000000, .i32⟩) main_call0_call0_v13) (TRef.of (T := ⟨S64x1000000, .i32⟩) main_call0_call0_v19) (TRef.of (T := ⟨S64x1000000, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S64x1000000, .i32⟩) main_call0_call0_v21) (broadcastInDim S64x1000000 ![] bcast_S_S64x1000000),
    TRef.binary (TRef.of (T := ⟨S64x1000000, .i32⟩) main_call0_call0_v19) (TRef.of (T := ⟨S64x1000000, .i32⟩) main_call0_call0_v21) (TRef.of (T := ⟨S64x1000000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S64x1000000, .i32⟩) main_call0_call0_v23) (broadcastInDim S64x1000000 ![] bcast_S_S64x1000000),
    TRef.binary (TRef.of (T := ⟨S64x1000000, .i32⟩) main_call0_call0_v19) (TRef.of (T := ⟨S64x1000000, .i32⟩) main_call0_call0_v23) (TRef.of (T := ⟨S64x1000000, .i32⟩) main_call0_call0_v24) Host.shrui,
    TRef.binary (TRef.of (T := ⟨S64x1000000, .i32⟩) main_call0_call0_v22) (TRef.of (T := ⟨S64x1000000, .i32⟩) main_call0_call0_v24) (TRef.of (T := ⟨S64x1000000, .i32⟩) main_call0_call0_v25) ori,
    TRef.binary (TRef.of (T := ⟨S64x1000000, .i32⟩) main_call0_call0_v20) (TRef.of (T := ⟨S64x1000000, .i32⟩) main_call0_call0_v25) (TRef.of (T := ⟨S64x1000000, .i32⟩) main_call0_call0_v26) xori,
    TRef.binary (TRef.of (T := ⟨S64x1000000, .i32⟩) main_call0_call0_v20) (TRef.of (T := ⟨S64x1000000, .i32⟩) main_call0_call0_v26) (TRef.of (T := ⟨S64x1000000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S64x1000000, .i32⟩) main_call0_call0_v28) (broadcastInDim S64x1000000 ![] bcast_S_S64x1000000),
    TRef.binary (TRef.of (T := ⟨S64x1000000, .i32⟩) main_call0_call0_v26) (TRef.of (T := ⟨S64x1000000, .i32⟩) main_call0_call0_v28) (TRef.of (T := ⟨S64x1000000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S64x1000000, .i32⟩) main_call0_call0_v30) (broadcastInDim S64x1000000 ![] bcast_S_S64x1000000),
    TRef.binary (TRef.of (T := ⟨S64x1000000, .i32⟩) main_call0_call0_v26) (TRef.of (T := ⟨S64x1000000, .i32⟩) main_call0_call0_v30) (TRef.of (T := ⟨S64x1000000, .i32⟩) main_call0_call0_v31) Host.shrui,
    TRef.binary (TRef.of (T := ⟨S64x1000000, .i32⟩) main_call0_call0_v29) (TRef.of (T := ⟨S64x1000000, .i32⟩) main_call0_call0_v31) (TRef.of (T := ⟨S64x1000000, .i32⟩) main_call0_call0_v32) ori,
    TRef.binary (TRef.of (T := ⟨S64x1000000, .i32⟩) main_call0_call0_v27) (TRef.of (T := ⟨S64x1000000, .i32⟩) main_call0_call0_v32) (TRef.of (T := ⟨S64x1000000, .i32⟩) main_call0_call0_v33) xori,
    TRef.unary (TRef.of (T := ⟨S_, .i32⟩) main_call0_v7) (TRef.of (T := ⟨S64x1000000, .i32⟩) main_call0_call0_v34) (broadcastInDim S64x1000000 ![] bcast_S_S64x1000000),
    TRef.binary (TRef.of (T := ⟨S64x1000000, .i32⟩) main_call0_call0_v27) (TRef.of (T := ⟨S64x1000000, .i32⟩) main_call0_call0_v34) (TRef.of (T := ⟨S64x1000000, .i32⟩) main_call0_call0_v35) addi,
    TRef.unary (TRef.of (T := ⟨S_, .i32⟩) main_call0_call0_v1) (TRef.of (T := ⟨S64x1000000, .i32⟩) main_call0_call0_v36) (broadcastInDim S64x1000000 ![] bcast_S_S64x1000000),
    TRef.binary (TRef.of (T := ⟨S64x1000000, .i32⟩) main_call0_call0_v33) (TRef.of (T := ⟨S64x1000000, .i32⟩) main_call0_call0_v36) (TRef.of (T := ⟨S64x1000000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S64x1000000, .i32⟩) main_call0_call0_v38) (broadcastInDim S64x1000000 ![] bcast_S_S64x1000000),
    TRef.binary (TRef.of (T := ⟨S64x1000000, .i32⟩) main_call0_call0_v37) (TRef.of (T := ⟨S64x1000000, .i32⟩) main_call0_call0_v38) (TRef.of (T := ⟨S64x1000000, .i32⟩) main_call0_call0_v39) addi ]

/-- The references that part writes, in order. -/
abbrev w1 : List (Ref sig .tc) :=
  [main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39]

/-- The second group of rounds and the key injection after it. -/
abbrev g2 : List (HloOp τ sig (Elt F)) :=
  [ TRef.binary (TRef.of (T := ⟨S64x1000000, .i32⟩) main_call0_call0_v35) (TRef.of (T := ⟨S64x1000000, .i32⟩) main_call0_call0_v39) (TRef.of (T := ⟨S64x1000000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S64x1000000, .i32⟩) main_call0_call0_v41) (broadcastInDim S64x1000000 ![] bcast_S_S64x1000000),
    TRef.binary (TRef.of (T := ⟨S64x1000000, .i32⟩) main_call0_call0_v39) (TRef.of (T := ⟨S64x1000000, .i32⟩) main_call0_call0_v41) (TRef.of (T := ⟨S64x1000000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S64x1000000, .i32⟩) main_call0_call0_v43) (broadcastInDim S64x1000000 ![] bcast_S_S64x1000000),
    TRef.binary (TRef.of (T := ⟨S64x1000000, .i32⟩) main_call0_call0_v39) (TRef.of (T := ⟨S64x1000000, .i32⟩) main_call0_call0_v43) (TRef.of (T := ⟨S64x1000000, .i32⟩) main_call0_call0_v44) Host.shrui,
    TRef.binary (TRef.of (T := ⟨S64x1000000, .i32⟩) main_call0_call0_v42) (TRef.of (T := ⟨S64x1000000, .i32⟩) main_call0_call0_v44) (TRef.of (T := ⟨S64x1000000, .i32⟩) main_call0_call0_v45) ori,
    TRef.binary (TRef.of (T := ⟨S64x1000000, .i32⟩) main_call0_call0_v40) (TRef.of (T := ⟨S64x1000000, .i32⟩) main_call0_call0_v45) (TRef.of (T := ⟨S64x1000000, .i32⟩) main_call0_call0_v46) xori,
    TRef.binary (TRef.of (T := ⟨S64x1000000, .i32⟩) main_call0_call0_v40) (TRef.of (T := ⟨S64x1000000, .i32⟩) main_call0_call0_v46) (TRef.of (T := ⟨S64x1000000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S64x1000000, .i32⟩) main_call0_call0_v48) (broadcastInDim S64x1000000 ![] bcast_S_S64x1000000),
    TRef.binary (TRef.of (T := ⟨S64x1000000, .i32⟩) main_call0_call0_v46) (TRef.of (T := ⟨S64x1000000, .i32⟩) main_call0_call0_v48) (TRef.of (T := ⟨S64x1000000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S64x1000000, .i32⟩) main_call0_call0_v50) (broadcastInDim S64x1000000 ![] bcast_S_S64x1000000),
    TRef.binary (TRef.of (T := ⟨S64x1000000, .i32⟩) main_call0_call0_v46) (TRef.of (T := ⟨S64x1000000, .i32⟩) main_call0_call0_v50) (TRef.of (T := ⟨S64x1000000, .i32⟩) main_call0_call0_v51) Host.shrui,
    TRef.binary (TRef.of (T := ⟨S64x1000000, .i32⟩) main_call0_call0_v49) (TRef.of (T := ⟨S64x1000000, .i32⟩) main_call0_call0_v51) (TRef.of (T := ⟨S64x1000000, .i32⟩) main_call0_call0_v52) ori,
    TRef.binary (TRef.of (T := ⟨S64x1000000, .i32⟩) main_call0_call0_v47) (TRef.of (T := ⟨S64x1000000, .i32⟩) main_call0_call0_v52) (TRef.of (T := ⟨S64x1000000, .i32⟩) main_call0_call0_v53) xori,
    TRef.binary (TRef.of (T := ⟨S64x1000000, .i32⟩) main_call0_call0_v47) (TRef.of (T := ⟨S64x1000000, .i32⟩) main_call0_call0_v53) (TRef.of (T := ⟨S64x1000000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S64x1000000, .i32⟩) main_call0_call0_v55) (broadcastInDim S64x1000000 ![] bcast_S_S64x1000000),
    TRef.binary (TRef.of (T := ⟨S64x1000000, .i32⟩) main_call0_call0_v53) (TRef.of (T := ⟨S64x1000000, .i32⟩) main_call0_call0_v55) (TRef.of (T := ⟨S64x1000000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S64x1000000, .i32⟩) main_call0_call0_v57) (broadcastInDim S64x1000000 ![] bcast_S_S64x1000000),
    TRef.binary (TRef.of (T := ⟨S64x1000000, .i32⟩) main_call0_call0_v53) (TRef.of (T := ⟨S64x1000000, .i32⟩) main_call0_call0_v57) (TRef.of (T := ⟨S64x1000000, .i32⟩) main_call0_call0_v58) Host.shrui,
    TRef.binary (TRef.of (T := ⟨S64x1000000, .i32⟩) main_call0_call0_v56) (TRef.of (T := ⟨S64x1000000, .i32⟩) main_call0_call0_v58) (TRef.of (T := ⟨S64x1000000, .i32⟩) main_call0_call0_v59) ori,
    TRef.binary (TRef.of (T := ⟨S64x1000000, .i32⟩) main_call0_call0_v54) (TRef.of (T := ⟨S64x1000000, .i32⟩) main_call0_call0_v59) (TRef.of (T := ⟨S64x1000000, .i32⟩) main_call0_call0_v60) xori,
    TRef.binary (TRef.of (T := ⟨S64x1000000, .i32⟩) main_call0_call0_v54) (TRef.of (T := ⟨S64x1000000, .i32⟩) main_call0_call0_v60) (TRef.of (T := ⟨S64x1000000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S64x1000000, .i32⟩) main_call0_call0_v62) (broadcastInDim S64x1000000 ![] bcast_S_S64x1000000),
    TRef.binary (TRef.of (T := ⟨S64x1000000, .i32⟩) main_call0_call0_v60) (TRef.of (T := ⟨S64x1000000, .i32⟩) main_call0_call0_v62) (TRef.of (T := ⟨S64x1000000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S64x1000000, .i32⟩) main_call0_call0_v64) (broadcastInDim S64x1000000 ![] bcast_S_S64x1000000),
    TRef.binary (TRef.of (T := ⟨S64x1000000, .i32⟩) main_call0_call0_v60) (TRef.of (T := ⟨S64x1000000, .i32⟩) main_call0_call0_v64) (TRef.of (T := ⟨S64x1000000, .i32⟩) main_call0_call0_v65) Host.shrui,
    TRef.binary (TRef.of (T := ⟨S64x1000000, .i32⟩) main_call0_call0_v63) (TRef.of (T := ⟨S64x1000000, .i32⟩) main_call0_call0_v65) (TRef.of (T := ⟨S64x1000000, .i32⟩) main_call0_call0_v66) ori,
    TRef.binary (TRef.of (T := ⟨S64x1000000, .i32⟩) main_call0_call0_v61) (TRef.of (T := ⟨S64x1000000, .i32⟩) main_call0_call0_v66) (TRef.of (T := ⟨S64x1000000, .i32⟩) main_call0_call0_v67) xori,
    TRef.unary (TRef.of (T := ⟨S_, .i32⟩) main_call0_call0_v1) (TRef.of (T := ⟨S64x1000000, .i32⟩) main_call0_call0_v68) (broadcastInDim S64x1000000 ![] bcast_S_S64x1000000),
    TRef.binary (TRef.of (T := ⟨S64x1000000, .i32⟩) main_call0_call0_v61) (TRef.of (T := ⟨S64x1000000, .i32⟩) main_call0_call0_v68) (TRef.of (T := ⟨S64x1000000, .i32⟩) main_call0_call0_v69) addi,
    TRef.unary (TRef.of (T := ⟨S_, .i32⟩) main_call0_v5) (TRef.of (T := ⟨S64x1000000, .i32⟩) main_call0_call0_v70) (broadcastInDim S64x1000000 ![] bcast_S_S64x1000000),
    TRef.binary (TRef.of (T := ⟨S64x1000000, .i32⟩) main_call0_call0_v67) (TRef.of (T := ⟨S64x1000000, .i32⟩) main_call0_call0_v70) (TRef.of (T := ⟨S64x1000000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S64x1000000, .i32⟩) main_call0_call0_v72) (broadcastInDim S64x1000000 ![] bcast_S_S64x1000000),
    TRef.binary (TRef.of (T := ⟨S64x1000000, .i32⟩) main_call0_call0_v71) (TRef.of (T := ⟨S64x1000000, .i32⟩) main_call0_call0_v72) (TRef.of (T := ⟨S64x1000000, .i32⟩) main_call0_call0_v73) addi ]

/-- The references that part writes, in order. -/
abbrev w2 : List (Ref sig .tc) :=
  [main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73]

/-- The third group of rounds and the key injection after it. -/
abbrev g3 : List (HloOp τ sig (Elt F)) :=
  [ TRef.binary (TRef.of (T := ⟨S64x1000000, .i32⟩) main_call0_call0_v69) (TRef.of (T := ⟨S64x1000000, .i32⟩) main_call0_call0_v73) (TRef.of (T := ⟨S64x1000000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S64x1000000, .i32⟩) main_call0_call0_v75) (broadcastInDim S64x1000000 ![] bcast_S_S64x1000000),
    TRef.binary (TRef.of (T := ⟨S64x1000000, .i32⟩) main_call0_call0_v73) (TRef.of (T := ⟨S64x1000000, .i32⟩) main_call0_call0_v75) (TRef.of (T := ⟨S64x1000000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S64x1000000, .i32⟩) main_call0_call0_v77) (broadcastInDim S64x1000000 ![] bcast_S_S64x1000000),
    TRef.binary (TRef.of (T := ⟨S64x1000000, .i32⟩) main_call0_call0_v73) (TRef.of (T := ⟨S64x1000000, .i32⟩) main_call0_call0_v77) (TRef.of (T := ⟨S64x1000000, .i32⟩) main_call0_call0_v78) Host.shrui,
    TRef.binary (TRef.of (T := ⟨S64x1000000, .i32⟩) main_call0_call0_v76) (TRef.of (T := ⟨S64x1000000, .i32⟩) main_call0_call0_v78) (TRef.of (T := ⟨S64x1000000, .i32⟩) main_call0_call0_v79) ori,
    TRef.binary (TRef.of (T := ⟨S64x1000000, .i32⟩) main_call0_call0_v74) (TRef.of (T := ⟨S64x1000000, .i32⟩) main_call0_call0_v79) (TRef.of (T := ⟨S64x1000000, .i32⟩) main_call0_call0_v80) xori,
    TRef.binary (TRef.of (T := ⟨S64x1000000, .i32⟩) main_call0_call0_v74) (TRef.of (T := ⟨S64x1000000, .i32⟩) main_call0_call0_v80) (TRef.of (T := ⟨S64x1000000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S64x1000000, .i32⟩) main_call0_call0_v82) (broadcastInDim S64x1000000 ![] bcast_S_S64x1000000),
    TRef.binary (TRef.of (T := ⟨S64x1000000, .i32⟩) main_call0_call0_v80) (TRef.of (T := ⟨S64x1000000, .i32⟩) main_call0_call0_v82) (TRef.of (T := ⟨S64x1000000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S64x1000000, .i32⟩) main_call0_call0_v84) (broadcastInDim S64x1000000 ![] bcast_S_S64x1000000),
    TRef.binary (TRef.of (T := ⟨S64x1000000, .i32⟩) main_call0_call0_v80) (TRef.of (T := ⟨S64x1000000, .i32⟩) main_call0_call0_v84) (TRef.of (T := ⟨S64x1000000, .i32⟩) main_call0_call0_v85) Host.shrui,
    TRef.binary (TRef.of (T := ⟨S64x1000000, .i32⟩) main_call0_call0_v83) (TRef.of (T := ⟨S64x1000000, .i32⟩) main_call0_call0_v85) (TRef.of (T := ⟨S64x1000000, .i32⟩) main_call0_call0_v86) ori,
    TRef.binary (TRef.of (T := ⟨S64x1000000, .i32⟩) main_call0_call0_v81) (TRef.of (T := ⟨S64x1000000, .i32⟩) main_call0_call0_v86) (TRef.of (T := ⟨S64x1000000, .i32⟩) main_call0_call0_v87) xori,
    TRef.binary (TRef.of (T := ⟨S64x1000000, .i32⟩) main_call0_call0_v81) (TRef.of (T := ⟨S64x1000000, .i32⟩) main_call0_call0_v87) (TRef.of (T := ⟨S64x1000000, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S64x1000000, .i32⟩) main_call0_call0_v89) (broadcastInDim S64x1000000 ![] bcast_S_S64x1000000),
    TRef.binary (TRef.of (T := ⟨S64x1000000, .i32⟩) main_call0_call0_v87) (TRef.of (T := ⟨S64x1000000, .i32⟩) main_call0_call0_v89) (TRef.of (T := ⟨S64x1000000, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S64x1000000, .i32⟩) main_call0_call0_v91) (broadcastInDim S64x1000000 ![] bcast_S_S64x1000000),
    TRef.binary (TRef.of (T := ⟨S64x1000000, .i32⟩) main_call0_call0_v87) (TRef.of (T := ⟨S64x1000000, .i32⟩) main_call0_call0_v91) (TRef.of (T := ⟨S64x1000000, .i32⟩) main_call0_call0_v92) Host.shrui,
    TRef.binary (TRef.of (T := ⟨S64x1000000, .i32⟩) main_call0_call0_v90) (TRef.of (T := ⟨S64x1000000, .i32⟩) main_call0_call0_v92) (TRef.of (T := ⟨S64x1000000, .i32⟩) main_call0_call0_v93) ori,
    TRef.binary (TRef.of (T := ⟨S64x1000000, .i32⟩) main_call0_call0_v88) (TRef.of (T := ⟨S64x1000000, .i32⟩) main_call0_call0_v93) (TRef.of (T := ⟨S64x1000000, .i32⟩) main_call0_call0_v94) xori,
    TRef.binary (TRef.of (T := ⟨S64x1000000, .i32⟩) main_call0_call0_v88) (TRef.of (T := ⟨S64x1000000, .i32⟩) main_call0_call0_v94) (TRef.of (T := ⟨S64x1000000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S64x1000000, .i32⟩) main_call0_call0_v96) (broadcastInDim S64x1000000 ![] bcast_S_S64x1000000),
    TRef.binary (TRef.of (T := ⟨S64x1000000, .i32⟩) main_call0_call0_v94) (TRef.of (T := ⟨S64x1000000, .i32⟩) main_call0_call0_v96) (TRef.of (T := ⟨S64x1000000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S64x1000000, .i32⟩) main_call0_call0_v98) (broadcastInDim S64x1000000 ![] bcast_S_S64x1000000),
    TRef.binary (TRef.of (T := ⟨S64x1000000, .i32⟩) main_call0_call0_v94) (TRef.of (T := ⟨S64x1000000, .i32⟩) main_call0_call0_v98) (TRef.of (T := ⟨S64x1000000, .i32⟩) main_call0_call0_v99) Host.shrui,
    TRef.binary (TRef.of (T := ⟨S64x1000000, .i32⟩) main_call0_call0_v97) (TRef.of (T := ⟨S64x1000000, .i32⟩) main_call0_call0_v99) (TRef.of (T := ⟨S64x1000000, .i32⟩) main_call0_call0_v100) ori,
    TRef.binary (TRef.of (T := ⟨S64x1000000, .i32⟩) main_call0_call0_v95) (TRef.of (T := ⟨S64x1000000, .i32⟩) main_call0_call0_v100) (TRef.of (T := ⟨S64x1000000, .i32⟩) main_call0_call0_v101) xori,
    TRef.unary (TRef.of (T := ⟨S_, .i32⟩) main_call0_v5) (TRef.of (T := ⟨S64x1000000, .i32⟩) main_call0_call0_v102) (broadcastInDim S64x1000000 ![] bcast_S_S64x1000000),
    TRef.binary (TRef.of (T := ⟨S64x1000000, .i32⟩) main_call0_call0_v95) (TRef.of (T := ⟨S64x1000000, .i32⟩) main_call0_call0_v102) (TRef.of (T := ⟨S64x1000000, .i32⟩) main_call0_call0_v103) addi,
    TRef.unary (TRef.of (T := ⟨S_, .i32⟩) main_call0_v7) (TRef.of (T := ⟨S64x1000000, .i32⟩) main_call0_call0_v104) (broadcastInDim S64x1000000 ![] bcast_S_S64x1000000),
    TRef.binary (TRef.of (T := ⟨S64x1000000, .i32⟩) main_call0_call0_v101) (TRef.of (T := ⟨S64x1000000, .i32⟩) main_call0_call0_v104) (TRef.of (T := ⟨S64x1000000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S64x1000000, .i32⟩) main_call0_call0_v106) (broadcastInDim S64x1000000 ![] bcast_S_S64x1000000),
    TRef.binary (TRef.of (T := ⟨S64x1000000, .i32⟩) main_call0_call0_v105) (TRef.of (T := ⟨S64x1000000, .i32⟩) main_call0_call0_v106) (TRef.of (T := ⟨S64x1000000, .i32⟩) main_call0_call0_v107) addi ]

/-- The references that part writes, in order. -/
abbrev w3 : List (Ref sig .tc) :=
  [main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107]

/-- The fourth group of rounds and the key injection after it. -/
abbrev g4 : List (HloOp τ sig (Elt F)) :=
  [ TRef.binary (TRef.of (T := ⟨S64x1000000, .i32⟩) main_call0_call0_v103) (TRef.of (T := ⟨S64x1000000, .i32⟩) main_call0_call0_v107) (TRef.of (T := ⟨S64x1000000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S64x1000000, .i32⟩) main_call0_call0_v109) (broadcastInDim S64x1000000 ![] bcast_S_S64x1000000),
    TRef.binary (TRef.of (T := ⟨S64x1000000, .i32⟩) main_call0_call0_v107) (TRef.of (T := ⟨S64x1000000, .i32⟩) main_call0_call0_v109) (TRef.of (T := ⟨S64x1000000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S64x1000000, .i32⟩) main_call0_call0_v111) (broadcastInDim S64x1000000 ![] bcast_S_S64x1000000),
    TRef.binary (TRef.of (T := ⟨S64x1000000, .i32⟩) main_call0_call0_v107) (TRef.of (T := ⟨S64x1000000, .i32⟩) main_call0_call0_v111) (TRef.of (T := ⟨S64x1000000, .i32⟩) main_call0_call0_v112) Host.shrui,
    TRef.binary (TRef.of (T := ⟨S64x1000000, .i32⟩) main_call0_call0_v110) (TRef.of (T := ⟨S64x1000000, .i32⟩) main_call0_call0_v112) (TRef.of (T := ⟨S64x1000000, .i32⟩) main_call0_call0_v113) ori,
    TRef.binary (TRef.of (T := ⟨S64x1000000, .i32⟩) main_call0_call0_v108) (TRef.of (T := ⟨S64x1000000, .i32⟩) main_call0_call0_v113) (TRef.of (T := ⟨S64x1000000, .i32⟩) main_call0_call0_v114) xori,
    TRef.binary (TRef.of (T := ⟨S64x1000000, .i32⟩) main_call0_call0_v108) (TRef.of (T := ⟨S64x1000000, .i32⟩) main_call0_call0_v114) (TRef.of (T := ⟨S64x1000000, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S64x1000000, .i32⟩) main_call0_call0_v116) (broadcastInDim S64x1000000 ![] bcast_S_S64x1000000),
    TRef.binary (TRef.of (T := ⟨S64x1000000, .i32⟩) main_call0_call0_v114) (TRef.of (T := ⟨S64x1000000, .i32⟩) main_call0_call0_v116) (TRef.of (T := ⟨S64x1000000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S64x1000000, .i32⟩) main_call0_call0_v118) (broadcastInDim S64x1000000 ![] bcast_S_S64x1000000),
    TRef.binary (TRef.of (T := ⟨S64x1000000, .i32⟩) main_call0_call0_v114) (TRef.of (T := ⟨S64x1000000, .i32⟩) main_call0_call0_v118) (TRef.of (T := ⟨S64x1000000, .i32⟩) main_call0_call0_v119) Host.shrui,
    TRef.binary (TRef.of (T := ⟨S64x1000000, .i32⟩) main_call0_call0_v117) (TRef.of (T := ⟨S64x1000000, .i32⟩) main_call0_call0_v119) (TRef.of (T := ⟨S64x1000000, .i32⟩) main_call0_call0_v120) ori,
    TRef.binary (TRef.of (T := ⟨S64x1000000, .i32⟩) main_call0_call0_v115) (TRef.of (T := ⟨S64x1000000, .i32⟩) main_call0_call0_v120) (TRef.of (T := ⟨S64x1000000, .i32⟩) main_call0_call0_v121) xori,
    TRef.binary (TRef.of (T := ⟨S64x1000000, .i32⟩) main_call0_call0_v115) (TRef.of (T := ⟨S64x1000000, .i32⟩) main_call0_call0_v121) (TRef.of (T := ⟨S64x1000000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S64x1000000, .i32⟩) main_call0_call0_v123) (broadcastInDim S64x1000000 ![] bcast_S_S64x1000000),
    TRef.binary (TRef.of (T := ⟨S64x1000000, .i32⟩) main_call0_call0_v121) (TRef.of (T := ⟨S64x1000000, .i32⟩) main_call0_call0_v123) (TRef.of (T := ⟨S64x1000000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S64x1000000, .i32⟩) main_call0_call0_v125) (broadcastInDim S64x1000000 ![] bcast_S_S64x1000000),
    TRef.binary (TRef.of (T := ⟨S64x1000000, .i32⟩) main_call0_call0_v121) (TRef.of (T := ⟨S64x1000000, .i32⟩) main_call0_call0_v125) (TRef.of (T := ⟨S64x1000000, .i32⟩) main_call0_call0_v126) Host.shrui,
    TRef.binary (TRef.of (T := ⟨S64x1000000, .i32⟩) main_call0_call0_v124) (TRef.of (T := ⟨S64x1000000, .i32⟩) main_call0_call0_v126) (TRef.of (T := ⟨S64x1000000, .i32⟩) main_call0_call0_v127) ori,
    TRef.binary (TRef.of (T := ⟨S64x1000000, .i32⟩) main_call0_call0_v122) (TRef.of (T := ⟨S64x1000000, .i32⟩) main_call0_call0_v127) (TRef.of (T := ⟨S64x1000000, .i32⟩) main_call0_call0_v128) xori,
    TRef.binary (TRef.of (T := ⟨S64x1000000, .i32⟩) main_call0_call0_v122) (TRef.of (T := ⟨S64x1000000, .i32⟩) main_call0_call0_v128) (TRef.of (T := ⟨S64x1000000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S64x1000000, .i32⟩) main_call0_call0_v130) (broadcastInDim S64x1000000 ![] bcast_S_S64x1000000),
    TRef.binary (TRef.of (T := ⟨S64x1000000, .i32⟩) main_call0_call0_v128) (TRef.of (T := ⟨S64x1000000, .i32⟩) main_call0_call0_v130) (TRef.of (T := ⟨S64x1000000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S64x1000000, .i32⟩) main_call0_call0_v132) (broadcastInDim S64x1000000 ![] bcast_S_S64x1000000),
    TRef.binary (TRef.of (T := ⟨S64x1000000, .i32⟩) main_call0_call0_v128) (TRef.of (T := ⟨S64x1000000, .i32⟩) main_call0_call0_v132) (TRef.of (T := ⟨S64x1000000, .i32⟩) main_call0_call0_v133) Host.shrui,
    TRef.binary (TRef.of (T := ⟨S64x1000000, .i32⟩) main_call0_call0_v131) (TRef.of (T := ⟨S64x1000000, .i32⟩) main_call0_call0_v133) (TRef.of (T := ⟨S64x1000000, .i32⟩) main_call0_call0_v134) ori,
    TRef.binary (TRef.of (T := ⟨S64x1000000, .i32⟩) main_call0_call0_v129) (TRef.of (T := ⟨S64x1000000, .i32⟩) main_call0_call0_v134) (TRef.of (T := ⟨S64x1000000, .i32⟩) main_call0_call0_v135) xori,
    TRef.unary (TRef.of (T := ⟨S_, .i32⟩) main_call0_v7) (TRef.of (T := ⟨S64x1000000, .i32⟩) main_call0_call0_v136) (broadcastInDim S64x1000000 ![] bcast_S_S64x1000000),
    TRef.binary (TRef.of (T := ⟨S64x1000000, .i32⟩) main_call0_call0_v129) (TRef.of (T := ⟨S64x1000000, .i32⟩) main_call0_call0_v136) (TRef.of (T := ⟨S64x1000000, .i32⟩) main_call0_call0_v137) addi,
    TRef.unary (TRef.of (T := ⟨S_, .i32⟩) main_call0_call0_v1) (TRef.of (T := ⟨S64x1000000, .i32⟩) main_call0_call0_v138) (broadcastInDim S64x1000000 ![] bcast_S_S64x1000000),
    TRef.binary (TRef.of (T := ⟨S64x1000000, .i32⟩) main_call0_call0_v135) (TRef.of (T := ⟨S64x1000000, .i32⟩) main_call0_call0_v138) (TRef.of (T := ⟨S64x1000000, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S64x1000000, .i32⟩) main_call0_call0_v140) (broadcastInDim S64x1000000 ![] bcast_S_S64x1000000),
    TRef.binary (TRef.of (T := ⟨S64x1000000, .i32⟩) main_call0_call0_v139) (TRef.of (T := ⟨S64x1000000, .i32⟩) main_call0_call0_v140) (TRef.of (T := ⟨S64x1000000, .i32⟩) main_call0_call0_v141) addi ]

/-- The references that part writes, in order. -/
abbrev w4 : List (Ref sig .tc) :=
  [main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141]

/-- The fifth group of rounds and the key injection after it. -/
abbrev g5 : List (HloOp τ sig (Elt F)) :=
  [ TRef.binary (TRef.of (T := ⟨S64x1000000, .i32⟩) main_call0_call0_v137) (TRef.of (T := ⟨S64x1000000, .i32⟩) main_call0_call0_v141) (TRef.of (T := ⟨S64x1000000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S64x1000000, .i32⟩) main_call0_call0_v143) (broadcastInDim S64x1000000 ![] bcast_S_S64x1000000),
    TRef.binary (TRef.of (T := ⟨S64x1000000, .i32⟩) main_call0_call0_v141) (TRef.of (T := ⟨S64x1000000, .i32⟩) main_call0_call0_v143) (TRef.of (T := ⟨S64x1000000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S64x1000000, .i32⟩) main_call0_call0_v145) (broadcastInDim S64x1000000 ![] bcast_S_S64x1000000),
    TRef.binary (TRef.of (T := ⟨S64x1000000, .i32⟩) main_call0_call0_v141) (TRef.of (T := ⟨S64x1000000, .i32⟩) main_call0_call0_v145) (TRef.of (T := ⟨S64x1000000, .i32⟩) main_call0_call0_v146) Host.shrui,
    TRef.binary (TRef.of (T := ⟨S64x1000000, .i32⟩) main_call0_call0_v144) (TRef.of (T := ⟨S64x1000000, .i32⟩) main_call0_call0_v146) (TRef.of (T := ⟨S64x1000000, .i32⟩) main_call0_call0_v147) ori,
    TRef.binary (TRef.of (T := ⟨S64x1000000, .i32⟩) main_call0_call0_v142) (TRef.of (T := ⟨S64x1000000, .i32⟩) main_call0_call0_v147) (TRef.of (T := ⟨S64x1000000, .i32⟩) main_call0_call0_v148) xori,
    TRef.binary (TRef.of (T := ⟨S64x1000000, .i32⟩) main_call0_call0_v142) (TRef.of (T := ⟨S64x1000000, .i32⟩) main_call0_call0_v148) (TRef.of (T := ⟨S64x1000000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S64x1000000, .i32⟩) main_call0_call0_v150) (broadcastInDim S64x1000000 ![] bcast_S_S64x1000000),
    TRef.binary (TRef.of (T := ⟨S64x1000000, .i32⟩) main_call0_call0_v148) (TRef.of (T := ⟨S64x1000000, .i32⟩) main_call0_call0_v150) (TRef.of (T := ⟨S64x1000000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S64x1000000, .i32⟩) main_call0_call0_v152) (broadcastInDim S64x1000000 ![] bcast_S_S64x1000000),
    TRef.binary (TRef.of (T := ⟨S64x1000000, .i32⟩) main_call0_call0_v148) (TRef.of (T := ⟨S64x1000000, .i32⟩) main_call0_call0_v152) (TRef.of (T := ⟨S64x1000000, .i32⟩) main_call0_call0_v153) Host.shrui,
    TRef.binary (TRef.of (T := ⟨S64x1000000, .i32⟩) main_call0_call0_v151) (TRef.of (T := ⟨S64x1000000, .i32⟩) main_call0_call0_v153) (TRef.of (T := ⟨S64x1000000, .i32⟩) main_call0_call0_v154) ori,
    TRef.binary (TRef.of (T := ⟨S64x1000000, .i32⟩) main_call0_call0_v149) (TRef.of (T := ⟨S64x1000000, .i32⟩) main_call0_call0_v154) (TRef.of (T := ⟨S64x1000000, .i32⟩) main_call0_call0_v155) xori,
    TRef.binary (TRef.of (T := ⟨S64x1000000, .i32⟩) main_call0_call0_v149) (TRef.of (T := ⟨S64x1000000, .i32⟩) main_call0_call0_v155) (TRef.of (T := ⟨S64x1000000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S64x1000000, .i32⟩) main_call0_call0_v157) (broadcastInDim S64x1000000 ![] bcast_S_S64x1000000),
    TRef.binary (TRef.of (T := ⟨S64x1000000, .i32⟩) main_call0_call0_v155) (TRef.of (T := ⟨S64x1000000, .i32⟩) main_call0_call0_v157) (TRef.of (T := ⟨S64x1000000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S64x1000000, .i32⟩) main_call0_call0_v159) (broadcastInDim S64x1000000 ![] bcast_S_S64x1000000),
    TRef.binary (TRef.of (T := ⟨S64x1000000, .i32⟩) main_call0_call0_v155) (TRef.of (T := ⟨S64x1000000, .i32⟩) main_call0_call0_v159) (TRef.of (T := ⟨S64x1000000, .i32⟩) main_call0_call0_v160) Host.shrui,
    TRef.binary (TRef.of (T := ⟨S64x1000000, .i32⟩) main_call0_call0_v158) (TRef.of (T := ⟨S64x1000000, .i32⟩) main_call0_call0_v160) (TRef.of (T := ⟨S64x1000000, .i32⟩) main_call0_call0_v161) ori,
    TRef.binary (TRef.of (T := ⟨S64x1000000, .i32⟩) main_call0_call0_v156) (TRef.of (T := ⟨S64x1000000, .i32⟩) main_call0_call0_v161) (TRef.of (T := ⟨S64x1000000, .i32⟩) main_call0_call0_v162) xori,
    TRef.binary (TRef.of (T := ⟨S64x1000000, .i32⟩) main_call0_call0_v156) (TRef.of (T := ⟨S64x1000000, .i32⟩) main_call0_call0_v162) (TRef.of (T := ⟨S64x1000000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S64x1000000, .i32⟩) main_call0_call0_v164) (broadcastInDim S64x1000000 ![] bcast_S_S64x1000000),
    TRef.binary (TRef.of (T := ⟨S64x1000000, .i32⟩) main_call0_call0_v162) (TRef.of (T := ⟨S64x1000000, .i32⟩) main_call0_call0_v164) (TRef.of (T := ⟨S64x1000000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S64x1000000, .i32⟩) main_call0_call0_v166) (broadcastInDim S64x1000000 ![] bcast_S_S64x1000000),
    TRef.binary (TRef.of (T := ⟨S64x1000000, .i32⟩) main_call0_call0_v162) (TRef.of (T := ⟨S64x1000000, .i32⟩) main_call0_call0_v166) (TRef.of (T := ⟨S64x1000000, .i32⟩) main_call0_call0_v167) Host.shrui,
    TRef.binary (TRef.of (T := ⟨S64x1000000, .i32⟩) main_call0_call0_v165) (TRef.of (T := ⟨S64x1000000, .i32⟩) main_call0_call0_v167) (TRef.of (T := ⟨S64x1000000, .i32⟩) main_call0_call0_v168) ori,
    TRef.binary (TRef.of (T := ⟨S64x1000000, .i32⟩) main_call0_call0_v163) (TRef.of (T := ⟨S64x1000000, .i32⟩) main_call0_call0_v168) (TRef.of (T := ⟨S64x1000000, .i32⟩) main_call0_call0_v169) xori,
    TRef.unary (TRef.of (T := ⟨S_, .i32⟩) main_call0_call0_v1) (TRef.of (T := ⟨S64x1000000, .i32⟩) main_call0_call0_v170) (broadcastInDim S64x1000000 ![] bcast_S_S64x1000000),
    TRef.binary (TRef.of (T := ⟨S64x1000000, .i32⟩) main_call0_call0_v163) (TRef.of (T := ⟨S64x1000000, .i32⟩) main_call0_call0_v170) (TRef.of (T := ⟨S64x1000000, .i32⟩) main_call0_v19_0) addi,
    TRef.unary (TRef.of (T := ⟨S_, .i32⟩) main_call0_v5) (TRef.of (T := ⟨S64x1000000, .i32⟩) main_call0_call0_v172) (broadcastInDim S64x1000000 ![] bcast_S_S64x1000000),
    TRef.binary (TRef.of (T := ⟨S64x1000000, .i32⟩) main_call0_call0_v169) (TRef.of (T := ⟨S64x1000000, .i32⟩) main_call0_call0_v172) (TRef.of (T := ⟨S64x1000000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S64x1000000, .i32⟩) main_call0_call0_v174) (broadcastInDim S64x1000000 ![] bcast_S_S64x1000000),
    TRef.binary (TRef.of (T := ⟨S64x1000000, .i32⟩) main_call0_call0_v173) (TRef.of (T := ⟨S64x1000000, .i32⟩) main_call0_call0_v174) (TRef.of (T := ⟨S64x1000000, .i32⟩) main_call0_v19_1) addi ]

/-- The references that part writes, in order. -/
abbrev w5 : List (Ref sig .tc) :=
  [main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1]

/-- From the random words to the argument of the greatest perturbed logit. -/
abbrev g6 : List (HloOp τ sig (Elt F)) :=
  [ TRef.binary (TRef.of (T := ⟨S64x1000000, .i32⟩) main_call0_v19_0) (TRef.of (T := ⟨S64x1000000, .i32⟩) main_call0_v19_1) (TRef.of (T := ⟨S64x1000000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S64x1000000, .i32⟩) main_call0_v21) (broadcastInDim S64x1000000 ![] bcast_S_S64x1000000),
    TRef.binary (TRef.of (T := ⟨S64x1000000, .i32⟩) main_call0_v20) (TRef.of (T := ⟨S64x1000000, .i32⟩) main_call0_v21) (TRef.of (T := ⟨S64x1000000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S64x1000000, .i32⟩) main_call0_v23) (broadcastInDim S64x1000000 ![] bcast_S_S64x1000000),
    TRef.binary (TRef.of (T := ⟨S64x1000000, .i32⟩) main_call0_v22) (TRef.of (T := ⟨S64x1000000, .i32⟩) main_call0_v23) (TRef.of (T := ⟨S64x1000000, .i32⟩) main_call0_v24) ori,
    TRef.unary (TRef.of (T := ⟨S64x1000000, .i32⟩) main_call0_v24) (TRef.of (T := ⟨S64x1000000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S64x1000000, .f32⟩) main_call0_v26) (broadcastInDim S64x1000000 ![] bcast_S_S64x1000000),
    TRef.binary (TRef.of (T := ⟨S64x1000000, .f32⟩) main_call0_v25) (TRef.of (T := ⟨S64x1000000, .f32⟩) main_call0_v26) (TRef.of (T := ⟨S64x1000000, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S64x1000000, .f32⟩) main_call0_v29) (broadcastInDim S64x1000000 ![0, 1] bcast_S1x1_S64x1000000_0_1),
    TRef.binary (TRef.of (T := ⟨S64x1000000, .f32⟩) main_call0_v27) (TRef.of (T := ⟨S64x1000000, .f32⟩) main_call0_v29) (TRef.of (T := ⟨S64x1000000, .f32⟩) main_call0_v30) mulf,
    TRef.unary (TRef.of (T := ⟨S1x1, .f32⟩) main_call0_v2) (TRef.of (T := ⟨S64x1000000, .f32⟩) main_call0_v31) (broadcastInDim S64x1000000 ![0, 1] bcast_S1x1_S64x1000000_0_1),
    TRef.binary (TRef.of (T := ⟨S64x1000000, .f32⟩) main_call0_v30) (TRef.of (T := ⟨S64x1000000, .f32⟩) main_call0_v31) (TRef.of (T := ⟨S64x1000000, .f32⟩) main_call0_v32) addf,
    TRef.unary (TRef.of (T := ⟨S1x1, .f32⟩) main_call0_v2) (TRef.of (T := ⟨S64x1000000, .f32⟩) main_call0_v33) (broadcastInDim S64x1000000 ![0, 1] bcast_S1x1_S64x1000000_0_1),
    TRef.binary (TRef.of (T := ⟨S64x1000000, .f32⟩) main_call0_v33) (TRef.of (T := ⟨S64x1000000, .f32⟩) main_call0_v32) (TRef.of (T := ⟨S64x1000000, .f32⟩) main_v7) maximumf,
    nullary main_cst_3 (constant S_ .f32 0x3F7FFFFC#32),
    unary main_cst_3 main_v8 (broadcastInDim S64x1000000 ![] bcast_S_S64x1000000 : (⟨S_, .f32⟩ : BufTy).Contents (Elt F) → (⟨S64x1000000, .f32⟩ : BufTy).Contents (Elt F)),
    binary main_v7 main_v8 main_v9 (mulf : (⟨S64x1000000, .f32⟩ : BufTy).Contents (Elt F) → (⟨S64x1000000, .f32⟩ : BufTy).Contents (Elt F) → (⟨S64x1000000, .f32⟩ : BufTy).Contents (Elt F)),
    nullary main_cst_4 (constant S_ .f32 0x33D6BF95#32),
    unary main_cst_4 main_v10 (broadcastInDim S64x1000000 ![] bcast_S_S64x1000000 : (⟨S_, .f32⟩ : BufTy).Contents (Elt F) → (⟨S64x1000000, .f32⟩ : BufTy).Contents (Elt F)),
    binary main_v9 main_v10 main_v11 (addf : (⟨S64x1000000, .f32⟩ : BufTy).Contents (Elt F) → (⟨S64x1000000, .f32⟩ : BufTy).Contents (Elt F) → (⟨S64x1000000, .f32⟩ : BufTy).Contents (Elt F)),
    nullary main_cst_5 (constant S_ .f32 0x33D6BF95#32),
    unary main_cst_5 main_v12 (broadcastInDim S64x1000000 ![] bcast_S_S64x1000000 : (⟨S_, .f32⟩ : BufTy).Contents (Elt F) → (⟨S64x1000000, .f32⟩ : BufTy).Contents (Elt F)),
    binary main_v12 main_v11 main_v13 (maximumf : (⟨S64x1000000, .f32⟩ : BufTy).Contents (Elt F) → (⟨S64x1000000, .f32⟩ : BufTy).Contents (Elt F) → (⟨S64x1000000, .f32⟩ : BufTy).Contents (Elt F)),
    unary main_v13 main_v14 (Host.log : (⟨S64x1000000, .f32⟩ : BufTy).Contents (Elt F) → (⟨S64x1000000, .f32⟩ : BufTy).Contents (Elt F)),
    unary main_v14 main_v15 (Host.negf : (⟨S64x1000000, .f32⟩ : BufTy).Contents (Elt F) → (⟨S64x1000000, .f32⟩ : BufTy).Contents (Elt F)),
    unary main_v15 main_v16 (Host.log : (⟨S64x1000000, .f32⟩ : BufTy).Contents (Elt F) → (⟨S64x1000000, .f32⟩ : BufTy).Contents (Elt F)),
    unary main_v16 main_v17 (Host.negf : (⟨S64x1000000, .f32⟩ : BufTy).Contents (Elt F) → (⟨S64x1000000, .f32⟩ : BufTy).Contents (Elt F)),
    binary main_arg0 main_v17 main_v18 (addf : (⟨S64x1000000, .f32⟩ : BufTy).Contents (Elt F) → (⟨S64x1000000, .f32⟩ : BufTy).Contents (Elt F) → (⟨S64x1000000, .f32⟩ : BufTy).Contents (Elt F)),
    TRef.nullary (TRef.of (T := ⟨S64x1000000, .i32⟩) main_call1_v0) (iotaInDim S64x1000000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S64x1000000, .f32⟩) main_v18) (TRef.of (T := ⟨S64x1000000, .i32⟩) main_call1_v0) (TRef.of (T := ⟨S_, .f32⟩) main_call1_cst) (TRef.of (T := ⟨S_, .i32⟩) main_call1_c) (TRef.of (T := ⟨S64, .f32⟩) main_call1_v1_0) (fun x y u v j => (Host.argReduce reducer_argmax_f32_i32 x y u v reducesTo_S64x1000000_S64_d1 h_S_ j).1),
    TRef.quaternary (TRef.of (T := ⟨S64x1000000, .f32⟩) main_v18) (TRef.of (T := ⟨S64x1000000, .i32⟩) main_call1_v0) (TRef.of (T := ⟨S_, .f32⟩) main_call1_cst) (TRef.of (T := ⟨S_, .i32⟩) main_call1_c) (TRef.of (T := ⟨S64, .i32⟩) main_v19) (fun x y u v j => (Host.argReduce reducer_argmax_f32_i32 x y u v reducesTo_S64x1000000_S64_d1 h_S_ j).2) ]

/-- The references that part writes, in order. -/
abbrev w6 : List (Ref sig .tc) :=
  [main_call0_v20, main_call0_c_2, main_call0_v21, main_call0_v22, main_call0_c_3, main_call0_v23, main_call0_v24, main_call0_v25, main_call0_cst, main_call0_v26, main_call0_v27, main_call0_v28, main_call0_v29, main_call0_v30, main_call0_v31, main_call0_v32, main_call0_v33, main_v7, main_cst_3, main_v8, main_v9, main_cst_4, main_v10, main_v11, main_cst_5, main_v12, main_v13, main_v14, main_v15, main_v16, main_v17, main_v18, main_call1_v0, main_call1_cst, main_call1_c, main_call1_v1_0, main_v19]

/-- @main's operations, in order. -/
abbrev ops : List (HloOp τ sig (Elt F)) := g0 ++ (g1 ++ (g2 ++ (g3 ++ (g4 ++ (g5 ++ g6)))))

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem w0_writes : (g0 (F := F)).map HloOp.writes = w0.map fun r => {Proc.devRef (τ := τ) .tc r} := rfl
/-- A reference part 0 does not write keeps its contents. -/
theorem keep0 (V : Valuation τ sig (Elt F)) (r : Ref sig .tc) (h : r ∉ w0) : after g0 V (Proc.devRef .tc r) = V (Proc.devRef .tc r) :=
  after_unwritten w0 w0_writes h V

theorem w1_writes : (g1 (F := F)).map HloOp.writes = w1.map fun r => {Proc.devRef (τ := τ) .tc r} := rfl
/-- A reference part 1 does not write keeps its contents. -/
theorem keep1 (V : Valuation τ sig (Elt F)) (r : Ref sig .tc) (h : r ∉ w1) : after g1 V (Proc.devRef .tc r) = V (Proc.devRef .tc r) :=
  after_unwritten w1 w1_writes h V

theorem w2_writes : (g2 (F := F)).map HloOp.writes = w2.map fun r => {Proc.devRef (τ := τ) .tc r} := rfl
/-- A reference part 2 does not write keeps its contents. -/
theorem keep2 (V : Valuation τ sig (Elt F)) (r : Ref sig .tc) (h : r ∉ w2) : after g2 V (Proc.devRef .tc r) = V (Proc.devRef .tc r) :=
  after_unwritten w2 w2_writes h V

theorem w3_writes : (g3 (F := F)).map HloOp.writes = w3.map fun r => {Proc.devRef (τ := τ) .tc r} := rfl
/-- A reference part 3 does not write keeps its contents. -/
theorem keep3 (V : Valuation τ sig (Elt F)) (r : Ref sig .tc) (h : r ∉ w3) : after g3 V (Proc.devRef .tc r) = V (Proc.devRef .tc r) :=
  after_unwritten w3 w3_writes h V

theorem w4_writes : (g4 (F := F)).map HloOp.writes = w4.map fun r => {Proc.devRef (τ := τ) .tc r} := rfl
/-- A reference part 4 does not write keeps its contents. -/
theorem keep4 (V : Valuation τ sig (Elt F)) (r : Ref sig .tc) (h : r ∉ w4) : after g4 V (Proc.devRef .tc r) = V (Proc.devRef .tc r) :=
  after_unwritten w4 w4_writes h V

theorem w5_writes : (g5 (F := F)).map HloOp.writes = w5.map fun r => {Proc.devRef (τ := τ) .tc r} := rfl
/-- A reference part 5 does not write keeps its contents. -/
theorem keep5 (V : Valuation τ sig (Elt F)) (r : Ref sig .tc) (h : r ∉ w5) : after g5 V (Proc.devRef .tc r) = V (Proc.devRef .tc r) :=
  after_unwritten w5 w5_writes h V

theorem w6_writes : (g6 (F := F)).map HloOp.writes = w6.map fun r => {Proc.devRef (τ := τ) .tc r} := rfl
/-- A reference part 6 does not write keeps its contents. -/
theorem keep6 (V : Valuation τ sig (Elt F)) (r : Ref sig .tc) (h : r ∉ w6) : after g6 V (Proc.devRef .tc r) = V (Proc.devRef .tc r) :=
  after_unwritten w6 w6_writes h V

/-- No operation allocates. -/
theorem ops_fresh : ∀ op ∈ (ops : List (HloOp τ sig (Elt F))), op.fresh = ∅ :=
  List.forall_iff_forall_mem.mp (forall_fresh_of_map rfl)

/-- Every operation touches the program's tensors only. -/
theorem ops_sub : (ops : List (HloOp τ sig (Elt F))).Forall fun op => op.bufs ⊆ tcRefs τ sig := by
  rw [List.forall_iff_forall_mem]
  intro op h
  simp only [ops, g0, g1, g2, g3, g4, g5, g6, List.cons_append, List.nil_append, List.mem_cons, List.not_mem_nil, or_false] at h
  repeat' rcases h with rfl | h
  all_goals (try subst h) <;> simp only [TRef.nullary, TRef.unary, TRef.binary, TRef.quaternary, TRef.reshape, nullary_bufs_sub, unary_bufs_sub, binary_bufs_sub, quaternary_bufs_sub, reshape_bufs_sub]

end Cert.ReferenceIdeal.Line

end
-- ==== Proof.RefRun.lean ====
/-
  The reference's run: its random words in closed form at every element, and its result as the arg-max of the logits
  plus the Gumbel noise made of those words.
-/
module

public import proofs.«01_k».proof.Proof.RefOps
public import proofs.«01_k».proof.Proof.Words
public import Idealize.ShloMosaic.Lib.Pipeline.Frame

@[expose] public section

set_option maxRecDepth 16384

noncomputable section

namespace Cert.ReferenceIdeal.Line

open Cert.ReferenceIdeal Cert.ReferenceIdeal.Gen Cert.Words
open Idealize.ShloMosaic Idealize.ShloMosaic.TcCoe Idealize.SL.Sem Idealize.ShloMosaic.StableHlo

variable {F : FTy → Type} [FloatOps F]

/-- The keys as the reference holds them. -/
def Keys (V : Valuation τ sig (Elt F)) : Prop :=
  V (Proc.devRef .tc main_call0_v5) = constantI S_ 32 0#32 ∧ V (Proc.devRef .tc main_call0_v7) = constantI S_ 32 42#32
    ∧ V (Proc.devRef .tc main_call0_call0_v1) = constantI S_ 32 466689008#32

variable (V : Valuation τ sig (Elt F)) (a b : IVec S64x1000000 32)

/-- The first group. -/
theorem grp1 (hk : Keys V) (ha : V (Proc.devRef .tc main_call0_call0_v3) = a) (hb : V (Proc.devRef .tc main_call0_call0_v5) = b) :
    after g1 V (Proc.devRef .tc main_call0_call0_v35) = (fun j => (inj 42#32 466689009#32 (rA (a j, b j))).1)
    ∧ after g1 V (Proc.devRef .tc main_call0_call0_v39) = (fun j => (inj 42#32 466689009#32 (rA (a j, b j))).2) := by
  obtain ⟨h5, h7, h1⟩ := hk
  simp only [g1, TRef.nullary, TRef.unary, TRef.binary, TRef.toBuf, TRef.ofBuf, cast_eq]
  constructor
  · after_results_simp
    rw [h7, ha, hb]
    rfl
  · after_results_simp
    rw [h1, ha, hb]
    funext j
    exact BitVec.add_assoc _ _ _

/-- The second group. -/
theorem grp2 (hk : Keys V) (ha : V (Proc.devRef .tc main_call0_call0_v35) = a) (hb : V (Proc.devRef .tc main_call0_call0_v39) = b) :
    after g2 V (Proc.devRef .tc main_call0_call0_v69) = (fun j => (inj 466689008#32 2#32 (rB (a j, b j))).1)
    ∧ after g2 V (Proc.devRef .tc main_call0_call0_v73) = (fun j => (inj 466689008#32 2#32 (rB (a j, b j))).2) := by
  obtain ⟨h5, h7, h1⟩ := hk
  simp only [g2, TRef.nullary, TRef.unary, TRef.binary, TRef.toBuf, TRef.ofBuf, cast_eq]
  constructor
  · after_results_simp
    rw [h1, ha, hb]
    rfl
  · after_results_simp
    rw [h5, ha, hb]
    funext j
    exact BitVec.add_assoc _ _ _

/-- The third group. -/
theorem grp3 (hk : Keys V) (ha : V (Proc.devRef .tc main_call0_call0_v69) = a) (hb : V (Proc.devRef .tc main_call0_call0_v73) = b) :
    after g3 V (Proc.devRef .tc main_call0_call0_v103) = (fun j => (inj 0#32 45#32 (rA (a j, b j))).1)
    ∧ after g3 V (Proc.devRef .tc main_call0_call0_v107) = (fun j => (inj 0#32 45#32 (rA (a j, b j))).2) := by
  obtain ⟨h5, h7, h1⟩ := hk
  simp only [g3, TRef.nullary, TRef.unary, TRef.binary, TRef.toBuf, TRef.ofBuf, cast_eq]
  constructor
  · after_results_simp
    rw [h5, ha, hb]
    rfl
  · after_results_simp
    rw [h7, ha, hb]
    funext j
    exact BitVec.add_assoc _ _ _

/-- The fourth group. -/
theorem grp4 (hk : Keys V) (ha : V (Proc.devRef .tc main_call0_call0_v103) = a) (hb : V (Proc.devRef .tc main_call0_call0_v107) = b) :
    after g4 V (Proc.devRef .tc main_call0_call0_v137) = (fun j => (inj 42#32 466689012#32 (rB (a j, b j))).1)
    ∧ after g4 V (Proc.devRef .tc main_call0_call0_v141) = (fun j => (inj 42#32 466689012#32 (rB (a j, b j))).2) := by
  obtain ⟨h5, h7, h1⟩ := hk
  simp only [g4, TRef.nullary, TRef.unary, TRef.binary, TRef.toBuf, TRef.ofBuf, cast_eq]
  constructor
  · after_results_simp
    rw [h7, ha, hb]
    rfl
  · after_results_simp
    rw [h1, ha, hb]
    funext j
    exact BitVec.add_assoc _ _ _

/-- The fifth group. -/
theorem grp5 (hk : Keys V) (ha : V (Proc.devRef .tc main_call0_call0_v137) = a) (hb : V (Proc.devRef .tc main_call0_call0_v141) = b) :
    after g5 V (Proc.devRef .tc main_call0_v19_0) = (fun j => (inj 466689008#32 5#32 (rA (a j, b j))).1)
    ∧ after g5 V (Proc.devRef .tc main_call0_v19_1) = (fun j => (inj 466689008#32 5#32 (rA (a j, b j))).2) := by
  obtain ⟨h5, h7, h1⟩ := hk
  simp only [g5, TRef.nullary, TRef.unary, TRef.binary, TRef.toBuf, TRef.ofBuf, cast_eq]
  constructor
  · after_results_simp
    rw [h1, ha, hb]
    rfl
  · after_results_simp
    rw [h5, ha, hb]
    funext j
    exact BitVec.add_assoc _ _ _

/-- The key's high word and -/
abbrev kHi : IVec S_ 32 := Host.shrui (constantI S_ 32 42#32) (constantI S_ 32 32#32)
/-- its low word, as the reference computes them. -/
abbrev kLo : IVec S_ 32 := andi (constantI S_ 32 42#32) (constantI S_ 32 4294967295#32)
/-- The high word is zero, -/
theorem kHi_eq : kHi = constantI S_ 32 0#32 := funext fun _ => (by decide : IntOp.shrui .host 42#32 32#32 = 0#32)
/-- the low word the whole key. -/
theorem kLo_eq : kLo = constantI S_ 32 42#32 := funext fun _ => (by decide : IntOp.andi 42#32 4294967295#32 = 42#32)

/-- The first of two words laid side by side, read back, -/
theorem key0 (x y : IVec S_ 32) : shapeCast S_ (extractStridedSlice S1 ![0] (concatenate S2 0
      [⟨S1, broadcastInDim S1 ![] bcast_S_S1 (id x)⟩, ⟨S1, broadcastInDim S1 ![] bcast_S_S1 (id y)⟩] concatenates_S1_S1_S2_d0)
      slices_S2_S1_0) shapeCasts_S1_S_ = x := by
  funext i
  obtain rfl : i = fun a => a.elim0 := funext fun a => a.elim0
  exact congrArg x (funext fun a => a.elim0)

/-- and the second one. -/
theorem key1 (x y : IVec S_ 32) : shapeCast S_ (extractStridedSlice S1 ![1] (concatenate S2 0
      [⟨S1, broadcastInDim S1 ![] bcast_S_S1 (id x)⟩, ⟨S1, broadcastInDim S1 ![] bcast_S_S1 (id y)⟩] concatenates_S1_S1_S2_d0)
      slices_S2_S1_1) shapeCasts_S1_S_ = y := by
  funext i
  obtain rfl : i = fun a => a.elim0 := funext fun a => a.elim0
  exact congrArg y (funext fun a => a.elim0)

/-- The linear index of an element, as a word. -/
def lin (j : S64x1000000.Idx) : BitVec 32 := BitVec.ofNat 32 ((j 0).val * 1000000 + (j 1).val)

/-- The high words of the 64-bit linear indices are zero, -/
theorem high_zero (r c : ℕ) (hr : r < 64) (hc : c < 1000000) :
    (((1000000#64 * BitVec.ofNat 64 r + 1#64 * BitVec.ofNat 64 c) >>> 32).setWidth 32) + 0#32 = 0#32 := by
  have e : 1000000#64 * BitVec.ofNat 64 r + 1#64 * BitVec.ofNat 64 c = BitVec.ofNat 64 (1000000 * r + c) := by
    rw [BitVec.ofNat_add, BitVec.ofNat_mul, BitVec.one_mul]
  rw [e]
  apply BitVec.eq_of_toNat_eq
  have h : (1000000 * r + c) % 2 ^ 64 = 1000000 * r + c := Nat.mod_eq_of_lt (by omega)
  have h' : (1000000 * r + c) / 2 ^ 32 = 0 := Nat.div_eq_of_lt (by omega)
  simp only [BitVec.toNat_add, BitVec.toNat_setWidth, BitVec.toNat_ushiftRight, BitVec.toNat_ofNat, Nat.shiftRight_eq_div_pow, h, h']

/-- and the low words are the linear indices. -/
theorem low_word (r c : ℕ) (hr : r < 64) (hc : c < 1000000) :
    ((1000000#64 * BitVec.ofNat 64 r + 1#64 * BitVec.ofNat 64 c).setWidth 32) + 42#32 = BitVec.ofNat 32 (r * 1000000 + c) + 42#32 := by
  have e : 1000000#64 * BitVec.ofNat 64 r + 1#64 * BitVec.ofNat 64 c = BitVec.ofNat 64 (1000000 * r + c) := by
    rw [BitVec.ofNat_add, BitVec.ofNat_mul, BitVec.one_mul]
  rw [e, Nat.mul_comm r]
  congr 1
  apply BitVec.eq_of_toNat_eq
  have h : (1000000 * r + c) % 2 ^ 64 = 1000000 * r + c := Nat.mod_eq_of_lt (by omega)
  simp only [BitVec.toNat_setWidth, BitVec.toNat_ofNat, h]

/-- Before the rounds: the keys, the high words (all zero) and the low words (the linear index), the first key added. -/
theorem grp0 : Keys (after g0 V) ∧ after g0 V (Proc.devRef .tc main_call0_call0_v3) = (fun _ => (0#32 : BitVec 32))
    ∧ after g0 V (Proc.devRef .tc main_call0_call0_v5) = (fun j => lin j + 42#32)
    ∧ after g0 V (Proc.devRef .tc main_call0_v2) = constant S1x1 .f32 0x00000000#32
    ∧ after g0 V (Proc.devRef .tc main_call0_v3) = constant S1x1 .f32 0x3F800000#32 := by
  simp only [Keys, g0, TRef.nullary, TRef.unary, TRef.binary, TRef.reshape, TRef.toBuf, TRef.ofBuf, cast_eq]
  refine ⟨⟨?_, ?_, ?_⟩, ?_, ?_, ?_, ?_⟩
  · after_results
    exact (key0 kHi kLo).trans kHi_eq
  · after_results
    exact (key1 kHi kLo).trans kLo_eq
  · after_results
    refine (congrArg₂ (fun x y => xori (xori x y) (constantI S_ 32 466688986#32)) ((key0 kHi kLo).trans kHi_eq) ((key1 kHi kLo).trans kLo_eq)).trans ?_
    funext i
    show (0#32 ^^^ 42#32) ^^^ 466688986#32 = 466689008#32
    decide
  · after_results
    funext j
    refine (congrArg (fun x => addi _ (broadcastInDim S64x1000000 ![] bcast_S_S64x1000000 x) j) ((key0 kHi kLo).trans kHi_eq)).trans ?_
    exact high_zero (j 0).val (j 1).val (j 0).isLt (j 1).isLt
  · after_results
    funext j
    refine (congrArg (fun x => addi _ (broadcastInDim S64x1000000 ![] bcast_S_S64x1000000 x) j) ((key1 kHi kLo).trans kLo_eq)).trans ?_
    exact low_word (j 0).val (j 1).val (j 0).isLt (j 1).isLt
  · after_results_simp
    rfl
  · after_results_simp
    rfl

/-- The uniform variates in [0, 1) of the words, as the reference computes them, -/
def unitR (w : IVec S64x1000000 32) : FVec F S64x1000000 .f32 :=
  maximumf (broadcastInDim S64x1000000 ![0, 1] bcast_S1x1_S64x1000000_0_1 (constant S1x1 .f32 0x00000000#32))
    (addf (mulf (subf (bitcastToFloat .f32 w) (broadcastInDim S64x1000000 ![] bcast_S_S64x1000000 (constant S_ .f32 0x3F800000#32)))
        (broadcastInDim S64x1000000 ![0, 1] bcast_S1x1_S64x1000000_0_1 (subf (constant S1x1 .f32 0x3F800000#32) (constant S1x1 .f32 0x00000000#32))))
      (broadcastInDim S64x1000000 ![0, 1] bcast_S1x1_S64x1000000_0_1 (constant S1x1 .f32 0x00000000#32)))

/-- and the logits perturbed by the Gumbel noise made of them. -/
def scoreR (x : FVec F S64x1000000 .f32) (w : IVec S64x1000000 32) : FVec F S64x1000000 .f32 :=
  addf x (Host.negf (Host.log (Host.negf (Host.log (maximumf (broadcastInDim S64x1000000 ![] bcast_S_S64x1000000 (constant S_ .f32 0x33D6BF95#32))
    (addf (mulf (unitR w) (broadcastInDim S64x1000000 ![] bcast_S_S64x1000000 (constant S_ .f32 0x3F7FFFFC#32)))
      (broadcastInDim S64x1000000 ![] bcast_S_S64x1000000 (constant S_ .f32 0x33D6BF95#32))))))))

/-- The reference's arg-max along the rows. -/
def argR (x : FVec F S64x1000000 .f32) : IVec S64 32 := fun j =>
  (Host.argReduce reducer_argmax_f32_i32 x (iotaInDim S64x1000000 32 1) (constant S_ .f32 0xFF800000#32) (constantI S_ 32 0#32)
    reducesTo_S64x1000000_S64_d1 h_S_ j).2

/-- The last part. -/
theorem grp6 (x : FVec F S64x1000000 .f32) (hx : V (Proc.devRef .tc main_arg0) = x) (ha : V (Proc.devRef .tc main_call0_v19_0) = a)
    (hb : V (Proc.devRef .tc main_call0_v19_1) = b)
    (h2 : V (Proc.devRef .tc main_call0_v2) = constant S1x1 .f32 0x00000000#32)
    (h3 : V (Proc.devRef .tc main_call0_v3) = constant S1x1 .f32 0x3F800000#32) :
    after g6 V (Proc.devRef .tc main_v19) = argR (scoreR x fun j => ((a j ^^^ b j) >>> 9#32) ||| 1065353216#32) := by
  simp only [g6, TRef.nullary, TRef.unary, TRef.binary, TRef.quaternary, TRef.toBuf, TRef.ofBuf, cast_eq]
  after_results_simp
  rw [ha, hb, hx, h2, h3]
  rfl

/-- The random words of the whole table. -/
def words : IVec S64x1000000 32 := fun j => mword (lin j)

/-- The whole line: the argument is kept and the result is the arg-max of the perturbed logits. -/
theorem after_ops (x : FVec F S64x1000000 .f32) (hx : V (Proc.devRef .tc main_arg0) = x) :
    after ops V (Proc.devRef .tc main_v19) = argR (scoreR x words) ∧ after ops V (Proc.devRef .tc main_arg0) = x := by
  have keys (V' : Valuation τ sig (Elt F)) (g : List (HloOp τ sig (Elt F)))
      (e : ∀ r ∈ [main_call0_v5, main_call0_v7, main_call0_call0_v1], after g V' (Proc.devRef .tc r) = V' (Proc.devRef .tc r)) (h : Keys V') :
      Keys (after g V') :=
    ⟨(e _ (by decide)).trans h.1, (e _ (by decide)).trans h.2.1, (e _ (by decide)).trans h.2.2⟩
  obtain ⟨k0, a0, b0, p0, q0⟩ := grp0 V
  obtain ⟨a1, b1⟩ := grp1 _ _ _ k0 a0 b0
  have k1 := keys _ g1 (fun r h => keep1 _ r (by revert r; decide)) k0
  obtain ⟨a2, b2⟩ := grp2 _ _ _ k1 a1 b1
  have k2 := keys _ g2 (fun r h => keep2 _ r (by revert r; decide)) k1
  obtain ⟨a3, b3⟩ := grp3 _ _ _ k2 a2 b2
  have k3 := keys _ g3 (fun r h => keep3 _ r (by revert r; decide)) k2
  obtain ⟨a4, b4⟩ := grp4 _ _ _ k3 a3 b3
  have k4 := keys _ g4 (fun r h => keep4 _ r (by revert r; decide)) k3
  obtain ⟨a5, b5⟩ := grp5 _ _ _ k4 a4 b4
  have pass (r : Ref sig .tc) (h : r ∈ [main_call0_v2, main_call0_v3, main_arg0]) :
      after g5 (after g4 (after g3 (after g2 (after g1 (after g0 V))))) (Proc.devRef .tc r) = after g0 V (Proc.devRef .tc r) := by
    rw [keep5 _ r (by revert r; decide), keep4 _ r (by revert r; decide), keep3 _ r (by revert r; decide),
      keep2 _ r (by revert r; decide), keep1 _ r (by revert r; decide)]
  have hx0 : after g0 V (Proc.devRef .tc main_arg0) = x := (keep0 V main_arg0 (by decide)).trans hx
  have e6 := grp6 _ _ _ x ((pass main_arg0 (by decide)).trans hx0) a5 b5 ((pass main_call0_v2 (by decide)).trans p0)
    ((pass main_call0_v3 (by decide)).trans q0)
  simp only [ops, StableHlo.after_append]
  exact ⟨e6, (keep6 _ main_arg0 (by decide)).trans ((pass main_arg0 (by decide)).trans hx0)⟩

/-- Every weakly fair execution of the reference terminates, the result the arg-max of the perturbed logits, the argument kept,
    every counter at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = argR (scoreR (m ((c.tc : Thread nD τ).loc main_arg0)) words)
      ∧ r.2.mem ((c.tc : Thread nD τ).loc main_arg0) = m ((c.tc : Thread nD τ).loc main_arg0)
      ∧ r.2.sem = fun _ => 0 :=
  (θ_run defs _ _).mono (fun _ h c => by
      obtain ⟨e1, e2⟩ := after_ops (launchContents m c) (m ((c.tc : Thread nD τ).loc main_arg0)) rfl
      exact ⟨(h c main_v19).trans e1, (h c main_arg0).trans e2, sem_eq_zero_of_no_sems (by decide) _⟩)
    (run_seq scopedRefs_eq scopedSems_eq defs main (fun _ => ops) main_eq (fun _ => ops_sub) m ρ fun _ => ops_fresh)

end Cert.ReferenceIdeal.Line

end
-- ==== Proof.RefValue.lean ====
/-
  The reference's result over the extended reals: in every row the first position of the maximum of the perturbed logits.
-/
module

public import proofs.«01_k».proof.Proof.RefRun
public import proofs.«01_k».proof.Proof.Gumbel
public import proofs.«01_k».proof.Proof.FirstMax

@[expose] public section

set_option maxRecDepth 16384

noncomputable section

namespace Cert.ReferenceIdeal.Line

open Cert.ReferenceIdeal Cert.ReferenceIdeal.Gen Cert.Words Cert.Gumbel Cert.FirstMax
open Idealize.ShloMosaic Idealize.ShloMosaic.TcCoe Idealize.SL.Sem

/-- The reference's score at an element, whatever the words, -/
theorem scoreR_word (x : FVec Ideal S64x1000000 .f32) (w : IVec S64x1000000 32) (j : S64x1000000.Idx) (h : 0 ≤ unit (w j)) :
    scoreR (F := Ideal) x w j = x j + gum (w j) := by
  have hu : unitR (F := Ideal) w j = unit (w j) := by
    have e : unitR (F := Ideal) w j = max (Ideal.ofBits .f32 0x00000000#32)
        ((Ideal.ofBits .f32 (w j) - Ideal.ofBits .f32 0x3F800000#32)
          * (Ideal.ofBits .f32 0x3F800000#32 - Ideal.ofBits .f32 0x00000000#32) + Ideal.ofBits .f32 0x00000000#32) := rfl
    rw [e, ofBits_one, Ideal.ofBits_zero_f32, sub_zero, mul_one, add_zero]
    exact max_eq_right h
  have e : scoreR (F := Ideal) x w j = x j + -Ideal.log (-Ideal.log (max (Ideal.ofBits .f32 0x33D6BF95#32)
      (unitR (F := Ideal) w j * Ideal.ofBits .f32 0x3F7FFFFC#32 + Ideal.ofBits .f32 0x33D6BF95#32))) := rfl
  rw [e, hu, gum, unif]

/-- and at its own words. -/
theorem scoreR_apply (x : FVec Ideal S64x1000000 .f32) (j : S64x1000000.Idx) :
    scoreR (F := Ideal) x words j = sc x (j 0) (j 1).val := by
  have hj : (ix2 (j 0) ⟨(j 1).val, (j 1).isLt⟩ : S64x1000000.Idx) = j := by
    funext a; match a with | ⟨0, _⟩ => rfl | ⟨1, _⟩ => rfl
  rw [scoreR_word x words j (unit_nonneg (lin j)), sc_of_lt x (j 0) (j 1).val (j 1).isLt, hj, words, lin]

/-- The reference's choice between two pairs. -/
theorem reducer_eq : (reducer_argmax_f32_i32 : Ideal .f32 × BitVec 32 → Ideal .f32 × BitVec 32 → Ideal .f32 × BitVec 32) = better := by
  funext a b
  have e : (reducer_argmax_f32_i32 a b : Ideal .f32 × BitVec 32)
      = (Scalar.select (BitVec.ofBool (decide (b.1 < a.1)) ||| BitVec.ofBool (decide (a.1 ≠ a.1))) a.1 b.1,
        Scalar.select ((BitVec.ofBool (decide (b.1 < a.1)) ||| BitVec.ofBool (decide (a.1 ≠ a.1)))
          ||| (BitVec.ofBool (decide (a.1 = b.1)) &&& BitVec.ofBool (decide (a.2.toInt < b.2.toInt)))) a.2 b.2) := rfl
  rw [e, decide_eq_false (p := a.1 ≠ a.1) (by simp)]
  unfold better
  by_cases h1 : b.1 < a.1 <;> by_cases h2 : a.1 = b.1 <;> by_cases h3 : a.2.toInt < b.2.toInt <;> simp [h1, h2, h3, Scalar.select]

/-- What a row's fold runs over: the pairs of the elements that drop to the row. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- An arg-max over the extended reals is the fold of the choice over its row's pairs. -/
theorem argReduce_fold {s t u : Shape} {axes : List (Fin s.rank)} (x : FVec Ideal s .f32) (y : IVec s 32) (a : FVec Ideal u .f32) (b : IVec u 32)
    (h : s.ReducesTo axes t) (hu : 0 < u.numel) (ha : a (Shape.Idx.first hu) = (⊥ : EReal)) (hb : b (Shape.Idx.first hu) = 0#32) (j : t.Idx) :
    Host.argReduce reducer_argmax_f32_i32 x y a b h hu j = (Host.argReduceFiber x y h j).foldl better (⊥, 0#32) := by
  rw [Ideal.argReduce_eq_reduce2, Host.reduce2_eq_foldl_fiber, reducer_eq, ha, hb]

/-- The value of the bits of minus infinity. -/
theorem ofBits_negInf : Ideal.ofBits .f32 0xFF800000#32 = ⊥ := by
  show Ideal.ieee 8 23 0xFF800000#32 = ⊥
  unfold Ideal.ieee
  rw [if_pos (by decide), if_pos (by decide), if_pos (by decide)]

/-- The pairs of a row: its values and columns. -/
theorem mem_row (y : FVec Ideal S64x1000000 .f32) (s : Fin 64 → ℕ → EReal) (hy : ∀ i, y i = s (i 0) (i 1).val) (j : S64.Idx)
    (p : EReal × BitVec 32) : p ∈ Host.argReduceFiber y (iotaInDim S64x1000000 32 1) reducesTo_S64x1000000_S64_d1 j
      ↔ ∃ c < 1000000, p = (s (j 0) c, BitVec.ofNat 32 c) := by
  rw [mem_fiber]
  constructor
  · rintro ⟨i, hi, rfl⟩
    have h0 : i 0 = j 0 := Fin.ext (by
      have := reducesTo_S64x1000000_S64_d1.drop_apply_val_of_eq i 0 0
      rw [hi] at this; exact this.symm)
    refine ⟨(i 1).val, (i 1).isLt, ?_⟩
    rw [hy, h0]; rfl
  · rintro ⟨c, hc, rfl⟩
    refine ⟨ix2 (j 0) ⟨c, hc⟩, ?_, ?_⟩
    · funext a
      match a with
      | ⟨0, _⟩ => exact Fin.ext (reducesTo_S64x1000000_S64_d1.drop_apply_val_of_eq _ 0 0)
    · rw [hy]; rfl

/-- An arg-max whose row's pairs are a sequence with its positions is the first position of the sequence's maximum. -/
theorem argReduce_first {s t u : Shape} {axes : List (Fin s.rank)} (f : IVec t 32) (x : FVec Ideal s .f32) (y : IVec s 32) (a : FVec Ideal u .f32)
    (b : IVec u 32) (h : s.ReducesTo axes t) (hu : 0 < u.numel)
    (hf : f = fun j => (Host.argReduce reducer_argmax_f32_i32 x y a b h hu j).2)
    (ha : a (Shape.Idx.first hu) = (⊥ : EReal)) (hb : b (Shape.Idx.first hu) = 0#32) (j : t.Idx) {n : ℕ} (hn : 0 < n) (hn31 : n ≤ 2 ^ 31)
    (row : ℕ → EReal) (hL : ∀ p : EReal × BitVec 32, p ∈ Host.argReduceFiber x y h j ↔ ∃ c < n, p = (row c, BitVec.ofNat 32 c)) :
    ∃ k, IsFirst n row k ∧ f j = BitVec.ofNat 32 k := by
  obtain ⟨k, hk, e⟩ := first_of_foldl hn hn31 row _ hL
  refine ⟨k, hk, ?_⟩
  subst hf
  show (Host.argReduce reducer_argmax_f32_i32 x y a b h hu j).2 = _
  rw [argReduce_fold x y a b h hu ha hb j]
  exact e

/-- The reference's arg-max, spelled out. -/
theorem argR_eq (y : FVec Ideal S64x1000000 .f32) : argR (F := Ideal) y = fun j =>
    (Host.argReduce reducer_argmax_f32_i32 y (iotaInDim S64x1000000 32 1) (constant S_ .f32 0xFF800000#32) (constantI S_ 32 0#32)
      reducesTo_S64x1000000_S64_d1 h_S_ j).2 := by
  delta argR
  exact Eq.refl _

/-- The bound on the columns, -/
theorem cols_le : 1000000 ≤ 2 ^ 31 := by norm_num

/-- and the arg-max's starting pair. -/
theorem start_val : (constant S_ .f32 0xFF800000#32 : FVec Ideal S_ .f32) (Shape.Idx.first h_S_) = (⊥ : EReal) := ofBits_negInf

theorem start_pos : (constantI S_ 32 0#32) (Shape.Idx.first h_S_) = 0#32 := rfl

/-- The reference's arg-max of an array, a row at a time. -/
theorem argR_row (y : FVec Ideal S64x1000000 .f32) (s : Fin 64 → ℕ → EReal) (hy : ∀ i, y i = s (i 0) (i 1).val) (j : S64.Idx) :
    ∃ k, IsFirst 1000000 (s (j 0)) k ∧ argR (F := Ideal) y j = BitVec.ofNat 32 k :=
  argReduce_first (argR y) y (iotaInDim S64x1000000 32 1) (constant S_ .f32 0xFF800000#32) (constantI S_ 32 0#32) reducesTo_S64x1000000_S64_d1 h_S_
    (argR_eq y) start_val start_pos j (Nat.succ_pos _) cols_le (s (j 0)) (mem_row y s hy j)

/-- The reference's result. -/
theorem argR_first (x : FVec Ideal S64x1000000 .f32) (j : S64.Idx) :
    ∃ k, IsFirst 1000000 (sc x (j 0)) k ∧ argR (F := Ideal) (scoreR x words) j = BitVec.ofNat 32 k :=
  argR_row (scoreR x words) (sc x) (scoreR_apply x) j

end Cert.ReferenceIdeal.Line

end
-- ==== Proof.lean ====
/-
  The proof of the claims: the frames of the kernel, its idealization and the reference from their runs, and the equality
  of the two results from both being the first position of the maximum of the same perturbed logits.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RunKernel
public import proofs.«01_k».proof.Proof.RunIdeal
public import proofs.«01_k».proof.Proof.HostValue
public import proofs.«01_k».proof.Proof.RefValue

@[expose] public section

noncomputable section

namespace Cert.Proof

open Idealize.ShloMosaic Idealize.ShloMosaic.TcCoe Idealize.SL.Sem

/-- The kernel runs, keeps its argument and ends with every counter at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Whole.run_main m g)

/-- The same of its idealization, -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Whole.run_main m g)

/-- and of the reference. -/
theorem frame_reference : Cert.quiescent_ReferenceIdeal (hReferenceIdeal := Cert.ReferenceIdeal.Gen.facts) := fun m g _ =>
  (θ_run Cert.ReferenceIdeal.defs _ _).mono (fun _ h => ⟨fun c => (h c).2.1, (h 0).2.2⟩) (Cert.ReferenceIdeal.Line.run m g)

/-- From equal logits both programs end with equal results: each row's first position of the maximum is unique. -/
theorem equal_results : Cert.algebraic_KernelIdeal_ReferenceIdeal (hKernelIdeal := Cert.KernelIdeal.Gen.facts)
    (hReferenceIdeal := Cert.ReferenceIdeal.Gen.facts) := fun m g m' g' _ hm =>
  ⟨_, (θ_run Cert.KernelIdeal.defs _ _).mono (fun _ h c => h.1 c) (Cert.KernelIdeal.Whole.run_main m g),
    (θ_run Cert.ReferenceIdeal.defs _ _).mono (fun _ h c => ⟨(h c).1.trans (funext fun j => by
      obtain ⟨k, hk, e⟩ := Cert.ReferenceIdeal.Line.argR_first
        (m' ((c.tc : Thread Cert.ReferenceIdeal.nD Cert.ReferenceIdeal.τ).loc Cert.ReferenceIdeal.main_arg0)) j
      obtain ⟨k', hk', e'⟩ := Cert.KernelIdeal.Whole.result_first m c j
      rw [hm c] at hk
      exact e.trans ((congrArg (BitVec.ofNat 32) (hk.unique hk')).trans e'.symm)), (h c).2.1⟩) (Cert.ReferenceIdeal.Line.run m' g')⟩

theorem claim : Cert.Claim := ⟨Cert.Kernel.Gen.facts, Cert.KernelIdeal.Gen.facts, Cert.ReferenceIdeal.Gen.facts,
  frame_kernel, frame_ideal, frame_reference, trivial, equal_results⟩

end Cert.Proof

end
